-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S512x768 : Shape := ⟨2, ![512, 768]⟩
abbrev S16x32x768 : Shape := ⟨3, ![16, 32, 768]⟩
abbrev S512x512 : Shape := ⟨2, ![512, 512]⟩
abbrev S32x768 : Shape := ⟨2, ![32, 768]⟩
abbrev S2x16 : Shape := ⟨2, ![2, 16]⟩
abbrev S_ : Shape := ⟨0, ![]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1x1 : Shape := ⟨2, ![1, 1]⟩
abbrev S1x16x768 : Shape := ⟨3, ![1, 16, 768]⟩
abbrev S16x768 : Shape := ⟨2, ![16, 768]⟩
abbrev S1x32x768 : Shape := ⟨3, ![1, 32, 768]⟩

abbrev nBuf : Space → Nat
  | .hbm => 6
  | .vmem => 11
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S768x512, .f32⟩
  | .hbm, ⟨3, _⟩ => ⟨S768x512, .f32⟩
  | .hbm, ⟨4, _⟩ => ⟨S512x768, .f32⟩
  | .hbm, ⟨5, _⟩ => ⟨S16x32x768, .f32⟩
  | .local _ .vmem, ⟨0, _⟩ => ⟨S2x256x768, .f32⟩
  | .local _ .vmem, ⟨1, _⟩ => ⟨S768x512, .f32⟩
  | .local _ .vmem, ⟨2, _⟩ => ⟨S512x768, .f32⟩
  | .local _ .vmem, ⟨3, _⟩ => ⟨S768x512, .f32⟩
  | .local _ .vmem, ⟨4, _⟩ => ⟨S768x512, .f32⟩
  | .local _ .vmem, ⟨5, _⟩ => ⟨S16x32x768, .f32⟩
  | .local _ .vmem, ⟨6, _⟩ => ⟨S512x512, .f32⟩
  | .local _ .vmem, ⟨7, _⟩ => ⟨S16x32x768, .f32⟩
  | .local _ .vmem, ⟨8, _⟩ => ⟨S32x768, .f32⟩
  | .local _ .vmem, ⟨9, _⟩ => ⟨S16x32x768, .f32⟩
  | .local _ .vmem, ⟨10, _⟩ => ⟨S16x32x768, .f32⟩
  | _, _ => ⟨S2x256x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_259 : BitVec 32) : Fin 2 → Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v523 : BitVec 32 := Scalar.addi v2 c1_i32_259
  let c16_i32_260 : BitVec 32 := 16#32
  let c0_i32_261 : BitVec 32 := 0#32
  let v524 : BitVec 1 := Scalar.cmpi .eq c16_i32_260 c0_i32_261
  let c1_i32_262 : BitVec 32 := 1#32
  let v525 : BitVec 32 := Scalar.select v524 c1_i32_262 c16_i32_260
  let v526 : BitVec 32 := Scalar.remsi v523 v525
  let c0_i32_264 : BitVec 32 := 0#32
  let v528 : BitVec 1 := Scalar.cmpi .slt v526 c0_i32_264
  let c0_i32_265 : BitVec 32 := 0#32
  let v529 : BitVec 1 := Scalar.cmpi .slt v525 c0_i32_265
  let v530 : BitVec 1 := Scalar.xori v528 v529
  let c0_i32_263 : BitVec 32 := 0#32
  let v527 : BitVec 1 := Scalar.cmpi .ne v526 c0_i32_263
  let v531 : BitVec 1 := Scalar.andi v530 v527
  let v532 : BitVec 32 := Scalar.addi v526 v525
  let v533 : BitVec 32 := Scalar.select v531 v532 v526
  ![0, v533.toNat]
def k0_off2 (d0 : Dev nD) : Fin 2 → Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_270 : BitVec 32 := 0#32
  let c0_i32_271 : BitVec 32 := 0#32
  ![v2.toNat, 0, 0]
def k0_off4 (d0 : Dev nD) (c1_i32_259 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v523 : BitVec 32 := Scalar.addi v2 c1_i32_259
  let c16_i32_260 : BitVec 32 := 16#32
  let c0_i32_261 : BitVec 32 := 0#32
  let v524 : BitVec 1 := Scalar.cmpi .eq c16_i32_260 c0_i32_261
  let c1_i32_262 : BitVec 32 := 1#32
  let v525 : BitVec 32 := Scalar.select v524 c1_i32_262 c16_i32_260
  let v526 : BitVec 32 := Scalar.remsi v523 v525
  let c0_i32_264 : BitVec 32 := 0#32
  let v528 : BitVec 1 := Scalar.cmpi .slt v526 c0_i32_264
  let c0_i32_265 : BitVec 32 := 0#32
  let v529 : BitVec 1 := Scalar.cmpi .slt v525 c0_i32_265
  let v530 : BitVec 1 := Scalar.xori v528 v529
  let c0_i32_263 : BitVec 32 := 0#32
  let v527 : BitVec 1 := Scalar.cmpi .ne v526 c0_i32_263
  let v531 : BitVec 1 := Scalar.andi v530 v527
  let v532 : BitVec 32 := Scalar.addi v526 v525
  let v533 : BitVec 32 := Scalar.select v531 v532 v526
  let c0_i32_272 : BitVec 32 := 0#32
  let c0_i32_273 : BitVec 32 := 0#32
  ![v533.toNat, 0, 0]
def k0_dev16 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_259 : BitVec 32 := 1#32
  let v523 : BitVec 32 := Scalar.addi v2 c1_i32_259
  let c16_i32_260 : BitVec 32 := 16#32
  let c0_i32_261 : BitVec 32 := 0#32
  let v524 : BitVec 1 := Scalar.cmpi .eq c16_i32_260 c0_i32_261
  let c1_i32_262 : BitVec 32 := 1#32
  let v525 : BitVec 32 := Scalar.select v524 c1_i32_262 c16_i32_260
  let v526 : BitVec 32 := Scalar.remsi v523 v525
  let c0_i32_264 : BitVec 32 := 0#32
  let v528 : BitVec 1 := Scalar.cmpi .slt v526 c0_i32_264
  let c0_i32_265 : BitVec 32 := 0#32
  let v529 : BitVec 1 := Scalar.cmpi .slt v525 c0_i32_265
  let v530 : BitVec 1 := Scalar.xori v528 v529
  let c0_i32_263 : BitVec 32 := 0#32
  let v527 : BitVec 1 := Scalar.cmpi .ne v526 c0_i32_263
  let v531 : BitVec 1 := Scalar.andi v530 v527
  let v532 : BitVec 32 := Scalar.addi v526 v525
  let v533 : BitVec 32 := Scalar.select v531 v532 v526
  let c1_i32_268 : BitVec 32 := 1#32
  let v534 : BitVec 32 := Scalar.muli v533 c1_i32_268
  let v535 : BitVec 32 := Scalar.addi c0_i32_269 v534
  v535.toNat
def k0_dev17 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_274 : BitVec 32 := 2#32
  let v544 : BitVec 32 := Scalar.addi v2 c2_i32_274
  let c16_i32_275 : BitVec 32 := 16#32
  let c0_i32_276 : BitVec 32 := 0#32
  let v545 : BitVec 1 := Scalar.cmpi .eq c16_i32_275 c0_i32_276
  let c1_i32_277 : BitVec 32 := 1#32
  let v546 : BitVec 32 := Scalar.select v545 c1_i32_277 c16_i32_275
  let v547 : BitVec 32 := Scalar.remsi v544 v546
  let c0_i32_279 : BitVec 32 := 0#32
  let v549 : BitVec 1 := Scalar.cmpi .slt v547 c0_i32_279
  let c0_i32_280 : BitVec 32 := 0#32
  let v550 : BitVec 1 := Scalar.cmpi .slt v546 c0_i32_280
  let v551 : BitVec 1 := Scalar.xori v549 v550
  let c0_i32_278 : BitVec 32 := 0#32
  let v548 : BitVec 1 := Scalar.cmpi .ne v547 c0_i32_278
  let v552 : BitVec 1 := Scalar.andi v551 v548
  let v553 : BitVec 32 := Scalar.addi v547 v546
  let v554 : BitVec 32 := Scalar.select v552 v553 v547
  let c1_i32_283 : BitVec 32 := 1#32
  let v555 : BitVec 32 := Scalar.muli v554 c1_i32_283
  let v556 : BitVec 32 := Scalar.addi c0_i32_284 v555
  v556.toNat
def k0_dev18 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_289 : BitVec 32 := 3#32
  let v565 : BitVec 32 := Scalar.addi v2 c3_i32_289
  let c16_i32_290 : BitVec 32 := 16#32
  let c0_i32_291 : BitVec 32 := 0#32
  let v566 : BitVec 1 := Scalar.cmpi .eq c16_i32_290 c0_i32_291
  let c1_i32_292 : BitVec 32 := 1#32
  let v567 : BitVec 32 := Scalar.select v566 c1_i32_292 c16_i32_290
  let v568 : BitVec 32 := Scalar.remsi v565 v567
  let c0_i32_294 : BitVec 32 := 0#32
  let v570 : BitVec 1 := Scalar.cmpi .slt v568 c0_i32_294
  let c0_i32_295 : BitVec 32 := 0#32
  let v571 : BitVec 1 := Scalar.cmpi .slt v567 c0_i32_295
  let v572 : BitVec 1 := Scalar.xori v570 v571
  let c0_i32_293 : BitVec 32 := 0#32
  let v569 : BitVec 1 := Scalar.cmpi .ne v568 c0_i32_293
  let v573 : BitVec 1 := Scalar.andi v572 v569
  let v574 : BitVec 32 := Scalar.addi v568 v567
  let v575 : BitVec 32 := Scalar.select v573 v574 v568
  let c1_i32_298 : BitVec 32 := 1#32
  let v576 : BitVec 32 := Scalar.muli v575 c1_i32_298
  let v577 : BitVec 32 := Scalar.addi c0_i32_299 v576
  v577.toNat
def k0_dev19 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_304 : BitVec 32 := 4#32
  let v586 : BitVec 32 := Scalar.addi v2 c4_i32_304
  let c16_i32_305 : BitVec 32 := 16#32
  let c0_i32_306 : BitVec 32 := 0#32
  let v587 : BitVec 1 := Scalar.cmpi .eq c16_i32_305 c0_i32_306
  let c1_i32_307 : BitVec 32 := 1#32
  let v588 : BitVec 32 := Scalar.select v587 c1_i32_307 c16_i32_305
  let v589 : BitVec 32 := Scalar.remsi v586 v588
  let c0_i32_309 : BitVec 32 := 0#32
  let v591 : BitVec 1 := Scalar.cmpi .slt v589 c0_i32_309
  let c0_i32_310 : BitVec 32 := 0#32
  let v592 : BitVec 1 := Scalar.cmpi .slt v588 c0_i32_310
  let v593 : BitVec 1 := Scalar.xori v591 v592
  let c0_i32_308 : BitVec 32 := 0#32
  let v590 : BitVec 1 := Scalar.cmpi .ne v589 c0_i32_308
  let v594 : BitVec 1 := Scalar.andi v593 v590
  let v595 : BitVec 32 := Scalar.addi v589 v588
  let v596 : BitVec 32 := Scalar.select v594 v595 v589
  let c1_i32_313 : BitVec 32 := 1#32
  let v597 : BitVec 32 := Scalar.muli v596 c1_i32_313
  let v598 : BitVec 32 := Scalar.addi c0_i32_314 v597
  v598.toNat
def k0_dev20 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_319 : BitVec 32 := 5#32
  let v607 : BitVec 32 := Scalar.addi v2 c5_i32_319
  let c16_i32_320 : BitVec 32 := 16#32
  let c0_i32_321 : BitVec 32 := 0#32
  let v608 : BitVec 1 := Scalar.cmpi .eq c16_i32_320 c0_i32_321
  let c1_i32_322 : BitVec 32 := 1#32
  let v609 : BitVec 32 := Scalar.select v608 c1_i32_322 c16_i32_320
  let v610 : BitVec 32 := Scalar.remsi v607 v609
  let c0_i32_324 : BitVec 32 := 0#32
  let v612 : BitVec 1 := Scalar.cmpi .slt v610 c0_i32_324
  let c0_i32_325 : BitVec 32 := 0#32
  let v613 : BitVec 1 := Scalar.cmpi .slt v609 c0_i32_325
  let v614 : BitVec 1 := Scalar.xori v612 v613
  let c0_i32_323 : BitVec 32 := 0#32
  let v611 : BitVec 1 := Scalar.cmpi .ne v610 c0_i32_323
  let v615 : BitVec 1 := Scalar.andi v614 v611
  let v616 : BitVec 32 := Scalar.addi v610 v609
  let v617 : BitVec 32 := Scalar.select v615 v616 v610
  let c1_i32_328 : BitVec 32 := 1#32
  let v618 : BitVec 32 := Scalar.muli v617 c1_i32_328
  let v619 : BitVec 32 := Scalar.addi c0_i32_329 v618
  v619.toNat
def k0_dev21 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_334 : BitVec 32 := 6#32
  let v628 : BitVec 32 := Scalar.addi v2 c6_i32_334
  let c16_i32_335 : BitVec 32 := 16#32
  let c0_i32_336 : BitVec 32 := 0#32
  let v629 : BitVec 1 := Scalar.cmpi .eq c16_i32_335 c0_i32_336
  let c1_i32_337 : BitVec 32 := 1#32
  let v630 : BitVec 32 := Scalar.select v629 c1_i32_337 c16_i32_335
  let v631 : BitVec 32 := Scalar.remsi v628 v630
  let c0_i32_339 : BitVec 32 := 0#32
  let v633 : BitVec 1 := Scalar.cmpi .slt v631 c0_i32_339
  let c0_i32_340 : BitVec 32 := 0#32
  let v634 : BitVec 1 := Scalar.cmpi .slt v630 c0_i32_340
  let v635 : BitVec 1 := Scalar.xori v633 v634
  let c0_i32_338 : BitVec 32 := 0#32
  let v632 : BitVec 1 := Scalar.cmpi .ne v631 c0_i32_338
  let v636 : BitVec 1 := Scalar.andi v635 v632
  let v637 : BitVec 32 := Scalar.addi v631 v630
  let v638 : BitVec 32 := Scalar.select v636 v637 v631
  let c1_i32_343 : BitVec 32 := 1#32
  let v639 : BitVec 32 := Scalar.muli v638 c1_i32_343
  let v640 : BitVec 32 := Scalar.addi c0_i32_344 v639
  v640.toNat
def k0_dev22 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_349 : BitVec 32 := 7#32
  let v649 : BitVec 32 := Scalar.addi v2 c7_i32_349
  let c16_i32_350 : BitVec 32 := 16#32
  let c0_i32_351 : BitVec 32 := 0#32
  let v650 : BitVec 1 := Scalar.cmpi .eq c16_i32_350 c0_i32_351
  let c1_i32_352 : BitVec 32 := 1#32
  let v651 : BitVec 32 := Scalar.select v650 c1_i32_352 c16_i32_350
  let v652 : BitVec 32 := Scalar.remsi v649 v651
  let c0_i32_354 : BitVec 32 := 0#32
  let v654 : BitVec 1 := Scalar.cmpi .slt v652 c0_i32_354
  let c0_i32_355 : BitVec 32 := 0#32
  let v655 : BitVec 1 := Scalar.cmpi .slt v651 c0_i32_355
  let v656 : BitVec 1 := Scalar.xori v654 v655
  let c0_i32_353 : BitVec 32 := 0#32
  let v653 : BitVec 1 := Scalar.cmpi .ne v652 c0_i32_353
  let v657 : BitVec 1 := Scalar.andi v656 v653
  let v658 : BitVec 32 := Scalar.addi v652 v651
  let v659 : BitVec 32 := Scalar.select v657 v658 v652
  let c1_i32_358 : BitVec 32 := 1#32
  let v660 : BitVec 32 := Scalar.muli v659 c1_i32_358
  let v661 : BitVec 32 := Scalar.addi c0_i32_359 v660
  v661.toNat
def k0_dev23 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_364 : BitVec 32 := 8#32
  let v670 : BitVec 32 := Scalar.addi v2 c8_i32_364
  let c16_i32_365 : BitVec 32 := 16#32
  let c0_i32_366 : BitVec 32 := 0#32
  let v671 : BitVec 1 := Scalar.cmpi .eq c16_i32_365 c0_i32_366
  let c1_i32_367 : BitVec 32 := 1#32
  let v672 : BitVec 32 := Scalar.select v671 c1_i32_367 c16_i32_365
  let v673 : BitVec 32 := Scalar.remsi v670 v672
  let c0_i32_369 : BitVec 32 := 0#32
  let v675 : BitVec 1 := Scalar.cmpi .slt v673 c0_i32_369
  let c0_i32_370 : BitVec 32 := 0#32
  let v676 : BitVec 1 := Scalar.cmpi .slt v672 c0_i32_370
  let v677 : BitVec 1 := Scalar.xori v675 v676
  let c0_i32_368 : BitVec 32 := 0#32
  let v674 : BitVec 1 := Scalar.cmpi .ne v673 c0_i32_368
  let v678 : BitVec 1 := Scalar.andi v677 v674
  let v679 : BitVec 32 := Scalar.addi v673 v672
  let v680 : BitVec 32 := Scalar.select v678 v679 v673
  let c1_i32_373 : BitVec 32 := 1#32
  let v681 : BitVec 32 := Scalar.muli v680 c1_i32_373
  let v682 : BitVec 32 := Scalar.addi c0_i32_374 v681
  v682.toNat
def k0_dev24 (d0 : Dev nD) : Nat :=
  let c0_i32_389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_379 : BitVec 32 := 9#32
  let v691 : BitVec 32 := Scalar.addi v2 c9_i32_379
  let c16_i32_380 : BitVec 32 := 16#32
  let c0_i32_381 : BitVec 32 := 0#32
  let v692 : BitVec 1 := Scalar.cmpi .eq c16_i32_380 c0_i32_381
  let c1_i32_382 : BitVec 32 := 1#32
  let v693 : BitVec 32 := Scalar.select v692 c1_i32_382 c16_i32_380
  let v694 : BitVec 32 := Scalar.remsi v691 v693
  let c0_i32_384 : BitVec 32 := 0#32
  let v696 : BitVec 1 := Scalar.cmpi .slt v694 c0_i32_384
  let c0_i32_385 : BitVec 32 := 0#32
  let v697 : BitVec 1 := Scalar.cmpi .slt v693 c0_i32_385
  let v698 : BitVec 1 := Scalar.xori v696 v697
  let c0_i32_383 : BitVec 32 := 0#32
  let v695 : BitVec 1 := Scalar.cmpi .ne v694 c0_i32_383
  let v699 : BitVec 1 := Scalar.andi v698 v695
  let v700 : BitVec 32 := Scalar.addi v694 v693
  let v701 : BitVec 32 := Scalar.select v699 v700 v694
  let c1_i32_388 : BitVec 32 := 1#32
  let v702 : BitVec 32 := Scalar.muli v701 c1_i32_388
  let v703 : BitVec 32 := Scalar.addi c0_i32_389 v702
  v703.toNat
def k0_dev25 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_394 : BitVec 32 := 10#32
  let v712 : BitVec 32 := Scalar.addi v2 c10_i32_394
  let c16_i32_395 : BitVec 32 := 16#32
  let c0_i32_396 : BitVec 32 := 0#32
  let v713 : BitVec 1 := Scalar.cmpi .eq c16_i32_395 c0_i32_396
  let c1_i32_397 : BitVec 32 := 1#32
  let v714 : BitVec 32 := Scalar.select v713 c1_i32_397 c16_i32_395
  let v715 : BitVec 32 := Scalar.remsi v712 v714
  let c0_i32_399 : BitVec 32 := 0#32
  let v717 : BitVec 1 := Scalar.cmpi .slt v715 c0_i32_399
  let c0_i32_400 : BitVec 32 := 0#32
  let v718 : BitVec 1 := Scalar.cmpi .slt v714 c0_i32_400
  let v719 : BitVec 1 := Scalar.xori v717 v718
  let c0_i32_398 : BitVec 32 := 0#32
  let v716 : BitVec 1 := Scalar.cmpi .ne v715 c0_i32_398
  let v720 : BitVec 1 := Scalar.andi v719 v716
  let v721 : BitVec 32 := Scalar.addi v715 v714
  let v722 : BitVec 32 := Scalar.select v720 v721 v715
  let c1_i32_403 : BitVec 32 := 1#32
  let v723 : BitVec 32 := Scalar.muli v722 c1_i32_403
  let v724 : BitVec 32 := Scalar.addi c0_i32_404 v723
  v724.toNat
def k0_dev26 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_409 : BitVec 32 := 11#32
  let v733 : BitVec 32 := Scalar.addi v2 c11_i32_409
  let c16_i32_410 : BitVec 32 := 16#32
  let c0_i32_411 : BitVec 32 := 0#32
  let v734 : BitVec 1 := Scalar.cmpi .eq c16_i32_410 c0_i32_411
  let c1_i32_412 : BitVec 32 := 1#32
  let v735 : BitVec 32 := Scalar.select v734 c1_i32_412 c16_i32_410
  let v736 : BitVec 32 := Scalar.remsi v733 v735
  let c0_i32_414 : BitVec 32 := 0#32
  let v738 : BitVec 1 := Scalar.cmpi .slt v736 c0_i32_414
  let c0_i32_415 : BitVec 32 := 0#32
  let v739 : BitVec 1 := Scalar.cmpi .slt v735 c0_i32_415
  let v740 : BitVec 1 := Scalar.xori v738 v739
  let c0_i32_413 : BitVec 32 := 0#32
  let v737 : BitVec 1 := Scalar.cmpi .ne v736 c0_i32_413
  let v741 : BitVec 1 := Scalar.andi v740 v737
  let v742 : BitVec 32 := Scalar.addi v736 v735
  let v743 : BitVec 32 := Scalar.select v741 v742 v736
  let c1_i32_418 : BitVec 32 := 1#32
  let v744 : BitVec 32 := Scalar.muli v743 c1_i32_418
  let v745 : BitVec 32 := Scalar.addi c0_i32_419 v744
  v745.toNat
def k0_dev27 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_424 : BitVec 32 := 12#32
  let v754 : BitVec 32 := Scalar.addi v2 c12_i32_424
  let c16_i32_425 : BitVec 32 := 16#32
  let c0_i32_426 : BitVec 32 := 0#32
  let v755 : BitVec 1 := Scalar.cmpi .eq c16_i32_425 c0_i32_426
  let c1_i32_427 : BitVec 32 := 1#32
  let v756 : BitVec 32 := Scalar.select v755 c1_i32_427 c16_i32_425
  let v757 : BitVec 32 := Scalar.remsi v754 v756
  let c0_i32_429 : BitVec 32 := 0#32
  let v759 : BitVec 1 := Scalar.cmpi .slt v757 c0_i32_429
  let c0_i32_430 : BitVec 32 := 0#32
  let v760 : BitVec 1 := Scalar.cmpi .slt v756 c0_i32_430
  let v761 : BitVec 1 := Scalar.xori v759 v760
  let c0_i32_428 : BitVec 32 := 0#32
  let v758 : BitVec 1 := Scalar.cmpi .ne v757 c0_i32_428
  let v762 : BitVec 1 := Scalar.andi v761 v758
  let v763 : BitVec 32 := Scalar.addi v757 v756
  let v764 : BitVec 32 := Scalar.select v762 v763 v757
  let c1_i32_433 : BitVec 32 := 1#32
  let v765 : BitVec 32 := Scalar.muli v764 c1_i32_433
  let v766 : BitVec 32 := Scalar.addi c0_i32_434 v765
  v766.toNat
def k0_dev28 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_439 : BitVec 32 := 13#32
  let v775 : BitVec 32 := Scalar.addi v2 c13_i32_439
  let c16_i32_440 : BitVec 32 := 16#32
  let c0_i32_441 : BitVec 32 := 0#32
  let v776 : BitVec 1 := Scalar.cmpi .eq c16_i32_440 c0_i32_441
  let c1_i32_442 : BitVec 32 := 1#32
  let v777 : BitVec 32 := Scalar.select v776 c1_i32_442 c16_i32_440
  let v778 : BitVec 32 := Scalar.remsi v775 v777
  let c0_i32_444 : BitVec 32 := 0#32
  let v780 : BitVec 1 := Scalar.cmpi .slt v778 c0_i32_444
  let c0_i32_445 : BitVec 32 := 0#32
  let v781 : BitVec 1 := Scalar.cmpi .slt v777 c0_i32_445
  let v782 : BitVec 1 := Scalar.xori v780 v781
  let c0_i32_443 : BitVec 32 := 0#32
  let v779 : BitVec 1 := Scalar.cmpi .ne v778 c0_i32_443
  let v783 : BitVec 1 := Scalar.andi v782 v779
  let v784 : BitVec 32 := Scalar.addi v778 v777
  let v785 : BitVec 32 := Scalar.select v783 v784 v778
  let c1_i32_448 : BitVec 32 := 1#32
  let v786 : BitVec 32 := Scalar.muli v785 c1_i32_448
  let v787 : BitVec 32 := Scalar.addi c0_i32_449 v786
  v787.toNat
def k0_dev29 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_454 : BitVec 32 := 14#32
  let v796 : BitVec 32 := Scalar.addi v2 c14_i32_454
  let c16_i32_455 : BitVec 32 := 16#32
  let c0_i32_456 : BitVec 32 := 0#32
  let v797 : BitVec 1 := Scalar.cmpi .eq c16_i32_455 c0_i32_456
  let c1_i32_457 : BitVec 32 := 1#32
  let v798 : BitVec 32 := Scalar.select v797 c1_i32_457 c16_i32_455
  let v799 : BitVec 32 := Scalar.remsi v796 v798
  let c0_i32_459 : BitVec 32 := 0#32
  let v801 : BitVec 1 := Scalar.cmpi .slt v799 c0_i32_459
  let c0_i32_460 : BitVec 32 := 0#32
  let v802 : BitVec 1 := Scalar.cmpi .slt v798 c0_i32_460
  let v803 : BitVec 1 := Scalar.xori v801 v802
  let c0_i32_458 : BitVec 32 := 0#32
  let v800 : BitVec 1 := Scalar.cmpi .ne v799 c0_i32_458
  let v804 : BitVec 1 := Scalar.andi v803 v800
  let v805 : BitVec 32 := Scalar.addi v799 v798
  let v806 : BitVec 32 := Scalar.select v804 v805 v799
  let c1_i32_463 : BitVec 32 := 1#32
  let v807 : BitVec 32 := Scalar.muli v806 c1_i32_463
  let v808 : BitVec 32 := Scalar.addi c0_i32_464 v807
  v808.toNat
def k0_dev30 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_469 : BitVec 32 := 15#32
  let v817 : BitVec 32 := Scalar.addi v2 c15_i32_469
  let c16_i32_470 : BitVec 32 := 16#32
  let c0_i32_471 : BitVec 32 := 0#32
  let v818 : BitVec 1 := Scalar.cmpi .eq c16_i32_470 c0_i32_471
  let c1_i32_472 : BitVec 32 := 1#32
  let v819 : BitVec 32 := Scalar.select v818 c1_i32_472 c16_i32_470
  let v820 : BitVec 32 := Scalar.remsi v817 v819
  let c0_i32_474 : BitVec 32 := 0#32
  let v822 : BitVec 1 := Scalar.cmpi .slt v820 c0_i32_474
  let c0_i32_475 : BitVec 32 := 0#32
  let v823 : BitVec 1 := Scalar.cmpi .slt v819 c0_i32_475
  let v824 : BitVec 1 := Scalar.xori v822 v823
  let c0_i32_473 : BitVec 32 := 0#32
  let v821 : BitVec 1 := Scalar.cmpi .ne v820 c0_i32_473
  let v825 : BitVec 1 := Scalar.andi v824 v821
  let v826 : BitVec 32 := Scalar.addi v820 v819
  let v827 : BitVec 32 := Scalar.select v825 v826 v820
  let c1_i32_478 : BitVec 32 := 1#32
  let v828 : BitVec 32 := Scalar.muli v827 c1_i32_478
  let v829 : BitVec 32 := Scalar.addi c0_i32_479 v828
  v829.toNat
def k0_off5 (d0 : Dev nD) (c1_i32_489 : BitVec 32) : Fin 2 → Nat :=
  let c1_i32_497 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v844 : BitVec 32 := Scalar.addi v2 c1_i32_489
  let c16_i32_490 : BitVec 32 := 16#32
  let c0_i32_491 : BitVec 32 := 0#32
  let v845 : BitVec 1 := Scalar.cmpi .eq c16_i32_490 c0_i32_491
  let c1_i32_492 : BitVec 32 := 1#32
  let v846 : BitVec 32 := Scalar.select v845 c1_i32_492 c16_i32_490
  let v847 : BitVec 32 := Scalar.remsi v844 v846
  let c0_i32_494 : BitVec 32 := 0#32
  let v849 : BitVec 1 := Scalar.cmpi .slt v847 c0_i32_494
  let c0_i32_495 : BitVec 32 := 0#32
  let v850 : BitVec 1 := Scalar.cmpi .slt v846 c0_i32_495
  let v851 : BitVec 1 := Scalar.xori v849 v850
  let c0_i32_493 : BitVec 32 := 0#32
  let v848 : BitVec 1 := Scalar.cmpi .ne v847 c0_i32_493
  let v852 : BitVec 1 := Scalar.andi v851 v848
  let v853 : BitVec 32 := Scalar.addi v847 v846
  let v854 : BitVec 32 := Scalar.select v852 v853 v847
  ![1, v854.toNat]
def k0_off6 (d0 : Dev nD) : Fin 2 → Nat :=
  let c1_i32_496 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_500 : BitVec 32 := 16#32
  let c0_i32_501 : BitVec 32 := 0#32
  ![v2.toNat, 16, 0]
def k0_off8 (d0 : Dev nD) (c1_i32_489 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v844 : BitVec 32 := Scalar.addi v2 c1_i32_489
  let c16_i32_490 : BitVec 32 := 16#32
  let c0_i32_491 : BitVec 32 := 0#32
  let v845 : BitVec 1 := Scalar.cmpi .eq c16_i32_490 c0_i32_491
  let c1_i32_492 : BitVec 32 := 1#32
  let v846 : BitVec 32 := Scalar.select v845 c1_i32_492 c16_i32_490
  let v847 : BitVec 32 := Scalar.remsi v844 v846
  let c0_i32_494 : BitVec 32 := 0#32
  let v849 : BitVec 1 := Scalar.cmpi .slt v847 c0_i32_494
  let c0_i32_495 : BitVec 32 := 0#32
  let v850 : BitVec 1 := Scalar.cmpi .slt v846 c0_i32_495
  let v851 : BitVec 1 := Scalar.xori v849 v850
  let c0_i32_493 : BitVec 32 := 0#32
  let v848 : BitVec 1 := Scalar.cmpi .ne v847 c0_i32_493
  let v852 : BitVec 1 := Scalar.andi v851 v848
  let v853 : BitVec 32 := Scalar.addi v847 v846
  let v854 : BitVec 32 := Scalar.select v852 v853 v847
  let c16_i32_502 : BitVec 32 := 16#32
  let c0_i32_503 : BitVec 32 := 0#32
  ![v854.toNat, 16, 0]
def k0_dev31 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_489 : BitVec 32 := 1#32
  let v844 : BitVec 32 := Scalar.addi v2 c1_i32_489
  let c16_i32_490 : BitVec 32 := 16#32
  let c0_i32_491 : BitVec 32 := 0#32
  let v845 : BitVec 1 := Scalar.cmpi .eq c16_i32_490 c0_i32_491
  let c1_i32_492 : BitVec 32 := 1#32
  let v846 : BitVec 32 := Scalar.select v845 c1_i32_492 c16_i32_490
  let v847 : BitVec 32 := Scalar.remsi v844 v846
  let c0_i32_494 : BitVec 32 := 0#32
  let v849 : BitVec 1 := Scalar.cmpi .slt v847 c0_i32_494
  let c0_i32_495 : BitVec 32 := 0#32
  let v850 : BitVec 1 := Scalar.cmpi .slt v846 c0_i32_495
  let v851 : BitVec 1 := Scalar.xori v849 v850
  let c0_i32_493 : BitVec 32 := 0#32
  let v848 : BitVec 1 := Scalar.cmpi .ne v847 c0_i32_493
  let v852 : BitVec 1 := Scalar.andi v851 v848
  let v853 : BitVec 32 := Scalar.addi v847 v846
  let v854 : BitVec 32 := Scalar.select v852 v853 v847
  let c1_i32_498 : BitVec 32 := 1#32
  let v855 : BitVec 32 := Scalar.muli v854 c1_i32_498
  let v856 : BitVec 32 := Scalar.addi c0_i32_499 v855
  v856.toNat
def k0_dev32 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_504 : BitVec 32 := 2#32
  let v865 : BitVec 32 := Scalar.addi v2 c2_i32_504
  let c16_i32_505 : BitVec 32 := 16#32
  let c0_i32_506 : BitVec 32 := 0#32
  let v866 : BitVec 1 := Scalar.cmpi .eq c16_i32_505 c0_i32_506
  let c1_i32_507 : BitVec 32 := 1#32
  let v867 : BitVec 32 := Scalar.select v866 c1_i32_507 c16_i32_505
  let v868 : BitVec 32 := Scalar.remsi v865 v867
  let c0_i32_509 : BitVec 32 := 0#32
  let v870 : BitVec 1 := Scalar.cmpi .slt v868 c0_i32_509
  let c0_i32_510 : BitVec 32 := 0#32
  let v871 : BitVec 1 := Scalar.cmpi .slt v867 c0_i32_510
  let v872 : BitVec 1 := Scalar.xori v870 v871
  let c0_i32_508 : BitVec 32 := 0#32
  let v869 : BitVec 1 := Scalar.cmpi .ne v868 c0_i32_508
  let v873 : BitVec 1 := Scalar.andi v872 v869
  let v874 : BitVec 32 := Scalar.addi v868 v867
  let v875 : BitVec 32 := Scalar.select v873 v874 v868
  let c1_i32_513 : BitVec 32 := 1#32
  let v876 : BitVec 32 := Scalar.muli v875 c1_i32_513
  let v877 : BitVec 32 := Scalar.addi c0_i32_514 v876
  v877.toNat
def k0_dev33 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_519 : BitVec 32 := 3#32
  let v886 : BitVec 32 := Scalar.addi v2 c3_i32_519
  let c16_i32_520 : BitVec 32 := 16#32
  let c0_i32_521 : BitVec 32 := 0#32
  let v887 : BitVec 1 := Scalar.cmpi .eq c16_i32_520 c0_i32_521
  let c1_i32_522 : BitVec 32 := 1#32
  let v888 : BitVec 32 := Scalar.select v887 c1_i32_522 c16_i32_520
  let v889 : BitVec 32 := Scalar.remsi v886 v888
  let c0_i32_524 : BitVec 32 := 0#32
  let v891 : BitVec 1 := Scalar.cmpi .slt v889 c0_i32_524
  let c0_i32_525 : BitVec 32 := 0#32
  let v892 : BitVec 1 := Scalar.cmpi .slt v888 c0_i32_525
  let v893 : BitVec 1 := Scalar.xori v891 v892
  let c0_i32_523 : BitVec 32 := 0#32
  let v890 : BitVec 1 := Scalar.cmpi .ne v889 c0_i32_523
  let v894 : BitVec 1 := Scalar.andi v893 v890
  let v895 : BitVec 32 := Scalar.addi v889 v888
  let v896 : BitVec 32 := Scalar.select v894 v895 v889
  let c1_i32_528 : BitVec 32 := 1#32
  let v897 : BitVec 32 := Scalar.muli v896 c1_i32_528
  let v898 : BitVec 32 := Scalar.addi c0_i32_529 v897
  v898.toNat
def k0_dev34 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_534 : BitVec 32 := 4#32
  let v907 : BitVec 32 := Scalar.addi v2 c4_i32_534
  let c16_i32_535 : BitVec 32 := 16#32
  let c0_i32_536 : BitVec 32 := 0#32
  let v908 : BitVec 1 := Scalar.cmpi .eq c16_i32_535 c0_i32_536
  let c1_i32_537 : BitVec 32 := 1#32
  let v909 : BitVec 32 := Scalar.select v908 c1_i32_537 c16_i32_535
  let v910 : BitVec 32 := Scalar.remsi v907 v909
  let c0_i32_539 : BitVec 32 := 0#32
  let v912 : BitVec 1 := Scalar.cmpi .slt v910 c0_i32_539
  let c0_i32_540 : BitVec 32 := 0#32
  let v913 : BitVec 1 := Scalar.cmpi .slt v909 c0_i32_540
  let v914 : BitVec 1 := Scalar.xori v912 v913
  let c0_i32_538 : BitVec 32 := 0#32
  let v911 : BitVec 1 := Scalar.cmpi .ne v910 c0_i32_538
  let v915 : BitVec 1 := Scalar.andi v914 v911
  let v916 : BitVec 32 := Scalar.addi v910 v909
  let v917 : BitVec 32 := Scalar.select v915 v916 v910
  let c1_i32_543 : BitVec 32 := 1#32
  let v918 : BitVec 32 := Scalar.muli v917 c1_i32_543
  let v919 : BitVec 32 := Scalar.addi c0_i32_544 v918
  v919.toNat
def k0_dev35 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_549 : BitVec 32 := 5#32
  let v928 : BitVec 32 := Scalar.addi v2 c5_i32_549
  let c16_i32_550 : BitVec 32 := 16#32
  let c0_i32_551 : BitVec 32 := 0#32
  let v929 : BitVec 1 := Scalar.cmpi .eq c16_i32_550 c0_i32_551
  let c1_i32_552 : BitVec 32 := 1#32
  let v930 : BitVec 32 := Scalar.select v929 c1_i32_552 c16_i32_550
  let v931 : BitVec 32 := Scalar.remsi v928 v930
  let c0_i32_554 : BitVec 32 := 0#32
  let v933 : BitVec 1 := Scalar.cmpi .slt v931 c0_i32_554
  let c0_i32_555 : BitVec 32 := 0#32
  let v934 : BitVec 1 := Scalar.cmpi .slt v930 c0_i32_555
  let v935 : BitVec 1 := Scalar.xori v933 v934
  let c0_i32_553 : BitVec 32 := 0#32
  let v932 : BitVec 1 := Scalar.cmpi .ne v931 c0_i32_553
  let v936 : BitVec 1 := Scalar.andi v935 v932
  let v937 : BitVec 32 := Scalar.addi v931 v930
  let v938 : BitVec 32 := Scalar.select v936 v937 v931
  let c1_i32_558 : BitVec 32 := 1#32
  let v939 : BitVec 32 := Scalar.muli v938 c1_i32_558
  let v940 : BitVec 32 := Scalar.addi c0_i32_559 v939
  v940.toNat
def k0_dev36 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_564 : BitVec 32 := 6#32
  let v949 : BitVec 32 := Scalar.addi v2 c6_i32_564
  let c16_i32_565 : BitVec 32 := 16#32
  let c0_i32_566 : BitVec 32 := 0#32
  let v950 : BitVec 1 := Scalar.cmpi .eq c16_i32_565 c0_i32_566
  let c1_i32_567 : BitVec 32 := 1#32
  let v951 : BitVec 32 := Scalar.select v950 c1_i32_567 c16_i32_565
  let v952 : BitVec 32 := Scalar.remsi v949 v951
  let c0_i32_569 : BitVec 32 := 0#32
  let v954 : BitVec 1 := Scalar.cmpi .slt v952 c0_i32_569
  let c0_i32_570 : BitVec 32 := 0#32
  let v955 : BitVec 1 := Scalar.cmpi .slt v951 c0_i32_570
  let v956 : BitVec 1 := Scalar.xori v954 v955
  let c0_i32_568 : BitVec 32 := 0#32
  let v953 : BitVec 1 := Scalar.cmpi .ne v952 c0_i32_568
  let v957 : BitVec 1 := Scalar.andi v956 v953
  let v958 : BitVec 32 := Scalar.addi v952 v951
  let v959 : BitVec 32 := Scalar.select v957 v958 v952
  let c1_i32_573 : BitVec 32 := 1#32
  let v960 : BitVec 32 := Scalar.muli v959 c1_i32_573
  let v961 : BitVec 32 := Scalar.addi c0_i32_574 v960
  v961.toNat
def k0_dev37 (d0 : Dev nD) : Nat :=
  let c0_i32_589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_579 : BitVec 32 := 7#32
  let v970 : BitVec 32 := Scalar.addi v2 c7_i32_579
  let c16_i32_580 : BitVec 32 := 16#32
  let c0_i32_581 : BitVec 32 := 0#32
  let v971 : BitVec 1 := Scalar.cmpi .eq c16_i32_580 c0_i32_581
  let c1_i32_582 : BitVec 32 := 1#32
  let v972 : BitVec 32 := Scalar.select v971 c1_i32_582 c16_i32_580
  let v973 : BitVec 32 := Scalar.remsi v970 v972
  let c0_i32_584 : BitVec 32 := 0#32
  let v975 : BitVec 1 := Scalar.cmpi .slt v973 c0_i32_584
  let c0_i32_585 : BitVec 32 := 0#32
  let v976 : BitVec 1 := Scalar.cmpi .slt v972 c0_i32_585
  let v977 : BitVec 1 := Scalar.xori v975 v976
  let c0_i32_583 : BitVec 32 := 0#32
  let v974 : BitVec 1 := Scalar.cmpi .ne v973 c0_i32_583
  let v978 : BitVec 1 := Scalar.andi v977 v974
  let v979 : BitVec 32 := Scalar.addi v973 v972
  let v980 : BitVec 32 := Scalar.select v978 v979 v973
  let c1_i32_588 : BitVec 32 := 1#32
  let v981 : BitVec 32 := Scalar.muli v980 c1_i32_588
  let v982 : BitVec 32 := Scalar.addi c0_i32_589 v981
  v982.toNat
def k0_dev38 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_594 : BitVec 32 := 8#32
  let v991 : BitVec 32 := Scalar.addi v2 c8_i32_594
  let c16_i32_595 : BitVec 32 := 16#32
  let c0_i32_596 : BitVec 32 := 0#32
  let v992 : BitVec 1 := Scalar.cmpi .eq c16_i32_595 c0_i32_596
  let c1_i32_597 : BitVec 32 := 1#32
  let v993 : BitVec 32 := Scalar.select v992 c1_i32_597 c16_i32_595
  let v994 : BitVec 32 := Scalar.remsi v991 v993
  let c0_i32_599 : BitVec 32 := 0#32
  let v996 : BitVec 1 := Scalar.cmpi .slt v994 c0_i32_599
  let c0_i32_600 : BitVec 32 := 0#32
  let v997 : BitVec 1 := Scalar.cmpi .slt v993 c0_i32_600
  let v998 : BitVec 1 := Scalar.xori v996 v997
  let c0_i32_598 : BitVec 32 := 0#32
  let v995 : BitVec 1 := Scalar.cmpi .ne v994 c0_i32_598
  let v999 : BitVec 1 := Scalar.andi v998 v995
  let v1000 : BitVec 32 := Scalar.addi v994 v993
  let v1001 : BitVec 32 := Scalar.select v999 v1000 v994
  let c1_i32_603 : BitVec 32 := 1#32
  let v1002 : BitVec 32 := Scalar.muli v1001 c1_i32_603
  let v1003 : BitVec 32 := Scalar.addi c0_i32_604 v1002
  v1003.toNat
def k0_dev39 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_609 : BitVec 32 := 9#32
  let v1012 : BitVec 32 := Scalar.addi v2 c9_i32_609
  let c16_i32_610 : BitVec 32 := 16#32
  let c0_i32_611 : BitVec 32 := 0#32
  let v1013 : BitVec 1 := Scalar.cmpi .eq c16_i32_610 c0_i32_611
  let c1_i32_612 : BitVec 32 := 1#32
  let v1014 : BitVec 32 := Scalar.select v1013 c1_i32_612 c16_i32_610
  let v1015 : BitVec 32 := Scalar.remsi v1012 v1014
  let c0_i32_614 : BitVec 32 := 0#32
  let v1017 : BitVec 1 := Scalar.cmpi .slt v1015 c0_i32_614
  let c0_i32_615 : BitVec 32 := 0#32
  let v1018 : BitVec 1 := Scalar.cmpi .slt v1014 c0_i32_615
  let v1019 : BitVec 1 := Scalar.xori v1017 v1018
  let c0_i32_613 : BitVec 32 := 0#32
  let v1016 : BitVec 1 := Scalar.cmpi .ne v1015 c0_i32_613
  let v1020 : BitVec 1 := Scalar.andi v1019 v1016
  let v1021 : BitVec 32 := Scalar.addi v1015 v1014
  let v1022 : BitVec 32 := Scalar.select v1020 v1021 v1015
  let c1_i32_618 : BitVec 32 := 1#32
  let v1023 : BitVec 32 := Scalar.muli v1022 c1_i32_618
  let v1024 : BitVec 32 := Scalar.addi c0_i32_619 v1023
  v1024.toNat
def k0_dev40 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_624 : BitVec 32 := 10#32
  let v1033 : BitVec 32 := Scalar.addi v2 c10_i32_624
  let c16_i32_625 : BitVec 32 := 16#32
  let c0_i32_626 : BitVec 32 := 0#32
  let v1034 : BitVec 1 := Scalar.cmpi .eq c16_i32_625 c0_i32_626
  let c1_i32_627 : BitVec 32 := 1#32
  let v1035 : BitVec 32 := Scalar.select v1034 c1_i32_627 c16_i32_625
  let v1036 : BitVec 32 := Scalar.remsi v1033 v1035
  let c0_i32_629 : BitVec 32 := 0#32
  let v1038 : BitVec 1 := Scalar.cmpi .slt v1036 c0_i32_629
  let c0_i32_630 : BitVec 32 := 0#32
  let v1039 : BitVec 1 := Scalar.cmpi .slt v1035 c0_i32_630
  let v1040 : BitVec 1 := Scalar.xori v1038 v1039
  let c0_i32_628 : BitVec 32 := 0#32
  let v1037 : BitVec 1 := Scalar.cmpi .ne v1036 c0_i32_628
  let v1041 : BitVec 1 := Scalar.andi v1040 v1037
  let v1042 : BitVec 32 := Scalar.addi v1036 v1035
  let v1043 : BitVec 32 := Scalar.select v1041 v1042 v1036
  let c1_i32_633 : BitVec 32 := 1#32
  let v1044 : BitVec 32 := Scalar.muli v1043 c1_i32_633
  let v1045 : BitVec 32 := Scalar.addi c0_i32_634 v1044
  v1045.toNat
def k0_dev41 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_639 : BitVec 32 := 11#32
  let v1054 : BitVec 32 := Scalar.addi v2 c11_i32_639
  let c16_i32_640 : BitVec 32 := 16#32
  let c0_i32_641 : BitVec 32 := 0#32
  let v1055 : BitVec 1 := Scalar.cmpi .eq c16_i32_640 c0_i32_641
  let c1_i32_642 : BitVec 32 := 1#32
  let v1056 : BitVec 32 := Scalar.select v1055 c1_i32_642 c16_i32_640
  let v1057 : BitVec 32 := Scalar.remsi v1054 v1056
  let c0_i32_644 : BitVec 32 := 0#32
  let v1059 : BitVec 1 := Scalar.cmpi .slt v1057 c0_i32_644
  let c0_i32_645 : BitVec 32 := 0#32
  let v1060 : BitVec 1 := Scalar.cmpi .slt v1056 c0_i32_645
  let v1061 : BitVec 1 := Scalar.xori v1059 v1060
  let c0_i32_643 : BitVec 32 := 0#32
  let v1058 : BitVec 1 := Scalar.cmpi .ne v1057 c0_i32_643
  let v1062 : BitVec 1 := Scalar.andi v1061 v1058
  let v1063 : BitVec 32 := Scalar.addi v1057 v1056
  let v1064 : BitVec 32 := Scalar.select v1062 v1063 v1057
  let c1_i32_648 : BitVec 32 := 1#32
  let v1065 : BitVec 32 := Scalar.muli v1064 c1_i32_648
  let v1066 : BitVec 32 := Scalar.addi c0_i32_649 v1065
  v1066.toNat
def k0_dev42 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_654 : BitVec 32 := 12#32
  let v1075 : BitVec 32 := Scalar.addi v2 c12_i32_654
  let c16_i32_655 : BitVec 32 := 16#32
  let c0_i32_656 : BitVec 32 := 0#32
  let v1076 : BitVec 1 := Scalar.cmpi .eq c16_i32_655 c0_i32_656
  let c1_i32_657 : BitVec 32 := 1#32
  let v1077 : BitVec 32 := Scalar.select v1076 c1_i32_657 c16_i32_655
  let v1078 : BitVec 32 := Scalar.remsi v1075 v1077
  let c0_i32_659 : BitVec 32 := 0#32
  let v1080 : BitVec 1 := Scalar.cmpi .slt v1078 c0_i32_659
  let c0_i32_660 : BitVec 32 := 0#32
  let v1081 : BitVec 1 := Scalar.cmpi .slt v1077 c0_i32_660
  let v1082 : BitVec 1 := Scalar.xori v1080 v1081
  let c0_i32_658 : BitVec 32 := 0#32
  let v1079 : BitVec 1 := Scalar.cmpi .ne v1078 c0_i32_658
  let v1083 : BitVec 1 := Scalar.andi v1082 v1079
  let v1084 : BitVec 32 := Scalar.addi v1078 v1077
  let v1085 : BitVec 32 := Scalar.select v1083 v1084 v1078
  let c1_i32_663 : BitVec 32 := 1#32
  let v1086 : BitVec 32 := Scalar.muli v1085 c1_i32_663
  let v1087 : BitVec 32 := Scalar.addi c0_i32_664 v1086
  v1087.toNat
def k0_dev43 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_669 : BitVec 32 := 13#32
  let v1096 : BitVec 32 := Scalar.addi v2 c13_i32_669
  let c16_i32_670 : BitVec 32 := 16#32
  let c0_i32_671 : BitVec 32 := 0#32
  let v1097 : BitVec 1 := Scalar.cmpi .eq c16_i32_670 c0_i32_671
  let c1_i32_672 : BitVec 32 := 1#32
  let v1098 : BitVec 32 := Scalar.select v1097 c1_i32_672 c16_i32_670
  let v1099 : BitVec 32 := Scalar.remsi v1096 v1098
  let c0_i32_674 : BitVec 32 := 0#32
  let v1101 : BitVec 1 := Scalar.cmpi .slt v1099 c0_i32_674
  let c0_i32_675 : BitVec 32 := 0#32
  let v1102 : BitVec 1 := Scalar.cmpi .slt v1098 c0_i32_675
  let v1103 : BitVec 1 := Scalar.xori v1101 v1102
  let c0_i32_673 : BitVec 32 := 0#32
  let v1100 : BitVec 1 := Scalar.cmpi .ne v1099 c0_i32_673
  let v1104 : BitVec 1 := Scalar.andi v1103 v1100
  let v1105 : BitVec 32 := Scalar.addi v1099 v1098
  let v1106 : BitVec 32 := Scalar.select v1104 v1105 v1099
  let c1_i32_678 : BitVec 32 := 1#32
  let v1107 : BitVec 32 := Scalar.muli v1106 c1_i32_678
  let v1108 : BitVec 32 := Scalar.addi c0_i32_679 v1107
  v1108.toNat
def k0_dev44 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_684 : BitVec 32 := 14#32
  let v1117 : BitVec 32 := Scalar.addi v2 c14_i32_684
  let c16_i32_685 : BitVec 32 := 16#32
  let c0_i32_686 : BitVec 32 := 0#32
  let v1118 : BitVec 1 := Scalar.cmpi .eq c16_i32_685 c0_i32_686
  let c1_i32_687 : BitVec 32 := 1#32
  let v1119 : BitVec 32 := Scalar.select v1118 c1_i32_687 c16_i32_685
  let v1120 : BitVec 32 := Scalar.remsi v1117 v1119
  let c0_i32_689 : BitVec 32 := 0#32
  let v1122 : BitVec 1 := Scalar.cmpi .slt v1120 c0_i32_689
  let c0_i32_690 : BitVec 32 := 0#32
  let v1123 : BitVec 1 := Scalar.cmpi .slt v1119 c0_i32_690
  let v1124 : BitVec 1 := Scalar.xori v1122 v1123
  let c0_i32_688 : BitVec 32 := 0#32
  let v1121 : BitVec 1 := Scalar.cmpi .ne v1120 c0_i32_688
  let v1125 : BitVec 1 := Scalar.andi v1124 v1121
  let v1126 : BitVec 32 := Scalar.addi v1120 v1119
  let v1127 : BitVec 32 := Scalar.select v1125 v1126 v1120
  let c1_i32_693 : BitVec 32 := 1#32
  let v1128 : BitVec 32 := Scalar.muli v1127 c1_i32_693
  let v1129 : BitVec 32 := Scalar.addi c0_i32_694 v1128
  v1129.toNat
def k0_dev45 (d0 : Dev nD) : Nat :=
  let c0_i32_709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_699 : BitVec 32 := 15#32
  let v1138 : BitVec 32 := Scalar.addi v2 c15_i32_699
  let c16_i32_700 : BitVec 32 := 16#32
  let c0_i32_701 : BitVec 32 := 0#32
  let v1139 : BitVec 1 := Scalar.cmpi .eq c16_i32_700 c0_i32_701
  let c1_i32_702 : BitVec 32 := 1#32
  let v1140 : BitVec 32 := Scalar.select v1139 c1_i32_702 c16_i32_700
  let v1141 : BitVec 32 := Scalar.remsi v1138 v1140
  let c0_i32_704 : BitVec 32 := 0#32
  let v1143 : BitVec 1 := Scalar.cmpi .slt v1141 c0_i32_704
  let c0_i32_705 : BitVec 32 := 0#32
  let v1144 : BitVec 1 := Scalar.cmpi .slt v1140 c0_i32_705
  let v1145 : BitVec 1 := Scalar.xori v1143 v1144
  let c0_i32_703 : BitVec 32 := 0#32
  let v1142 : BitVec 1 := Scalar.cmpi .ne v1141 c0_i32_703
  let v1146 : BitVec 1 := Scalar.andi v1145 v1142
  let v1147 : BitVec 32 := Scalar.addi v1141 v1140
  let v1148 : BitVec 32 := Scalar.select v1146 v1147 v1141
  let c1_i32_708 : BitVec 32 := 1#32
  let v1149 : BitVec 32 := Scalar.muli v1148 c1_i32_708
  let v1150 : BitVec 32 := Scalar.addi c0_i32_709 v1149
  v1150.toNat
def k0_dev46 (d0 : Dev nD) : Nat :=
  let c0_i32_956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_946 : BitVec 32 := 1#32
  let v1343 : BitVec 32 := Scalar.addi v2 c1_i32_946
  let c16_i32_947 : BitVec 32 := 16#32
  let c0_i32_948 : BitVec 32 := 0#32
  let v1344 : BitVec 1 := Scalar.cmpi .eq c16_i32_947 c0_i32_948
  let c1_i32_949 : BitVec 32 := 1#32
  let v1345 : BitVec 32 := Scalar.select v1344 c1_i32_949 c16_i32_947
  let v1346 : BitVec 32 := Scalar.remsi v1343 v1345
  let c0_i32_951 : BitVec 32 := 0#32
  let v1348 : BitVec 1 := Scalar.cmpi .slt v1346 c0_i32_951
  let c0_i32_952 : BitVec 32 := 0#32
  let v1349 : BitVec 1 := Scalar.cmpi .slt v1345 c0_i32_952
  let v1350 : BitVec 1 := Scalar.xori v1348 v1349
  let c0_i32_950 : BitVec 32 := 0#32
  let v1347 : BitVec 1 := Scalar.cmpi .ne v1346 c0_i32_950
  let v1351 : BitVec 1 := Scalar.andi v1350 v1347
  let v1352 : BitVec 32 := Scalar.addi v1346 v1345
  let v1353 : BitVec 32 := Scalar.select v1351 v1352 v1346
  let c1_i32_955 : BitVec 32 := 1#32
  let v1354 : BitVec 32 := Scalar.muli v1353 c1_i32_955
  let v1355 : BitVec 32 := Scalar.addi c0_i32_956 v1354
  v1355.toNat
def k0_dev47 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_961 : BitVec 32 := 2#32
  let v1363 : BitVec 32 := Scalar.addi v2 c2_i32_961
  let c16_i32_962 : BitVec 32 := 16#32
  let c0_i32_963 : BitVec 32 := 0#32
  let v1364 : BitVec 1 := Scalar.cmpi .eq c16_i32_962 c0_i32_963
  let c1_i32_964 : BitVec 32 := 1#32
  let v1365 : BitVec 32 := Scalar.select v1364 c1_i32_964 c16_i32_962
  let v1366 : BitVec 32 := Scalar.remsi v1363 v1365
  let c0_i32_966 : BitVec 32 := 0#32
  let v1368 : BitVec 1 := Scalar.cmpi .slt v1366 c0_i32_966
  let c0_i32_967 : BitVec 32 := 0#32
  let v1369 : BitVec 1 := Scalar.cmpi .slt v1365 c0_i32_967
  let v1370 : BitVec 1 := Scalar.xori v1368 v1369
  let c0_i32_965 : BitVec 32 := 0#32
  let v1367 : BitVec 1 := Scalar.cmpi .ne v1366 c0_i32_965
  let v1371 : BitVec 1 := Scalar.andi v1370 v1367
  let v1372 : BitVec 32 := Scalar.addi v1366 v1365
  let v1373 : BitVec 32 := Scalar.select v1371 v1372 v1366
  let c1_i32_970 : BitVec 32 := 1#32
  let v1374 : BitVec 32 := Scalar.muli v1373 c1_i32_970
  let v1375 : BitVec 32 := Scalar.addi c0_i32_971 v1374
  v1375.toNat
def k0_dev48 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_976 : BitVec 32 := 3#32
  let v1383 : BitVec 32 := Scalar.addi v2 c3_i32_976
  let c16_i32_977 : BitVec 32 := 16#32
  let c0_i32_978 : BitVec 32 := 0#32
  let v1384 : BitVec 1 := Scalar.cmpi .eq c16_i32_977 c0_i32_978
  let c1_i32_979 : BitVec 32 := 1#32
  let v1385 : BitVec 32 := Scalar.select v1384 c1_i32_979 c16_i32_977
  let v1386 : BitVec 32 := Scalar.remsi v1383 v1385
  let c0_i32_981 : BitVec 32 := 0#32
  let v1388 : BitVec 1 := Scalar.cmpi .slt v1386 c0_i32_981
  let c0_i32_982 : BitVec 32 := 0#32
  let v1389 : BitVec 1 := Scalar.cmpi .slt v1385 c0_i32_982
  let v1390 : BitVec 1 := Scalar.xori v1388 v1389
  let c0_i32_980 : BitVec 32 := 0#32
  let v1387 : BitVec 1 := Scalar.cmpi .ne v1386 c0_i32_980
  let v1391 : BitVec 1 := Scalar.andi v1390 v1387
  let v1392 : BitVec 32 := Scalar.addi v1386 v1385
  let v1393 : BitVec 32 := Scalar.select v1391 v1392 v1386
  let c1_i32_985 : BitVec 32 := 1#32
  let v1394 : BitVec 32 := Scalar.muli v1393 c1_i32_985
  let v1395 : BitVec 32 := Scalar.addi c0_i32_986 v1394
  v1395.toNat
def k0_dev49 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_991 : BitVec 32 := 4#32
  let v1403 : BitVec 32 := Scalar.addi v2 c4_i32_991
  let c16_i32_992 : BitVec 32 := 16#32
  let c0_i32_993 : BitVec 32 := 0#32
  let v1404 : BitVec 1 := Scalar.cmpi .eq c16_i32_992 c0_i32_993
  let c1_i32_994 : BitVec 32 := 1#32
  let v1405 : BitVec 32 := Scalar.select v1404 c1_i32_994 c16_i32_992
  let v1406 : BitVec 32 := Scalar.remsi v1403 v1405
  let c0_i32_996 : BitVec 32 := 0#32
  let v1408 : BitVec 1 := Scalar.cmpi .slt v1406 c0_i32_996
  let c0_i32_997 : BitVec 32 := 0#32
  let v1409 : BitVec 1 := Scalar.cmpi .slt v1405 c0_i32_997
  let v1410 : BitVec 1 := Scalar.xori v1408 v1409
  let c0_i32_995 : BitVec 32 := 0#32
  let v1407 : BitVec 1 := Scalar.cmpi .ne v1406 c0_i32_995
  let v1411 : BitVec 1 := Scalar.andi v1410 v1407
  let v1412 : BitVec 32 := Scalar.addi v1406 v1405
  let v1413 : BitVec 32 := Scalar.select v1411 v1412 v1406
  let c1_i32_1000 : BitVec 32 := 1#32
  let v1414 : BitVec 32 := Scalar.muli v1413 c1_i32_1000
  let v1415 : BitVec 32 := Scalar.addi c0_i32_1001 v1414
  v1415.toNat
def k0_dev50 (d0 : Dev nD) : Nat :=
  let c0_i32_1016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1006 : BitVec 32 := 5#32
  let v1423 : BitVec 32 := Scalar.addi v2 c5_i32_1006
  let c16_i32_1007 : BitVec 32 := 16#32
  let c0_i32_1008 : BitVec 32 := 0#32
  let v1424 : BitVec 1 := Scalar.cmpi .eq c16_i32_1007 c0_i32_1008
  let c1_i32_1009 : BitVec 32 := 1#32
  let v1425 : BitVec 32 := Scalar.select v1424 c1_i32_1009 c16_i32_1007
  let v1426 : BitVec 32 := Scalar.remsi v1423 v1425
  let c0_i32_1011 : BitVec 32 := 0#32
  let v1428 : BitVec 1 := Scalar.cmpi .slt v1426 c0_i32_1011
  let c0_i32_1012 : BitVec 32 := 0#32
  let v1429 : BitVec 1 := Scalar.cmpi .slt v1425 c0_i32_1012
  let v1430 : BitVec 1 := Scalar.xori v1428 v1429
  let c0_i32_1010 : BitVec 32 := 0#32
  let v1427 : BitVec 1 := Scalar.cmpi .ne v1426 c0_i32_1010
  let v1431 : BitVec 1 := Scalar.andi v1430 v1427
  let v1432 : BitVec 32 := Scalar.addi v1426 v1425
  let v1433 : BitVec 32 := Scalar.select v1431 v1432 v1426
  let c1_i32_1015 : BitVec 32 := 1#32
  let v1434 : BitVec 32 := Scalar.muli v1433 c1_i32_1015
  let v1435 : BitVec 32 := Scalar.addi c0_i32_1016 v1434
  v1435.toNat
def k0_dev51 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1021 : BitVec 32 := 6#32
  let v1443 : BitVec 32 := Scalar.addi v2 c6_i32_1021
  let c16_i32_1022 : BitVec 32 := 16#32
  let c0_i32_1023 : BitVec 32 := 0#32
  let v1444 : BitVec 1 := Scalar.cmpi .eq c16_i32_1022 c0_i32_1023
  let c1_i32_1024 : BitVec 32 := 1#32
  let v1445 : BitVec 32 := Scalar.select v1444 c1_i32_1024 c16_i32_1022
  let v1446 : BitVec 32 := Scalar.remsi v1443 v1445
  let c0_i32_1026 : BitVec 32 := 0#32
  let v1448 : BitVec 1 := Scalar.cmpi .slt v1446 c0_i32_1026
  let c0_i32_1027 : BitVec 32 := 0#32
  let v1449 : BitVec 1 := Scalar.cmpi .slt v1445 c0_i32_1027
  let v1450 : BitVec 1 := Scalar.xori v1448 v1449
  let c0_i32_1025 : BitVec 32 := 0#32
  let v1447 : BitVec 1 := Scalar.cmpi .ne v1446 c0_i32_1025
  let v1451 : BitVec 1 := Scalar.andi v1450 v1447
  let v1452 : BitVec 32 := Scalar.addi v1446 v1445
  let v1453 : BitVec 32 := Scalar.select v1451 v1452 v1446
  let c1_i32_1030 : BitVec 32 := 1#32
  let v1454 : BitVec 32 := Scalar.muli v1453 c1_i32_1030
  let v1455 : BitVec 32 := Scalar.addi c0_i32_1031 v1454
  v1455.toNat
def k0_dev52 (d0 : Dev nD) : Nat :=
  let c0_i32_1046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1036 : BitVec 32 := 7#32
  let v1463 : BitVec 32 := Scalar.addi v2 c7_i32_1036
  let c16_i32_1037 : BitVec 32 := 16#32
  let c0_i32_1038 : BitVec 32 := 0#32
  let v1464 : BitVec 1 := Scalar.cmpi .eq c16_i32_1037 c0_i32_1038
  let c1_i32_1039 : BitVec 32 := 1#32
  let v1465 : BitVec 32 := Scalar.select v1464 c1_i32_1039 c16_i32_1037
  let v1466 : BitVec 32 := Scalar.remsi v1463 v1465
  let c0_i32_1041 : BitVec 32 := 0#32
  let v1468 : BitVec 1 := Scalar.cmpi .slt v1466 c0_i32_1041
  let c0_i32_1042 : BitVec 32 := 0#32
  let v1469 : BitVec 1 := Scalar.cmpi .slt v1465 c0_i32_1042
  let v1470 : BitVec 1 := Scalar.xori v1468 v1469
  let c0_i32_1040 : BitVec 32 := 0#32
  let v1467 : BitVec 1 := Scalar.cmpi .ne v1466 c0_i32_1040
  let v1471 : BitVec 1 := Scalar.andi v1470 v1467
  let v1472 : BitVec 32 := Scalar.addi v1466 v1465
  let v1473 : BitVec 32 := Scalar.select v1471 v1472 v1466
  let c1_i32_1045 : BitVec 32 := 1#32
  let v1474 : BitVec 32 := Scalar.muli v1473 c1_i32_1045
  let v1475 : BitVec 32 := Scalar.addi c0_i32_1046 v1474
  v1475.toNat
def k0_dev53 (d0 : Dev nD) : Nat :=
  let c0_i32_1061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1051 : BitVec 32 := 8#32
  let v1483 : BitVec 32 := Scalar.addi v2 c8_i32_1051
  let c16_i32_1052 : BitVec 32 := 16#32
  let c0_i32_1053 : BitVec 32 := 0#32
  let v1484 : BitVec 1 := Scalar.cmpi .eq c16_i32_1052 c0_i32_1053
  let c1_i32_1054 : BitVec 32 := 1#32
  let v1485 : BitVec 32 := Scalar.select v1484 c1_i32_1054 c16_i32_1052
  let v1486 : BitVec 32 := Scalar.remsi v1483 v1485
  let c0_i32_1056 : BitVec 32 := 0#32
  let v1488 : BitVec 1 := Scalar.cmpi .slt v1486 c0_i32_1056
  let c0_i32_1057 : BitVec 32 := 0#32
  let v1489 : BitVec 1 := Scalar.cmpi .slt v1485 c0_i32_1057
  let v1490 : BitVec 1 := Scalar.xori v1488 v1489
  let c0_i32_1055 : BitVec 32 := 0#32
  let v1487 : BitVec 1 := Scalar.cmpi .ne v1486 c0_i32_1055
  let v1491 : BitVec 1 := Scalar.andi v1490 v1487
  let v1492 : BitVec 32 := Scalar.addi v1486 v1485
  let v1493 : BitVec 32 := Scalar.select v1491 v1492 v1486
  let c1_i32_1060 : BitVec 32 := 1#32
  let v1494 : BitVec 32 := Scalar.muli v1493 c1_i32_1060
  let v1495 : BitVec 32 := Scalar.addi c0_i32_1061 v1494
  v1495.toNat
def k0_dev54 (d0 : Dev nD) : Nat :=
  let c0_i32_1076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1066 : BitVec 32 := 9#32
  let v1503 : BitVec 32 := Scalar.addi v2 c9_i32_1066
  let c16_i32_1067 : BitVec 32 := 16#32
  let c0_i32_1068 : BitVec 32 := 0#32
  let v1504 : BitVec 1 := Scalar.cmpi .eq c16_i32_1067 c0_i32_1068
  let c1_i32_1069 : BitVec 32 := 1#32
  let v1505 : BitVec 32 := Scalar.select v1504 c1_i32_1069 c16_i32_1067
  let v1506 : BitVec 32 := Scalar.remsi v1503 v1505
  let c0_i32_1071 : BitVec 32 := 0#32
  let v1508 : BitVec 1 := Scalar.cmpi .slt v1506 c0_i32_1071
  let c0_i32_1072 : BitVec 32 := 0#32
  let v1509 : BitVec 1 := Scalar.cmpi .slt v1505 c0_i32_1072
  let v1510 : BitVec 1 := Scalar.xori v1508 v1509
  let c0_i32_1070 : BitVec 32 := 0#32
  let v1507 : BitVec 1 := Scalar.cmpi .ne v1506 c0_i32_1070
  let v1511 : BitVec 1 := Scalar.andi v1510 v1507
  let v1512 : BitVec 32 := Scalar.addi v1506 v1505
  let v1513 : BitVec 32 := Scalar.select v1511 v1512 v1506
  let c1_i32_1075 : BitVec 32 := 1#32
  let v1514 : BitVec 32 := Scalar.muli v1513 c1_i32_1075
  let v1515 : BitVec 32 := Scalar.addi c0_i32_1076 v1514
  v1515.toNat
def k0_dev55 (d0 : Dev nD) : Nat :=
  let c0_i32_1091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1081 : BitVec 32 := 10#32
  let v1523 : BitVec 32 := Scalar.addi v2 c10_i32_1081
  let c16_i32_1082 : BitVec 32 := 16#32
  let c0_i32_1083 : BitVec 32 := 0#32
  let v1524 : BitVec 1 := Scalar.cmpi .eq c16_i32_1082 c0_i32_1083
  let c1_i32_1084 : BitVec 32 := 1#32
  let v1525 : BitVec 32 := Scalar.select v1524 c1_i32_1084 c16_i32_1082
  let v1526 : BitVec 32 := Scalar.remsi v1523 v1525
  let c0_i32_1086 : BitVec 32 := 0#32
  let v1528 : BitVec 1 := Scalar.cmpi .slt v1526 c0_i32_1086
  let c0_i32_1087 : BitVec 32 := 0#32
  let v1529 : BitVec 1 := Scalar.cmpi .slt v1525 c0_i32_1087
  let v1530 : BitVec 1 := Scalar.xori v1528 v1529
  let c0_i32_1085 : BitVec 32 := 0#32
  let v1527 : BitVec 1 := Scalar.cmpi .ne v1526 c0_i32_1085
  let v1531 : BitVec 1 := Scalar.andi v1530 v1527
  let v1532 : BitVec 32 := Scalar.addi v1526 v1525
  let v1533 : BitVec 32 := Scalar.select v1531 v1532 v1526
  let c1_i32_1090 : BitVec 32 := 1#32
  let v1534 : BitVec 32 := Scalar.muli v1533 c1_i32_1090
  let v1535 : BitVec 32 := Scalar.addi c0_i32_1091 v1534
  v1535.toNat
def k0_dev56 (d0 : Dev nD) : Nat :=
  let c0_i32_1106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1096 : BitVec 32 := 11#32
  let v1543 : BitVec 32 := Scalar.addi v2 c11_i32_1096
  let c16_i32_1097 : BitVec 32 := 16#32
  let c0_i32_1098 : BitVec 32 := 0#32
  let v1544 : BitVec 1 := Scalar.cmpi .eq c16_i32_1097 c0_i32_1098
  let c1_i32_1099 : BitVec 32 := 1#32
  let v1545 : BitVec 32 := Scalar.select v1544 c1_i32_1099 c16_i32_1097
  let v1546 : BitVec 32 := Scalar.remsi v1543 v1545
  let c0_i32_1101 : BitVec 32 := 0#32
  let v1548 : BitVec 1 := Scalar.cmpi .slt v1546 c0_i32_1101
  let c0_i32_1102 : BitVec 32 := 0#32
  let v1549 : BitVec 1 := Scalar.cmpi .slt v1545 c0_i32_1102
  let v1550 : BitVec 1 := Scalar.xori v1548 v1549
  let c0_i32_1100 : BitVec 32 := 0#32
  let v1547 : BitVec 1 := Scalar.cmpi .ne v1546 c0_i32_1100
  let v1551 : BitVec 1 := Scalar.andi v1550 v1547
  let v1552 : BitVec 32 := Scalar.addi v1546 v1545
  let v1553 : BitVec 32 := Scalar.select v1551 v1552 v1546
  let c1_i32_1105 : BitVec 32 := 1#32
  let v1554 : BitVec 32 := Scalar.muli v1553 c1_i32_1105
  let v1555 : BitVec 32 := Scalar.addi c0_i32_1106 v1554
  v1555.toNat
def k0_dev57 (d0 : Dev nD) : Nat :=
  let c0_i32_1121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1111 : BitVec 32 := 12#32
  let v1563 : BitVec 32 := Scalar.addi v2 c12_i32_1111
  let c16_i32_1112 : BitVec 32 := 16#32
  let c0_i32_1113 : BitVec 32 := 0#32
  let v1564 : BitVec 1 := Scalar.cmpi .eq c16_i32_1112 c0_i32_1113
  let c1_i32_1114 : BitVec 32 := 1#32
  let v1565 : BitVec 32 := Scalar.select v1564 c1_i32_1114 c16_i32_1112
  let v1566 : BitVec 32 := Scalar.remsi v1563 v1565
  let c0_i32_1116 : BitVec 32 := 0#32
  let v1568 : BitVec 1 := Scalar.cmpi .slt v1566 c0_i32_1116
  let c0_i32_1117 : BitVec 32 := 0#32
  let v1569 : BitVec 1 := Scalar.cmpi .slt v1565 c0_i32_1117
  let v1570 : BitVec 1 := Scalar.xori v1568 v1569
  let c0_i32_1115 : BitVec 32 := 0#32
  let v1567 : BitVec 1 := Scalar.cmpi .ne v1566 c0_i32_1115
  let v1571 : BitVec 1 := Scalar.andi v1570 v1567
  let v1572 : BitVec 32 := Scalar.addi v1566 v1565
  let v1573 : BitVec 32 := Scalar.select v1571 v1572 v1566
  let c1_i32_1120 : BitVec 32 := 1#32
  let v1574 : BitVec 32 := Scalar.muli v1573 c1_i32_1120
  let v1575 : BitVec 32 := Scalar.addi c0_i32_1121 v1574
  v1575.toNat
def k0_dev58 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1126 : BitVec 32 := 13#32
  let v1583 : BitVec 32 := Scalar.addi v2 c13_i32_1126
  let c16_i32_1127 : BitVec 32 := 16#32
  let c0_i32_1128 : BitVec 32 := 0#32
  let v1584 : BitVec 1 := Scalar.cmpi .eq c16_i32_1127 c0_i32_1128
  let c1_i32_1129 : BitVec 32 := 1#32
  let v1585 : BitVec 32 := Scalar.select v1584 c1_i32_1129 c16_i32_1127
  let v1586 : BitVec 32 := Scalar.remsi v1583 v1585
  let c0_i32_1131 : BitVec 32 := 0#32
  let v1588 : BitVec 1 := Scalar.cmpi .slt v1586 c0_i32_1131
  let c0_i32_1132 : BitVec 32 := 0#32
  let v1589 : BitVec 1 := Scalar.cmpi .slt v1585 c0_i32_1132
  let v1590 : BitVec 1 := Scalar.xori v1588 v1589
  let c0_i32_1130 : BitVec 32 := 0#32
  let v1587 : BitVec 1 := Scalar.cmpi .ne v1586 c0_i32_1130
  let v1591 : BitVec 1 := Scalar.andi v1590 v1587
  let v1592 : BitVec 32 := Scalar.addi v1586 v1585
  let v1593 : BitVec 32 := Scalar.select v1591 v1592 v1586
  let c1_i32_1135 : BitVec 32 := 1#32
  let v1594 : BitVec 32 := Scalar.muli v1593 c1_i32_1135
  let v1595 : BitVec 32 := Scalar.addi c0_i32_1136 v1594
  v1595.toNat
def k0_dev59 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1141 : BitVec 32 := 14#32
  let v1603 : BitVec 32 := Scalar.addi v2 c14_i32_1141
  let c16_i32_1142 : BitVec 32 := 16#32
  let c0_i32_1143 : BitVec 32 := 0#32
  let v1604 : BitVec 1 := Scalar.cmpi .eq c16_i32_1142 c0_i32_1143
  let c1_i32_1144 : BitVec 32 := 1#32
  let v1605 : BitVec 32 := Scalar.select v1604 c1_i32_1144 c16_i32_1142
  let v1606 : BitVec 32 := Scalar.remsi v1603 v1605
  let c0_i32_1146 : BitVec 32 := 0#32
  let v1608 : BitVec 1 := Scalar.cmpi .slt v1606 c0_i32_1146
  let c0_i32_1147 : BitVec 32 := 0#32
  let v1609 : BitVec 1 := Scalar.cmpi .slt v1605 c0_i32_1147
  let v1610 : BitVec 1 := Scalar.xori v1608 v1609
  let c0_i32_1145 : BitVec 32 := 0#32
  let v1607 : BitVec 1 := Scalar.cmpi .ne v1606 c0_i32_1145
  let v1611 : BitVec 1 := Scalar.andi v1610 v1607
  let v1612 : BitVec 32 := Scalar.addi v1606 v1605
  let v1613 : BitVec 32 := Scalar.select v1611 v1612 v1606
  let c1_i32_1150 : BitVec 32 := 1#32
  let v1614 : BitVec 32 := Scalar.muli v1613 c1_i32_1150
  let v1615 : BitVec 32 := Scalar.addi c0_i32_1151 v1614
  v1615.toNat
def k0_dev60 (d0 : Dev nD) : Nat :=
  let c0_i32_1166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1156 : BitVec 32 := 15#32
  let v1623 : BitVec 32 := Scalar.addi v2 c15_i32_1156
  let c16_i32_1157 : BitVec 32 := 16#32
  let c0_i32_1158 : BitVec 32 := 0#32
  let v1624 : BitVec 1 := Scalar.cmpi .eq c16_i32_1157 c0_i32_1158
  let c1_i32_1159 : BitVec 32 := 1#32
  let v1625 : BitVec 32 := Scalar.select v1624 c1_i32_1159 c16_i32_1157
  let v1626 : BitVec 32 := Scalar.remsi v1623 v1625
  let c0_i32_1161 : BitVec 32 := 0#32
  let v1628 : BitVec 1 := Scalar.cmpi .slt v1626 c0_i32_1161
  let c0_i32_1162 : BitVec 32 := 0#32
  let v1629 : BitVec 1 := Scalar.cmpi .slt v1625 c0_i32_1162
  let v1630 : BitVec 1 := Scalar.xori v1628 v1629
  let c0_i32_1160 : BitVec 32 := 0#32
  let v1627 : BitVec 1 := Scalar.cmpi .ne v1626 c0_i32_1160
  let v1631 : BitVec 1 := Scalar.andi v1630 v1627
  let v1632 : BitVec 32 := Scalar.addi v1626 v1625
  let v1633 : BitVec 32 := Scalar.select v1631 v1632 v1626
  let c1_i32_1165 : BitVec 32 := 1#32
  let v1634 : BitVec 32 := Scalar.muli v1633 c1_i32_1165
  let v1635 : BitVec 32 := Scalar.addi c0_i32_1166 v1634
  v1635.toNat
def k0_dev61 (d0 : Dev nD) : Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1417 : BitVec 32 := 1#32
  let v1826 : BitVec 32 := Scalar.addi v2 c1_i32_1417
  let c16_i32_1418 : BitVec 32 := 16#32
  let c0_i32_1419 : BitVec 32 := 0#32
  let v1827 : BitVec 1 := Scalar.cmpi .eq c16_i32_1418 c0_i32_1419
  let c1_i32_1420 : BitVec 32 := 1#32
  let v1828 : BitVec 32 := Scalar.select v1827 c1_i32_1420 c16_i32_1418
  let v1829 : BitVec 32 := Scalar.remsi v1826 v1828
  let c0_i32_1422 : BitVec 32 := 0#32
  let v1831 : BitVec 1 := Scalar.cmpi .slt v1829 c0_i32_1422
  let c0_i32_1423 : BitVec 32 := 0#32
  let v1832 : BitVec 1 := Scalar.cmpi .slt v1828 c0_i32_1423
  let v1833 : BitVec 1 := Scalar.xori v1831 v1832
  let c0_i32_1421 : BitVec 32 := 0#32
  let v1830 : BitVec 1 := Scalar.cmpi .ne v1829 c0_i32_1421
  let v1834 : BitVec 1 := Scalar.andi v1833 v1830
  let v1835 : BitVec 32 := Scalar.addi v1829 v1828
  let v1836 : BitVec 32 := Scalar.select v1834 v1835 v1829
  let c1_i32_1426 : BitVec 32 := 1#32
  let v1837 : BitVec 32 := Scalar.muli v1836 c1_i32_1426
  let v1838 : BitVec 32 := Scalar.addi c0_i32_1427 v1837
  v1838.toNat
def k0_dev62 (d0 : Dev nD) : Nat :=
  let c0_i32_1442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1432 : BitVec 32 := 2#32
  let v1846 : BitVec 32 := Scalar.addi v2 c2_i32_1432
  let c16_i32_1433 : BitVec 32 := 16#32
  let c0_i32_1434 : BitVec 32 := 0#32
  let v1847 : BitVec 1 := Scalar.cmpi .eq c16_i32_1433 c0_i32_1434
  let c1_i32_1435 : BitVec 32 := 1#32
  let v1848 : BitVec 32 := Scalar.select v1847 c1_i32_1435 c16_i32_1433
  let v1849 : BitVec 32 := Scalar.remsi v1846 v1848
  let c0_i32_1437 : BitVec 32 := 0#32
  let v1851 : BitVec 1 := Scalar.cmpi .slt v1849 c0_i32_1437
  let c0_i32_1438 : BitVec 32 := 0#32
  let v1852 : BitVec 1 := Scalar.cmpi .slt v1848 c0_i32_1438
  let v1853 : BitVec 1 := Scalar.xori v1851 v1852
  let c0_i32_1436 : BitVec 32 := 0#32
  let v1850 : BitVec 1 := Scalar.cmpi .ne v1849 c0_i32_1436
  let v1854 : BitVec 1 := Scalar.andi v1853 v1850
  let v1855 : BitVec 32 := Scalar.addi v1849 v1848
  let v1856 : BitVec 32 := Scalar.select v1854 v1855 v1849
  let c1_i32_1441 : BitVec 32 := 1#32
  let v1857 : BitVec 32 := Scalar.muli v1856 c1_i32_1441
  let v1858 : BitVec 32 := Scalar.addi c0_i32_1442 v1857
  v1858.toNat
def k0_dev63 (d0 : Dev nD) : Nat :=
  let c0_i32_1457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1447 : BitVec 32 := 3#32
  let v1866 : BitVec 32 := Scalar.addi v2 c3_i32_1447
  let c16_i32_1448 : BitVec 32 := 16#32
  let c0_i32_1449 : BitVec 32 := 0#32
  let v1867 : BitVec 1 := Scalar.cmpi .eq c16_i32_1448 c0_i32_1449
  let c1_i32_1450 : BitVec 32 := 1#32
  let v1868 : BitVec 32 := Scalar.select v1867 c1_i32_1450 c16_i32_1448
  let v1869 : BitVec 32 := Scalar.remsi v1866 v1868
  let c0_i32_1452 : BitVec 32 := 0#32
  let v1871 : BitVec 1 := Scalar.cmpi .slt v1869 c0_i32_1452
  let c0_i32_1453 : BitVec 32 := 0#32
  let v1872 : BitVec 1 := Scalar.cmpi .slt v1868 c0_i32_1453
  let v1873 : BitVec 1 := Scalar.xori v1871 v1872
  let c0_i32_1451 : BitVec 32 := 0#32
  let v1870 : BitVec 1 := Scalar.cmpi .ne v1869 c0_i32_1451
  let v1874 : BitVec 1 := Scalar.andi v1873 v1870
  let v1875 : BitVec 32 := Scalar.addi v1869 v1868
  let v1876 : BitVec 32 := Scalar.select v1874 v1875 v1869
  let c1_i32_1456 : BitVec 32 := 1#32
  let v1877 : BitVec 32 := Scalar.muli v1876 c1_i32_1456
  let v1878 : BitVec 32 := Scalar.addi c0_i32_1457 v1877
  v1878.toNat
def k0_dev64 (d0 : Dev nD) : Nat :=
  let c0_i32_1472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1462 : BitVec 32 := 4#32
  let v1886 : BitVec 32 := Scalar.addi v2 c4_i32_1462
  let c16_i32_1463 : BitVec 32 := 16#32
  let c0_i32_1464 : BitVec 32 := 0#32
  let v1887 : BitVec 1 := Scalar.cmpi .eq c16_i32_1463 c0_i32_1464
  let c1_i32_1465 : BitVec 32 := 1#32
  let v1888 : BitVec 32 := Scalar.select v1887 c1_i32_1465 c16_i32_1463
  let v1889 : BitVec 32 := Scalar.remsi v1886 v1888
  let c0_i32_1467 : BitVec 32 := 0#32
  let v1891 : BitVec 1 := Scalar.cmpi .slt v1889 c0_i32_1467
  let c0_i32_1468 : BitVec 32 := 0#32
  let v1892 : BitVec 1 := Scalar.cmpi .slt v1888 c0_i32_1468
  let v1893 : BitVec 1 := Scalar.xori v1891 v1892
  let c0_i32_1466 : BitVec 32 := 0#32
  let v1890 : BitVec 1 := Scalar.cmpi .ne v1889 c0_i32_1466
  let v1894 : BitVec 1 := Scalar.andi v1893 v1890
  let v1895 : BitVec 32 := Scalar.addi v1889 v1888
  let v1896 : BitVec 32 := Scalar.select v1894 v1895 v1889
  let c1_i32_1471 : BitVec 32 := 1#32
  let v1897 : BitVec 32 := Scalar.muli v1896 c1_i32_1471
  let v1898 : BitVec 32 := Scalar.addi c0_i32_1472 v1897
  v1898.toNat
def k0_dev65 (d0 : Dev nD) : Nat :=
  let c0_i32_1487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1477 : BitVec 32 := 5#32
  let v1906 : BitVec 32 := Scalar.addi v2 c5_i32_1477
  let c16_i32_1478 : BitVec 32 := 16#32
  let c0_i32_1479 : BitVec 32 := 0#32
  let v1907 : BitVec 1 := Scalar.cmpi .eq c16_i32_1478 c0_i32_1479
  let c1_i32_1480 : BitVec 32 := 1#32
  let v1908 : BitVec 32 := Scalar.select v1907 c1_i32_1480 c16_i32_1478
  let v1909 : BitVec 32 := Scalar.remsi v1906 v1908
  let c0_i32_1482 : BitVec 32 := 0#32
  let v1911 : BitVec 1 := Scalar.cmpi .slt v1909 c0_i32_1482
  let c0_i32_1483 : BitVec 32 := 0#32
  let v1912 : BitVec 1 := Scalar.cmpi .slt v1908 c0_i32_1483
  let v1913 : BitVec 1 := Scalar.xori v1911 v1912
  let c0_i32_1481 : BitVec 32 := 0#32
  let v1910 : BitVec 1 := Scalar.cmpi .ne v1909 c0_i32_1481
  let v1914 : BitVec 1 := Scalar.andi v1913 v1910
  let v1915 : BitVec 32 := Scalar.addi v1909 v1908
  let v1916 : BitVec 32 := Scalar.select v1914 v1915 v1909
  let c1_i32_1486 : BitVec 32 := 1#32
  let v1917 : BitVec 32 := Scalar.muli v1916 c1_i32_1486
  let v1918 : BitVec 32 := Scalar.addi c0_i32_1487 v1917
  v1918.toNat
def k0_dev66 (d0 : Dev nD) : Nat :=
  let c0_i32_1502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1492 : BitVec 32 := 6#32
  let v1926 : BitVec 32 := Scalar.addi v2 c6_i32_1492
  let c16_i32_1493 : BitVec 32 := 16#32
  let c0_i32_1494 : BitVec 32 := 0#32
  let v1927 : BitVec 1 := Scalar.cmpi .eq c16_i32_1493 c0_i32_1494
  let c1_i32_1495 : BitVec 32 := 1#32
  let v1928 : BitVec 32 := Scalar.select v1927 c1_i32_1495 c16_i32_1493
  let v1929 : BitVec 32 := Scalar.remsi v1926 v1928
  let c0_i32_1497 : BitVec 32 := 0#32
  let v1931 : BitVec 1 := Scalar.cmpi .slt v1929 c0_i32_1497
  let c0_i32_1498 : BitVec 32 := 0#32
  let v1932 : BitVec 1 := Scalar.cmpi .slt v1928 c0_i32_1498
  let v1933 : BitVec 1 := Scalar.xori v1931 v1932
  let c0_i32_1496 : BitVec 32 := 0#32
  let v1930 : BitVec 1 := Scalar.cmpi .ne v1929 c0_i32_1496
  let v1934 : BitVec 1 := Scalar.andi v1933 v1930
  let v1935 : BitVec 32 := Scalar.addi v1929 v1928
  let v1936 : BitVec 32 := Scalar.select v1934 v1935 v1929
  let c1_i32_1501 : BitVec 32 := 1#32
  let v1937 : BitVec 32 := Scalar.muli v1936 c1_i32_1501
  let v1938 : BitVec 32 := Scalar.addi c0_i32_1502 v1937
  v1938.toNat
def k0_dev67 (d0 : Dev nD) : Nat :=
  let c0_i32_1517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1507 : BitVec 32 := 7#32
  let v1946 : BitVec 32 := Scalar.addi v2 c7_i32_1507
  let c16_i32_1508 : BitVec 32 := 16#32
  let c0_i32_1509 : BitVec 32 := 0#32
  let v1947 : BitVec 1 := Scalar.cmpi .eq c16_i32_1508 c0_i32_1509
  let c1_i32_1510 : BitVec 32 := 1#32
  let v1948 : BitVec 32 := Scalar.select v1947 c1_i32_1510 c16_i32_1508
  let v1949 : BitVec 32 := Scalar.remsi v1946 v1948
  let c0_i32_1512 : BitVec 32 := 0#32
  let v1951 : BitVec 1 := Scalar.cmpi .slt v1949 c0_i32_1512
  let c0_i32_1513 : BitVec 32 := 0#32
  let v1952 : BitVec 1 := Scalar.cmpi .slt v1948 c0_i32_1513
  let v1953 : BitVec 1 := Scalar.xori v1951 v1952
  let c0_i32_1511 : BitVec 32 := 0#32
  let v1950 : BitVec 1 := Scalar.cmpi .ne v1949 c0_i32_1511
  let v1954 : BitVec 1 := Scalar.andi v1953 v1950
  let v1955 : BitVec 32 := Scalar.addi v1949 v1948
  let v1956 : BitVec 32 := Scalar.select v1954 v1955 v1949
  let c1_i32_1516 : BitVec 32 := 1#32
  let v1957 : BitVec 32 := Scalar.muli v1956 c1_i32_1516
  let v1958 : BitVec 32 := Scalar.addi c0_i32_1517 v1957
  v1958.toNat
def k0_dev68 (d0 : Dev nD) : Nat :=
  let c0_i32_1532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1522 : BitVec 32 := 8#32
  let v1966 : BitVec 32 := Scalar.addi v2 c8_i32_1522
  let c16_i32_1523 : BitVec 32 := 16#32
  let c0_i32_1524 : BitVec 32 := 0#32
  let v1967 : BitVec 1 := Scalar.cmpi .eq c16_i32_1523 c0_i32_1524
  let c1_i32_1525 : BitVec 32 := 1#32
  let v1968 : BitVec 32 := Scalar.select v1967 c1_i32_1525 c16_i32_1523
  let v1969 : BitVec 32 := Scalar.remsi v1966 v1968
  let c0_i32_1527 : BitVec 32 := 0#32
  let v1971 : BitVec 1 := Scalar.cmpi .slt v1969 c0_i32_1527
  let c0_i32_1528 : BitVec 32 := 0#32
  let v1972 : BitVec 1 := Scalar.cmpi .slt v1968 c0_i32_1528
  let v1973 : BitVec 1 := Scalar.xori v1971 v1972
  let c0_i32_1526 : BitVec 32 := 0#32
  let v1970 : BitVec 1 := Scalar.cmpi .ne v1969 c0_i32_1526
  let v1974 : BitVec 1 := Scalar.andi v1973 v1970
  let v1975 : BitVec 32 := Scalar.addi v1969 v1968
  let v1976 : BitVec 32 := Scalar.select v1974 v1975 v1969
  let c1_i32_1531 : BitVec 32 := 1#32
  let v1977 : BitVec 32 := Scalar.muli v1976 c1_i32_1531
  let v1978 : BitVec 32 := Scalar.addi c0_i32_1532 v1977
  v1978.toNat
def k0_dev69 (d0 : Dev nD) : Nat :=
  let c0_i32_1547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1537 : BitVec 32 := 9#32
  let v1986 : BitVec 32 := Scalar.addi v2 c9_i32_1537
  let c16_i32_1538 : BitVec 32 := 16#32
  let c0_i32_1539 : BitVec 32 := 0#32
  let v1987 : BitVec 1 := Scalar.cmpi .eq c16_i32_1538 c0_i32_1539
  let c1_i32_1540 : BitVec 32 := 1#32
  let v1988 : BitVec 32 := Scalar.select v1987 c1_i32_1540 c16_i32_1538
  let v1989 : BitVec 32 := Scalar.remsi v1986 v1988
  let c0_i32_1542 : BitVec 32 := 0#32
  let v1991 : BitVec 1 := Scalar.cmpi .slt v1989 c0_i32_1542
  let c0_i32_1543 : BitVec 32 := 0#32
  let v1992 : BitVec 1 := Scalar.cmpi .slt v1988 c0_i32_1543
  let v1993 : BitVec 1 := Scalar.xori v1991 v1992
  let c0_i32_1541 : BitVec 32 := 0#32
  let v1990 : BitVec 1 := Scalar.cmpi .ne v1989 c0_i32_1541
  let v1994 : BitVec 1 := Scalar.andi v1993 v1990
  let v1995 : BitVec 32 := Scalar.addi v1989 v1988
  let v1996 : BitVec 32 := Scalar.select v1994 v1995 v1989
  let c1_i32_1546 : BitVec 32 := 1#32
  let v1997 : BitVec 32 := Scalar.muli v1996 c1_i32_1546
  let v1998 : BitVec 32 := Scalar.addi c0_i32_1547 v1997
  v1998.toNat
def k0_dev70 (d0 : Dev nD) : Nat :=
  let c0_i32_1562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1552 : BitVec 32 := 10#32
  let v2006 : BitVec 32 := Scalar.addi v2 c10_i32_1552
  let c16_i32_1553 : BitVec 32 := 16#32
  let c0_i32_1554 : BitVec 32 := 0#32
  let v2007 : BitVec 1 := Scalar.cmpi .eq c16_i32_1553 c0_i32_1554
  let c1_i32_1555 : BitVec 32 := 1#32
  let v2008 : BitVec 32 := Scalar.select v2007 c1_i32_1555 c16_i32_1553
  let v2009 : BitVec 32 := Scalar.remsi v2006 v2008
  let c0_i32_1557 : BitVec 32 := 0#32
  let v2011 : BitVec 1 := Scalar.cmpi .slt v2009 c0_i32_1557
  let c0_i32_1558 : BitVec 32 := 0#32
  let v2012 : BitVec 1 := Scalar.cmpi .slt v2008 c0_i32_1558
  let v2013 : BitVec 1 := Scalar.xori v2011 v2012
  let c0_i32_1556 : BitVec 32 := 0#32
  let v2010 : BitVec 1 := Scalar.cmpi .ne v2009 c0_i32_1556
  let v2014 : BitVec 1 := Scalar.andi v2013 v2010
  let v2015 : BitVec 32 := Scalar.addi v2009 v2008
  let v2016 : BitVec 32 := Scalar.select v2014 v2015 v2009
  let c1_i32_1561 : BitVec 32 := 1#32
  let v2017 : BitVec 32 := Scalar.muli v2016 c1_i32_1561
  let v2018 : BitVec 32 := Scalar.addi c0_i32_1562 v2017
  v2018.toNat
def k0_dev71 (d0 : Dev nD) : Nat :=
  let c0_i32_1577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1567 : BitVec 32 := 11#32
  let v2026 : BitVec 32 := Scalar.addi v2 c11_i32_1567
  let c16_i32_1568 : BitVec 32 := 16#32
  let c0_i32_1569 : BitVec 32 := 0#32
  let v2027 : BitVec 1 := Scalar.cmpi .eq c16_i32_1568 c0_i32_1569
  let c1_i32_1570 : BitVec 32 := 1#32
  let v2028 : BitVec 32 := Scalar.select v2027 c1_i32_1570 c16_i32_1568
  let v2029 : BitVec 32 := Scalar.remsi v2026 v2028
  let c0_i32_1572 : BitVec 32 := 0#32
  let v2031 : BitVec 1 := Scalar.cmpi .slt v2029 c0_i32_1572
  let c0_i32_1573 : BitVec 32 := 0#32
  let v2032 : BitVec 1 := Scalar.cmpi .slt v2028 c0_i32_1573
  let v2033 : BitVec 1 := Scalar.xori v2031 v2032
  let c0_i32_1571 : BitVec 32 := 0#32
  let v2030 : BitVec 1 := Scalar.cmpi .ne v2029 c0_i32_1571
  let v2034 : BitVec 1 := Scalar.andi v2033 v2030
  let v2035 : BitVec 32 := Scalar.addi v2029 v2028
  let v2036 : BitVec 32 := Scalar.select v2034 v2035 v2029
  let c1_i32_1576 : BitVec 32 := 1#32
  let v2037 : BitVec 32 := Scalar.muli v2036 c1_i32_1576
  let v2038 : BitVec 32 := Scalar.addi c0_i32_1577 v2037
  v2038.toNat
def k0_dev72 (d0 : Dev nD) : Nat :=
  let c0_i32_1592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1582 : BitVec 32 := 12#32
  let v2046 : BitVec 32 := Scalar.addi v2 c12_i32_1582
  let c16_i32_1583 : BitVec 32 := 16#32
  let c0_i32_1584 : BitVec 32 := 0#32
  let v2047 : BitVec 1 := Scalar.cmpi .eq c16_i32_1583 c0_i32_1584
  let c1_i32_1585 : BitVec 32 := 1#32
  let v2048 : BitVec 32 := Scalar.select v2047 c1_i32_1585 c16_i32_1583
  let v2049 : BitVec 32 := Scalar.remsi v2046 v2048
  let c0_i32_1587 : BitVec 32 := 0#32
  let v2051 : BitVec 1 := Scalar.cmpi .slt v2049 c0_i32_1587
  let c0_i32_1588 : BitVec 32 := 0#32
  let v2052 : BitVec 1 := Scalar.cmpi .slt v2048 c0_i32_1588
  let v2053 : BitVec 1 := Scalar.xori v2051 v2052
  let c0_i32_1586 : BitVec 32 := 0#32
  let v2050 : BitVec 1 := Scalar.cmpi .ne v2049 c0_i32_1586
  let v2054 : BitVec 1 := Scalar.andi v2053 v2050
  let v2055 : BitVec 32 := Scalar.addi v2049 v2048
  let v2056 : BitVec 32 := Scalar.select v2054 v2055 v2049
  let c1_i32_1591 : BitVec 32 := 1#32
  let v2057 : BitVec 32 := Scalar.muli v2056 c1_i32_1591
  let v2058 : BitVec 32 := Scalar.addi c0_i32_1592 v2057
  v2058.toNat
def k0_dev73 (d0 : Dev nD) : Nat :=
  let c0_i32_1607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1597 : BitVec 32 := 13#32
  let v2066 : BitVec 32 := Scalar.addi v2 c13_i32_1597
  let c16_i32_1598 : BitVec 32 := 16#32
  let c0_i32_1599 : BitVec 32 := 0#32
  let v2067 : BitVec 1 := Scalar.cmpi .eq c16_i32_1598 c0_i32_1599
  let c1_i32_1600 : BitVec 32 := 1#32
  let v2068 : BitVec 32 := Scalar.select v2067 c1_i32_1600 c16_i32_1598
  let v2069 : BitVec 32 := Scalar.remsi v2066 v2068
  let c0_i32_1602 : BitVec 32 := 0#32
  let v2071 : BitVec 1 := Scalar.cmpi .slt v2069 c0_i32_1602
  let c0_i32_1603 : BitVec 32 := 0#32
  let v2072 : BitVec 1 := Scalar.cmpi .slt v2068 c0_i32_1603
  let v2073 : BitVec 1 := Scalar.xori v2071 v2072
  let c0_i32_1601 : BitVec 32 := 0#32
  let v2070 : BitVec 1 := Scalar.cmpi .ne v2069 c0_i32_1601
  let v2074 : BitVec 1 := Scalar.andi v2073 v2070
  let v2075 : BitVec 32 := Scalar.addi v2069 v2068
  let v2076 : BitVec 32 := Scalar.select v2074 v2075 v2069
  let c1_i32_1606 : BitVec 32 := 1#32
  let v2077 : BitVec 32 := Scalar.muli v2076 c1_i32_1606
  let v2078 : BitVec 32 := Scalar.addi c0_i32_1607 v2077
  v2078.toNat
def k0_dev74 (d0 : Dev nD) : Nat :=
  let c0_i32_1622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1612 : BitVec 32 := 14#32
  let v2086 : BitVec 32 := Scalar.addi v2 c14_i32_1612
  let c16_i32_1613 : BitVec 32 := 16#32
  let c0_i32_1614 : BitVec 32 := 0#32
  let v2087 : BitVec 1 := Scalar.cmpi .eq c16_i32_1613 c0_i32_1614
  let c1_i32_1615 : BitVec 32 := 1#32
  let v2088 : BitVec 32 := Scalar.select v2087 c1_i32_1615 c16_i32_1613
  let v2089 : BitVec 32 := Scalar.remsi v2086 v2088
  let c0_i32_1617 : BitVec 32 := 0#32
  let v2091 : BitVec 1 := Scalar.cmpi .slt v2089 c0_i32_1617
  let c0_i32_1618 : BitVec 32 := 0#32
  let v2092 : BitVec 1 := Scalar.cmpi .slt v2088 c0_i32_1618
  let v2093 : BitVec 1 := Scalar.xori v2091 v2092
  let c0_i32_1616 : BitVec 32 := 0#32
  let v2090 : BitVec 1 := Scalar.cmpi .ne v2089 c0_i32_1616
  let v2094 : BitVec 1 := Scalar.andi v2093 v2090
  let v2095 : BitVec 32 := Scalar.addi v2089 v2088
  let v2096 : BitVec 32 := Scalar.select v2094 v2095 v2089
  let c1_i32_1621 : BitVec 32 := 1#32
  let v2097 : BitVec 32 := Scalar.muli v2096 c1_i32_1621
  let v2098 : BitVec 32 := Scalar.addi c0_i32_1622 v2097
  v2098.toNat
def k0_dev75 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1627 : BitVec 32 := 15#32
  let v2106 : BitVec 32 := Scalar.addi v2 c15_i32_1627
  let c16_i32_1628 : BitVec 32 := 16#32
  let c0_i32_1629 : BitVec 32 := 0#32
  let v2107 : BitVec 1 := Scalar.cmpi .eq c16_i32_1628 c0_i32_1629
  let c1_i32_1630 : BitVec 32 := 1#32
  let v2108 : BitVec 32 := Scalar.select v2107 c1_i32_1630 c16_i32_1628
  let v2109 : BitVec 32 := Scalar.remsi v2106 v2108
  let c0_i32_1632 : BitVec 32 := 0#32
  let v2111 : BitVec 1 := Scalar.cmpi .slt v2109 c0_i32_1632
  let c0_i32_1633 : BitVec 32 := 0#32
  let v2112 : BitVec 1 := Scalar.cmpi .slt v2108 c0_i32_1633
  let v2113 : BitVec 1 := Scalar.xori v2111 v2112
  let c0_i32_1631 : BitVec 32 := 0#32
  let v2110 : BitVec 1 := Scalar.cmpi .ne v2109 c0_i32_1631
  let v2114 : BitVec 1 := Scalar.andi v2113 v2110
  let v2115 : BitVec 32 := Scalar.addi v2109 v2108
  let v2116 : BitVec 32 := Scalar.select v2114 v2115 v2109
  let c1_i32_1636 : BitVec 32 := 1#32
  let v2117 : BitVec 32 := Scalar.muli v2116 c1_i32_1636
  let v2118 : BitVec 32 := Scalar.addi c0_i32_1637 v2117
  v2118.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x32x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x8192 : Shape := ⟨2, ![768, 8192]⟩
abbrev S8192x768 : Shape := ⟨2, ![8192, 768]⟩
abbrev S2x256x8192 : Shape := ⟨3, ![2, 256, 8192]⟩
abbrev S2x256x128x64 : Shape := ⟨4, ![2, 256, 128, 64]⟩
abbrev S_ : Shape := ⟨0, ![]⟩
abbrev S2x128x256x1 : Shape := ⟨4, ![2, 128, 256, 1]⟩
abbrev S2x128x256x256 : Shape := ⟨4, ![2, 128, 256, 256]⟩
abbrev S2x128x256 : Shape := ⟨3, ![2, 128, 256]⟩
abbrev S2x256x128x1 : Shape := ⟨4, ![2, 256, 128, 1]⟩
abbrev S2x128x64x256 : Shape := ⟨4, ![2, 128, 64, 256]⟩
abbrev S16x32x768 : Shape := ⟨3, ![16, 32, 768]⟩

abbrev nBuf : Space → Nat
  | .hbm => 47
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x8192, .f32⟩
  | .hbm, ⟨2, _⟩ => ⟨S768x8192, .f32⟩
  | .hbm, ⟨3, _⟩ => ⟨S768x8192, .f32⟩
  | .hbm, ⟨4, _⟩ => ⟨S8192x768, .f32⟩
  | .hbm, ⟨5, _⟩ => ⟨S2x256x8192, .f32⟩
  | .hbm, ⟨6, _⟩ => ⟨S2x256x128x64, .f32⟩
  | .hbm, ⟨7, _⟩ => ⟨S2x256x8192, .f32⟩
  | .hbm, ⟨8, _⟩ => ⟨S2x256x128x64, .f32⟩
  | .hbm, ⟨9, _⟩ => ⟨S2x256x8192, .f32⟩
  | .hbm, ⟨10, _⟩ => ⟨S2x256x128x64, .f32⟩
  | .hbm, ⟨11, _⟩ => ⟨S_, .f32⟩
  | .hbm, ⟨12, _⟩ => ⟨S2x256x128x64, .f32⟩
  | .hbm, ⟨13, _⟩ => ⟨S_, .f32⟩
  | .hbm, ⟨14, _⟩ => ⟨S2x128x256x1, .f32⟩
  | .hbm, ⟨15, _⟩ => ⟨S_, .f32⟩
  | .hbm, ⟨16, _⟩ => ⟨S2x128x256x1, .f32⟩
  | .hbm, ⟨17, _⟩ => ⟨S2x128x256x256, .f32⟩
  | .hbm, ⟨18, _⟩ => ⟨S_, .f32⟩
  | .hbm, ⟨19, _⟩ => ⟨S2x128x256x256, .f32⟩
  | .hbm, ⟨20, _⟩ => ⟨S2x128x256x256, .f32⟩
  | .hbm, ⟨21, _⟩ => ⟨S_, .f32⟩
  | .hbm, ⟨22, _⟩ => ⟨S2x128x256, .f32⟩
  | .hbm, ⟨23, _⟩ => ⟨S2x128x256x1, .f32⟩
  | .hbm, ⟨24, _⟩ => ⟨S2x128x256x1, .f32⟩
  | .hbm, ⟨25, _⟩ => ⟨S2x128x256x1, .f32⟩
  | .hbm, ⟨26, _⟩ => ⟨S2x128x256x1, .f32⟩
  | .hbm, ⟨27, _⟩ => ⟨S2x128x256x256, .f32⟩
  | .hbm, ⟨28, _⟩ => ⟨S2x128x256x256, .f32⟩
  | .hbm, ⟨29, _⟩ => ⟨S2x128x256x256, .f32⟩
  | .hbm, ⟨30, _⟩ => ⟨S2x128x256x1, .f32⟩
  | .hbm, ⟨31, _⟩ => ⟨S_, .f32⟩
  | .hbm, ⟨32, _⟩ => ⟨S2x128x256, .f32⟩
  | .hbm, ⟨33, _⟩ => ⟨S2x128x256x1, .f32⟩
  | .hbm, ⟨34, _⟩ => ⟨S2x128x256x1, .f32⟩
  | .hbm, ⟨35, _⟩ => ⟨S2x256x128x1, .f32⟩
  | .hbm, ⟨36, _⟩ => ⟨S2x256x128x64, .f32⟩
  | .hbm, ⟨37, _⟩ => ⟨S2x256x128x64, .f32⟩
  | .hbm, ⟨38, _⟩ => ⟨S2x128x64x256, .f32⟩
  | .hbm, ⟨39, _⟩ => ⟨S2x256x128x64, .f32⟩
  | .hbm, ⟨40, _⟩ => ⟨S2x256x128x64, .f32⟩
  | .hbm, ⟨41, _⟩ => ⟨S2x256x128x1, .f32⟩
  | .hbm, ⟨42, _⟩ => ⟨S2x256x128x64, .f32⟩
  | .hbm, ⟨43, _⟩ => ⟨S2x256x128x64, .f32⟩
  | .hbm, ⟨44, _⟩ => ⟨S2x256x8192, .f32⟩
  | .hbm, ⟨45, _⟩ => ⟨S2x256x768, .f32⟩
  | .hbm, ⟨46, _⟩ => ⟨S16x32x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Mesh.lean ====
/-
The mesh of sixteen devices as the kernel addresses it: the other fifteen devices of a device in the order it names
them, the sixteen slots of the exchange buffers split into two halves of rows, the semaphores of the four semaphore
arrays, and the kernel's computed device numbers and offsets in closed form.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The other devices -/

set_option backward.proofsInPublic true in
/-- The device `r + 1` steps after `c` round the mesh: the `r`-th of the fifteen others in the kernel's order. -/
def peer (c : Dev nD) (r : Fin 15) : Dev nD := ⟨(c.val + (1 + r.val)) % 16, Nat.mod_lt _ (by decide)⟩

theorem peer_ne (c : Dev nD) (r : Fin 15) : peer c r ≠ c := by revert c r; decide +kernel

theorem peer_injective (c : Dev nD) : Function.Injective (peer c) := by
  intro r r' h; revert c r r'; decide +kernel

theorem erase_eq_map (c : Dev nD) : (Finset.univ.erase c : Finset (Dev nD)) = Finset.univ.map ⟨peer c, peer_injective c⟩ := by
  revert c; decide +kernel

variable {M : Type} [URA M]

/-- What is held for every other device is what is held for the fifteen in order. -/
theorem bigSep_others (c : Dev nD) (Φ : Dev nD → sProp M) :
    bigSep (Finset.univ.erase c) Φ = bigSep Finset.univ (fun r : Fin 15 => Φ (peer c r)) := by
  rw [erase_eq_map, bigSep_map]; rfl

/-- What is held for every device is what is held for `c` and for the fifteen others. -/
theorem bigSep_devs (c : Dev nD) (Φ : Dev nD → sProp M) :
    bigSep Finset.univ Φ = iprop(Φ c ∗ bigSep Finset.univ (fun r : Fin 15 => Φ (peer c r))) := by
  rw [bigSep_univ_at Φ c, bigSep_others]

/-! ## Counting through a finite range: those still to come and those done -/

/-- The indices from `k` on. -/
abbrev todo (n k : ℕ) : Finset (Fin n) := Finset.univ.filter fun r => k ≤ r.val
/-- The indices before `k`. -/
abbrev done (n k : ℕ) : Finset (Fin n) := Finset.univ.filter fun r => r.val < k

theorem todo_zero (n : ℕ) : todo n 0 = Finset.univ := by ext r; simp [todo]
theorem done_zero (n : ℕ) : done n 0 = ∅ := by ext r; simp [done]
theorem todo_full (n : ℕ) : todo n n = ∅ := by ext r; simp [todo]
theorem done_full (n : ℕ) : done n n = Finset.univ := by ext r; simp [done]

theorem bigSep_todo {n : ℕ} (k : Fin n) (Φ : Fin n → sProp M) :
    bigSep (todo n k.val) Φ = iprop(Φ k ∗ bigSep (todo n (k.val + 1)) Φ) := by
  have e : todo n k.val = insert k (todo n (k.val + 1)) := by
    ext r; simp only [todo, Finset.mem_filter, Finset.mem_univ, true_and, Finset.mem_insert, Fin.ext_iff]; omega
  rw [e, bigSep_insert (by simp [todo])]; rfl

theorem bigSep_done {n : ℕ} (k : Fin n) (Φ : Fin n → sProp M) :
    bigSep (done n (k.val + 1)) Φ = iprop(Φ k ∗ bigSep (done n k.val) Φ) := by
  have e : done n (k.val + 1) = insert k (done n k.val) := by
    ext r; simp only [done, Finset.mem_filter, Finset.mem_univ, true_and, Finset.mem_insert, Fin.ext_iff]; omega
  rw [e, bigSep_insert (by simp [done])]; rfl

/-! ## Slots: rows of one device, one half of them -/

theorem slot_inb (s : Dev nD) (h : Fin 2) : ∀ a, (![s.val, 16 * h.val, 0] : Fin 3 → Nat) a + S1x16x768.size a ≤ S16x32x768.size a := by
  revert s h; decide +kernel
theorem half_inb (h : Fin 2) : ∀ a, (![16 * h.val, 0] : Fin 2 → Nat) a + S16x768.size a ≤ S32x768.size a := by
  revert h; decide +kernel
theorem row_inb (s : Dev nD) : ∀ a, (![s.val, 0, 0] : Fin 3 → Nat) a + S1x32x768.size a ≤ S16x32x768.size a := by
  revert s; decide +kernel
theorem cell_inb (h : Fin 2) (s : Dev nD) : ∀ a, (![h.val, s.val] : Fin 2 → Nat) a + S1x1.size a ≤ S2x16.size a := by
  revert s h; decide +kernel

/-- Half `h` of the rows of device `s` in a buffer of all devices' rows. -/
abbrev slotRect (s : Dev nD) (h : Fin 2) : Rect S16x32x768 := Rect.unit (s := S16x32x768) ![s.val, 16 * h.val, 0] S1x16x768.size (slot_inb s h)
/-- Half `h` of one device's rows. -/
abbrev halfRect (h : Fin 2) : Rect S32x768 := Rect.unit (s := S32x768) ![16 * h.val, 0] S16x768.size (half_inb h)

/-- The slot of `s`, half `h`, of a buffer, as the transfers see it: a plain matrix of rows. -/
abbrev slotM (b : Memref sig .tc .vmem S16x32x768 .f32) (s : Dev nD) (h : Fin 2) : Memref sig .tc .vmem S16x768 .f32 :=
  (b.slice (Rect.unit (s := S16x32x768) ![s.val, 16 * h.val, 0] S1x16x768.size (slot_inb s h)) (fun _ => rfl)).squeeze S16x768 squeezes_S1x16x768_S16x768
/-- Half `h` of the buffer of one device's rows. -/
abbrev halfM (b : Memref sig .tc .vmem S32x768 .f32) (h : Fin 2) : Memref sig .tc .vmem S16x768 .f32 :=
  b.slice (Rect.unit (s := S32x768) ![16 * h.val, 0] S16x768.size (half_inb h)) (fun _ => rfl)

theorem slotM_eq (b : Memref sig .tc .vmem S16x32x768 .f32) (s : Dev nD) (h : Fin 2) {off : Fin 3 → Nat}
    (e : off = ![s.val, 16 * h.val, 0]) (p : ∀ a, off a + S1x16x768.size a ≤ S16x32x768.size a) :
    (b.slice (Rect.unit (s := S16x32x768) off S1x16x768.size p) (fun _ => rfl)).squeeze S16x768 squeezes_S1x16x768_S16x768 = slotM b s h := by
  subst e; rfl

/-- The buffers of the exchange: the device's partial products, the rows received for reduction, the rows gathered,
    and the device's own reduced rows. -/
abbrev partM : Memref sig .tc .vmem S16x32x768 .f32 := Memref.whole cc0_scratch1
abbrev redM : Memref sig .tc .vmem S32x768 .f32 := Memref.whole cc0_scratch2
abbrev rsM : Memref sig .tc .vmem S16x32x768 .f32 := Memref.whole cc0_scratch3
abbrev agM : Memref sig .tc .vmem S16x32x768 .f32 := Memref.whole cc0_scratch4

/-! ## Semaphores -/

/-- The four semaphore arrays, numbered: sends of the reduction, their receipts, sends of the gathering, their receipts. -/
theorem cellNum_lt (k : Fin 4) (h : Fin 2) (s : Fin 16) : 6 + (32 * k.val + (16 * h.val + s.val)) < 134 := by omega

set_option backward.proofsInPublic true in
/-- The semaphore of array `k` at half `h`, slot `s`. -/
def dsem (k : Fin 4) (h : Fin 2) (s : Dev nD) : DmaSem sig := ⟨6 + (32 * k.val + (16 * h.val + s.val)), cellNum_lt k h s⟩

/-- An array's element as the kernel takes it. -/
abbrev elemOf (a : DmaSems sig S2x16) (off : Fin 2 → Nat) (p : ∀ i, off i + S1x1.size i ≤ S2x16.size i) : DmaSem sig :=
  ((a.slice (Rect.unit (s := S2x16) off S1x1.size p)).squeeze S_ squeezes_S1x1_S_).sem

theorem elemOf_consecutive (base : ℕ) (hb : base + S2x16.numel ≤ 134) (h : Fin 2) (s : Fin 16) {off : Fin 2 → Nat}
    (p : ∀ i, off i + S1x1.size i ≤ S2x16.size i) (e : off = ![h.val, s.val]) :
    (elemOf (SemArray.consecutive (n := 134) base S2x16 hb) off p).val = base + (16 * h.val + s.val) := by
  subst e
  show base + (S2x16.rowMajor _).val = _
  congr 1
  revert h s; decide +kernel

theorem elem0 (h : Fin 2) (s : Dev nD) {off : Fin 2 → Nat} (p) (e : off = ![h.val, s.val]) : elemOf cc0_scratch5 off p = dsem 0 h s :=
  Fin.ext ((elemOf_consecutive 6 _ h s p e).trans (by show _ = 6 + (32 * 0 + _); omega))
theorem elem1 (h : Fin 2) (s : Dev nD) {off : Fin 2 → Nat} (p) (e : off = ![h.val, s.val]) : elemOf cc0_scratch6 off p = dsem 1 h s :=
  Fin.ext ((elemOf_consecutive 38 _ h s p e).trans (by show _ = 6 + (32 * 1 + _); omega))
theorem elem2 (h : Fin 2) (s : Dev nD) {off : Fin 2 → Nat} (p) (e : off = ![h.val, s.val]) : elemOf cc0_scratch7 off p = dsem 2 h s :=
  Fin.ext ((elemOf_consecutive 70 _ h s p e).trans (by show _ = 6 + (32 * 2 + _); omega))
theorem elem3 (h : Fin 2) (s : Dev nD) {off : Fin 2 → Nat} (p) (e : off = ![h.val, s.val]) : elemOf cc0_scratch8 off p = dsem 3 h s :=
  Fin.ext ((elemOf_consecutive 102 _ h s p e).trans (by show _ = 6 + (32 * 3 + _); omega))

/-! ## The computed offsets -/

theorem off1_eq (c : Dev nD) (r : Fin 15) : k0_off1 c (BitVec.ofNat 32 (1 + r.val)) = ![(0 : Fin 2).val, (peer c r).val] := by
  revert c r; decide +kernel
theorem off5_eq (c : Dev nD) (r : Fin 15) : k0_off5 c (BitVec.ofNat 32 (1 + r.val)) = ![(1 : Fin 2).val, (peer c r).val] := by
  revert c r; decide +kernel
theorem off4_eq (c : Dev nD) (r : Fin 15) : k0_off4 c (BitVec.ofNat 32 (1 + r.val)) = ![(peer c r).val, 16 * (0 : Fin 2).val, 0] := by
  revert c r; decide +kernel
theorem off8_eq (c : Dev nD) (r : Fin 15) : k0_off8 c (BitVec.ofNat 32 (1 + r.val)) = ![(peer c r).val, 16 * (1 : Fin 2).val, 0] := by
  revert c r; decide +kernel

/-! ## What one transfer moves -/

/-- The credit of one transfer of sixteen rows. -/
def N : ℕ := (slotM rsM 0 0).view.dmaCredit

theorem N_pos : 0 < N := View.dmaCredit_pos _ (by decide)
/-- It depends on the shape alone. -/
theorem N_any (m : Memref sig .tc .vmem S16x768 .f32) : m.view.dmaCredit = N := rfl
theorem amount_any (m : Memref sig .tc .vmem S16x768 .f32) (q : DmaSem sig) : m.view.amount (.dma q) = N := rfl

attribute [irreducible] N

end Cert.MeshProof
-- ==== Proof.Contents.lean ====
/-
What the buffers hold, over any float values: each device's attention rows and partial products from its blocks of the
inputs, the rows a device receives for reduction, the reduced rows, and the gathered result — with the facts that a
transfer into a slot leaves exactly these contents there.
-/
module

public import proofs.«01_k».proof.Proof.Mesh
public import Idealize.ShloMosaic.Lib.Pointwise.Index
public import Idealize.ShloMosaic.Lib.Pipeline.Value

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The blocks of the inputs the sixteen devices work on. -/
structure Inp (F : FTy → Type) where
  /-- the activations, -/
  x : Dev nD → Vec F S2x256x768 .f32
  /-- the device's columns of the query, key and value weights, -/
  wq : Dev nD → Vec F S768x512 .f32
  wk : Dev nD → Vec F S768x512 .f32
  wv : Dev nD → Vec F S768x512 .f32
  /-- and its rows of the output weights. -/
  wo : Dev nD → Vec F S512x768 .f32

variable {F : FTy → Type} [FloatOps F] (I : Inp F)

/-! ## One head -/

/-- Softmax attention of one head of one batch entry, as the kernel computes it: scaled scores, their row maxima
    subtracted, exponentials, their row sums dividing the product with the values. -/
def headBlk (q k v : FVec F S256x64 .f32) : FVec F S256x64 .f32 :=
  let s : FVec F S256x256 .f32 := mulf (matmul dot_S256x64_S256x64_S256x256_1_1_0_0_n_n none q k (constant S256x256 .f32 0x00000000#32))
    (broadcast S256x256 (Scalar.ofBits .f32 0x3E000000#32))
  let p : FVec F S256x256 .f32 := exp (subf s (broadcastTo S256x256
    (shapeCast S256x1 (multiReduction .maximumf [1] S256 s 0xFF800000#32 reduces_S256x256_S256 (.inl rfl) rfl) shapeCasts_S256_S256x1)
    broadcasts_S256x1_S256x256))
  let l : FVec F S256x1 .f32 := shapeCast S256x1 (multiReduction .add [1] S256 p 0x00000000#32 reduces_S256x256_S256 (.inl rfl) rfl) shapeCasts_S256_S256x1
  shapeCast S256x64 (divf (matmul dot_S256x256_S256x64_S256x64_1_0_0_1_n_n none p v (constant S256x64 .f32 0x00000000#32))
    (broadcastTo S256x64 l broadcasts_S256x1_S256x64)) shapeCasts_S256x64_S256x64

theorem head_slices (b : Fin 2) (j : Fin 8) : S512x512.Slices ![256 * b.val, 64 * j.val] S256x64 := by revert b j; decide +kernel

/-- The columns of head `j`, rows of batch entry `b`, of a projection. -/
def headCols (v : FVec F S512x512 .f32) (b : Fin 2) (j : Fin 8) : FVec F S256x64 .f32 :=
  extractStridedSlice S256x64 ![256 * b.val, 64 * j.val] v (head_slices b j)

/-- Head `j` of batch entry `b` on device `c`. -/
def headAt (c : Dev nD) (b : Fin 2) (j : Fin 8) : FVec F S256x64 .f32 :=
  headBlk (headCols (k0_pay2 (I.x c) (I.wq c)) b j) (headCols (k0_pay3 (I.x c) (I.wk c)) b j) (headCols (k0_pay4 (I.x c) (I.wv c)) b j)

theorem div_lt {n a b : ℕ} (h : n < a * b) : n / b < a := Nat.div_lt_of_lt_mul (Nat.mul_comm a b ▸ h)

/-- The device's attention rows: its eight heads of both batch entries side by side. -/
def attn (c : Dev nD) : Vec F S512x512 .f32 := fun i =>
  headAt I c ⟨(i 0).val / 256, div_lt (a := 2) (i 0).isLt⟩ ⟨(i 1).val / 64, div_lt (a := 8) (i 1).isLt⟩
    (ix2 ⟨(i 0).val % 256, Nat.mod_lt _ (by decide)⟩ ⟨(i 1).val % 64, Nat.mod_lt _ (by decide)⟩)

/-- The device's partial products with its rows of the output weights, in sixteen groups of thirty-two rows. -/
def part (c : Dev nD) : Vec F S16x32x768 .f32 := k0_pay35 (attn I c) (I.wo c)

/-- What device `c` holds for reduction: from each device its partial product of `c`'s rows. -/
def rs (c : Dev nD) : Vec F S16x32x768 .f32 := fun i => part I (i 0) (ix3 c (i 1) (i 2))

/-- The sum over the sixteen devices, in the kernel's order: neighbours first, in a tree. -/
def tree (g : Dev nD → F .f32) : F .f32 :=
  FloatOps.addf
    (FloatOps.addf (FloatOps.addf (FloatOps.addf (g 0) (g 1)) (FloatOps.addf (g 2) (g 3)))
      (FloatOps.addf (FloatOps.addf (g 4) (g 5)) (FloatOps.addf (g 6) (g 7))))
    (FloatOps.addf (FloatOps.addf (FloatOps.addf (g 8) (g 9)) (FloatOps.addf (g 10) (g 11)))
      (FloatOps.addf (FloatOps.addf (g 12) (g 13)) (FloatOps.addf (g 14) (g 15))))

/-- The reduced rows of device `c`. -/
def red (c : Dev nD) : Vec F S32x768 .f32 := fun i => tree fun p => part I p (ix3 c (i 0) (i 1))

/-- The gathered result, the same on every device. -/
def all : Vec F S16x32x768 .f32 := fun i => red I (i 0) (ix2 (i 1) (i 2))

/-! ## Where a slot's elements lie -/

omit [FloatOps F] in
/-- Element `(a, j)` of half `h` of a slot is element `(s, 16 h + a, j)` of its buffer. -/
theorem slot_emb (b : Memref sig .tc .vmem S16x32x768 .f32) (s : Dev nD) (h : Fin 2) (i : S16x768.Idx) :
    (slotM b s h).view.emb i = b.view.emb (ix3 s ⟨16 * h.val + (i 0).val, by have := (i 0).isLt; have := h.isLt; show _ < 32; have : (i 0).val < 16 := (i 0).isLt; omega⟩ (i 1)) := by
  show b.view.emb ((Rect.unit (s := S16x32x768) ![s.val, 16 * h.val, 0] S1x16x768.size (slot_inb s h)).emb (Shape.reshapeEquiv _ i)) = _
  congr 1
  rw [Shape.reshapeEquiv_cons_one (n := 2) (d := ![16, 768]) _ i]
  funext a
  refine Fin.ext ?_
  rw [Rect.emb_apply]
  match a with
  | ⟨0, _⟩ => show s.val + 1 * 0 = s.val; omega
  | ⟨1, _⟩ => show 16 * h.val + 1 * (i 0).val = 16 * h.val + (i 0).val; omega
  | ⟨2, _⟩ => show 0 + 1 * (i 1).val = (i 1).val; omega

omit [FloatOps F] in
theorem half_emb (b : Memref sig .tc .vmem S32x768 .f32) (h : Fin 2) (i : S16x768.Idx) :
    (halfM b h).view.emb i = b.view.emb (ix2 ⟨16 * h.val + (i 0).val, by have := h.isLt; show _ < 32; have : (i 0).val < 16 := (i 0).isLt; omega⟩ (i 1)) := by
  show b.view.emb ((Rect.unit (s := S32x768) ![16 * h.val, 0] S16x768.size (half_inb h)).emb i) = _
  congr 1
  funext a
  refine Fin.ext ?_
  rw [Rect.emb_apply]
  match a with
  | ⟨0, _⟩ => show 16 * h.val + 1 * (i 0).val = 16 * h.val + (i 0).val; omega
  | ⟨1, _⟩ => show 0 + 1 * (i 1).val = (i 1).val; omega

/-! ## The sets of elements -/

/-- The elements of the slot of `s`, half `h`. -/
def slotSet (s : Dev nD) (h : Fin 2) : Finset S16x32x768.Idx := (slotRect s h).set
/-- The elements of half `h` of all slots. -/
def sideSet (h : Fin 2) : Finset S16x32x768.Idx := Finset.univ.biUnion fun s : Dev nD => slotSet s h
/-- The elements of half `h` of one device's rows. -/
def halfSet (h : Fin 2) : Finset S32x768.Idx := (halfRect h).set

theorem mem_slotSet (s : Dev nD) (h : Fin 2) (i : S16x32x768.Idx) :
    i ∈ slotSet s h ↔ i 0 = s ∧ 16 * h.val ≤ (i 1).val ∧ (i 1).val < 16 * h.val + 16 := by
  unfold slotSet slotRect
  rw [Rect.mem_set_unit, Fin.forall_fin_succ, Fin.forall_fin_succ, Fin.forall_fin_succ]
  constructor
  · rintro ⟨h0, h1, h2, -⟩
    have h0' : s.val ≤ (i 0).val ∧ (i 0).val < s.val + 1 := h0
    exact ⟨Fin.ext (by omega), h1⟩
  · rintro ⟨h0, h1⟩
    refine ⟨?_, h1, ?_, fun a => a.elim0⟩
    · show s.val ≤ (i 0).val ∧ (i 0).val < s.val + 1; rw [h0]; omega
    · show 0 ≤ (i 2).val ∧ (i 2).val < 0 + 768
      have : (i 2).val < 768 := (i 2).isLt
      omega

theorem mem_sideSet (h : Fin 2) (i : S16x32x768.Idx) : i ∈ sideSet h ↔ 16 * h.val ≤ (i 1).val ∧ (i 1).val < 16 * h.val + 16 := by
  unfold sideSet
  simp only [Finset.mem_biUnion, Finset.mem_univ, true_and, mem_slotSet]
  exact ⟨fun ⟨s, _, h⟩ => h, fun h => ⟨i 0, rfl, h⟩⟩

theorem mem_halfSet (h : Fin 2) (i : S32x768.Idx) : i ∈ halfSet h ↔ 16 * h.val ≤ (i 0).val ∧ (i 0).val < 16 * h.val + 16 := by
  unfold halfSet halfRect
  rw [Rect.mem_set_unit, Fin.forall_fin_succ, Fin.forall_fin_succ]
  constructor
  · rintro ⟨h0, -⟩; exact h0
  · intro h0
    refine ⟨h0, ?_, fun a => a.elim0⟩
    show 0 ≤ (i 1).val ∧ (i 1).val < 0 + 768
    have : (i 1).val < 768 := (i 1).isLt
    omega

theorem slot_disjoint (h : Fin 2) (s s' : Dev nD) (hs : s ≠ s') : Disjoint (slotSet s h) (slotSet s' h) := by
  rw [Finset.disjoint_left]; intro i hi hi'
  rw [mem_slotSet] at hi hi'; exact hs (hi.1.symm.trans hi'.1)

theorem side_disjoint : Disjoint (sideSet 0) (sideSet 1) := by
  rw [Finset.disjoint_left]; intro i hi hi'
  rw [mem_sideSet] at hi hi'
  have h1 : (i 1).val < 16 := by have := hi.2; simpa using this
  have h2 : 16 ≤ (i 1).val := by have := hi'.1; simpa using this
  omega

theorem side_union : sideSet 0 ∪ sideSet 1 = Finset.univ := by
  ext i
  simp only [Finset.mem_union, mem_sideSet, Finset.mem_univ, iff_true]
  have : (i 1).val < 32 := (i 1).isLt
  show (16 * 0 ≤ (i 1).val ∧ (i 1).val < 16 * 0 + 16) ∨ (16 * 1 ≤ (i 1).val ∧ (i 1).val < 16 * 1 + 16)
  omega

theorem half_disjoint : Disjoint (halfSet 0) (halfSet 1) := by
  rw [Finset.disjoint_left]; intro i hi hi'
  rw [mem_halfSet] at hi hi'
  have h1 : (i 0).val < 16 := by have := hi.2; simpa using this
  have h2 : 16 ≤ (i 0).val := by have := hi'.1; simpa using this
  omega

theorem half_union : halfSet 0 ∪ halfSet 1 = Finset.univ := by
  ext i
  simp only [Finset.mem_union, mem_halfSet, Finset.mem_univ, iff_true]
  have : (i 0).val < 32 := (i 0).isLt
  show (16 * 0 ≤ (i 0).val ∧ (i 0).val < 16 * 0 + 16) ∨ (16 * 1 ≤ (i 0).val ∧ (i 0).val < 16 * 1 + 16)
  omega

theorem part_set (s : Dev nD) (h : Fin 2) : (slotM partM s h).view.set = slotSet s h := by
  exact (View.set_reshape ((View.whole cc0_scratch1).slice (slotRect s h)) _).trans (View.set_slice_whole _ _)
theorem rs_set (s : Dev nD) (h : Fin 2) : (slotM rsM s h).view.set = slotSet s h := by
  exact (View.set_reshape ((View.whole cc0_scratch3).slice (slotRect s h)) _).trans (View.set_slice_whole _ _)
theorem ag_set (s : Dev nD) (h : Fin 2) : (slotM agM s h).view.set = slotSet s h := by
  exact (View.set_reshape ((View.whole cc0_scratch4).slice (slotRect s h)) _).trans (View.set_slice_whole _ _)
theorem red_set (h : Fin 2) : (halfM redM h).view.set = halfSet h := by
  show ((View.whole cc0_scratch2).slice (halfRect h)).set = _
  exact View.set_slice_whole _ _

/-! ## What a transfer leaves -/

/-- A transfer through a view leaves `G` on its elements when every element sent is `G`'s at its place. -/
theorem landed {sp : Space} {s : Shape} {e : EltTy} (v : View sig .tc sp s e) (fd G : v.ty.Contents (Elt F)) (w : s.Idx → Elt F e)
    (hw : ∀ x, _root_.cast (congrArg (Elt F) v.elt_eq.symm) (w x) = G (v.emb x)) :
    ∀ i ∈ v.set, v.write (Elt F) fd w Finset.univ i = G i := by
  intro i hi
  obtain ⟨x, -, rfl⟩ := Finset.mem_map.mp hi
  rw [View.write_emb_of_mem _ _ (Finset.mem_univ x), hw]

/-- Device `s`'s rows for `d`, landed in `d`'s slot of `s`. -/
theorem rs_landed (s d : Dev nD) (h : Fin 2) (fd : S16x32x768.Idx → Elt F .f32) :
    ∀ i ∈ slotSet s h, (slotM rsM s h).view.write (Elt F) fd ((slotM partM d h).view.read (Elt F) (part I s)) Finset.univ i = rs I d i := by
  rw [← rs_set s h]
  refine landed (slotM rsM s h).view fd (rs I d) _ fun x => ?_
  rw [View.read_apply, slot_emb, slot_emb]
  rfl

/-- Device `s`'s reduced rows, landed in any device's slot of `s`. -/
theorem ag_landed (s : Dev nD) (h : Fin 2) (fd : S16x32x768.Idx → Elt F .f32) :
    ∀ i ∈ slotSet s h, (slotM agM s h).view.write (Elt F) fd ((halfM redM h).view.read (Elt F) (red I s)) Finset.univ i = all I i := by
  rw [← ag_set s h]
  refine landed (slotM agM s h).view fd (all I) _ fun x => ?_
  rw [View.read_apply, slot_emb, half_emb]
  rfl

end Cert.MeshProof
-- ==== Proof.Schedule.lean ====
/-
The protocol: which semaphore each transfer and signal raises, by whom and by how much, and what its landing hands over;
what a device still owes the others at each stage; and the order of the waits.

Every semaphore is used for one round. The runtime's barrier semaphore of a device is raised by one by each of the other
fifteen, and each hands over its own slots for that device. A transfer's receive semaphore hands over the filled slot,
its send semaphore the sent rows back. A device's transfer to itself uses the receive semaphore alone, which then hands
over both.
-/
module

public import proofs.«01_k».proof.Proof.Contents
public import Idealize.ShloMosaic.Lib.ShareLeaves

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)
open Idealize.ShloMosaic.Pipeline (Dat Cfg Window BodyObligation cellOf)

variable {F : FTy → Type} [FloatOps F]

/-! ## The resource algebra: the pipeline's cells and the exchange's -/

abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (I : Inp F)

/-! ## Cells -/

/-- The runtime's barrier semaphore of the kernel. -/
abbrev barS : Sem sig := (SemArray.scalar (sig.barrier 0 rfl) : Sems sig S_).sem
abbrev barCell (c : Dev nD) : GSem nD τ sig := ((c : Thread nD τ), .reg barS)
/-- The cell of array `k`, half `h`, slot `s`, on device `c`. -/
abbrev dcell (c : Dev nD) (k : Fin 4) (h : Fin 2) (s : Dev nD) : GSem nD τ sig := ((c : Thread nD τ), .dma (dsem k h s))

set_option backward.proofsInPublic true in
/-- The array, half and slot a semaphore's number stands for. -/
def arrOf (q : DmaSem sig) : Fin 4 := ⟨(q.val - 6) / 32 % 4, Nat.mod_lt _ (by decide)⟩
set_option backward.proofsInPublic true in
def halfOf (q : DmaSem sig) : Fin 2 := ⟨(q.val - 6) / 16 % 2, Nat.mod_lt _ (by decide)⟩
set_option backward.proofsInPublic true in
def slotOf (q : DmaSem sig) : Dev nD := ⟨(q.val - 6) % 16, Nat.mod_lt _ (by decide)⟩

theorem dsem_val (k : Fin 4) (h : Fin 2) (s : Dev nD) : (dsem k h s).val = 6 + (32 * k.val + (16 * h.val + s.val)) := rfl
theorem arrOf_dsem (k : Fin 4) (h : Fin 2) (s : Dev nD) : arrOf (dsem k h s) = k := by
  have := s.isLt; have := h.isLt; have := k.isLt
  refine Fin.ext ?_; show ((dsem k h s).val - 6) / 32 % 4 = k.val; rw [dsem_val]
  have : s.val < 16 := s.isLt
  omega
theorem halfOf_dsem (k : Fin 4) (h : Fin 2) (s : Dev nD) : halfOf (dsem k h s) = h := by
  have : s.val < 16 := s.isLt; have := h.isLt; have := k.isLt
  refine Fin.ext ?_; show ((dsem k h s).val - 6) / 16 % 2 = h.val; rw [dsem_val]
  omega
theorem slotOf_dsem (k : Fin 4) (h : Fin 2) (s : Dev nD) : slotOf (dsem k h s) = s := by
  have : s.val < 16 := s.isLt; have := h.isLt; have := k.isLt
  refine Fin.ext ?_; show ((dsem k h s).val - 6) % 16 = s.val; rw [dsem_val]
  omega
theorem dsem_ge (k : Fin 4) (h : Fin 2) (s : Dev nD) : ¬ (dsem k h s).val < 6 := by rw [dsem_val]; omega

/-! ## What is handed over -/

/-- A slot of a device's partial products, received rows, or gathered rows, with contents `f`. -/
def partPts (c s : Dev nD) (h : Fin 2) (f : Vec F S16x32x768 .f32) : sProp 𝕄 := ((c : Thread nD τ).loc cc0_scratch1) ↦[slotSet s h]{fullShare} f
def rsPts (c s : Dev nD) (h : Fin 2) (f : Vec F S16x32x768 .f32) : sProp 𝕄 := ((c : Thread nD τ).loc cc0_scratch3) ↦[slotSet s h]{fullShare} f
def agPts (c s : Dev nD) (h : Fin 2) (f : Vec F S16x32x768 .f32) : sProp 𝕄 := ((c : Thread nD τ).loc cc0_scratch4) ↦[slotSet s h]{fullShare} f
/-- The share set aside for `d` of half `h` of a device's reduced rows. -/
def redPts (c : Dev nD) (h : Fin 2) (d : Dev nD) (f : Vec F S32x768 .f32) : sProp 𝕄 := ((c : Thread nD τ).loc cc0_scratch2) ↦[halfSet h]{leaf 4 fullShare d} f

omit [FloatOps F] in
instance partPts_storable (c s : Dev nD) (h : Fin 2) (f) : BI.Storable (upEmb : UEmb _ 𝕄) (partPts (F := F) c s h f) := by unfold partPts; infer_instance
omit [FloatOps F] in
instance rsPts_storable (c s : Dev nD) (h : Fin 2) (f) : BI.Storable (upEmb : UEmb _ 𝕄) (rsPts (F := F) c s h f) := by unfold rsPts; infer_instance
omit [FloatOps F] in
instance agPts_storable (c s : Dev nD) (h : Fin 2) (f) : BI.Storable (upEmb : UEmb _ 𝕄) (agPts (F := F) c s h f) := by unfold agPts; infer_instance
omit [FloatOps F] in
instance redPts_storable (c : Dev nD) (h : Fin 2) (d : Dev nD) (f) : BI.Storable (upEmb : UEmb _ 𝕄) (redPts (F := F) c h d f) := by unfold redPts; infer_instance

/-- A device's landing slots for `s`, at any contents: both halves of the slot of received rows and of the gathered. -/
def landing (c s : Dev nD) (h : Fin 2) : sProp 𝕄 := iprop((∃ f, rsPts (F := F) c s h f) ∗ (∃ f, agPts (F := F) c s h f))
def barPay (c p : Dev nD) : sProp 𝕄 := iprop(landing (F := F) p c 0 ∗ landing (F := F) p c 1)

omit [FloatOps F] in
instance barPay_storable (c p : Dev nD) : BI.Storable (upEmb : UEmb _ 𝕄) (barPay (F := F) c p) := by unfold barPay landing; infer_instance

/-- What the round of the cell of array `k`, half `h`, slot `s` on device `c` hands over. -/
def cellPay (k : Fin 4) (c : Dev nD) (h : Fin 2) (s : Dev nD) : sProp 𝕄 :=
  match k with
  | 0 => partPts c s h (part I c)
  | 1 => iprop(rsPts c s h (rs I c) ∗ (if s = c then partPts c c h (part I c) else iprop(emp)))
  | 2 => redPts c h s (red I c)
  | 3 => iprop(agPts c s h (all I) ∗ (if s = c then redPts c h c (red I c) else iprop(emp)))

instance cellPay_storable (k : Fin 4) (c : Dev nD) (h : Fin 2) (s : Dev nD) : BI.Storable (upEmb : UEmb _ 𝕄) (cellPay I k c h s) := by
  unfold cellPay
  (repeat' split) <;> infer_instance

/-- Who raises the cell of array `k`, slot `s` on device `c`: itself at a send cell (but none for its own slot), device `s`
    at a receive cell. -/
def raisers (k : Fin 4) (c s : Dev nD) : Finset (Dev nD) :=
  match k with
  | 0 | 2 => if s = c then ∅ else {c}
  | 1 | 3 => {s}

/-- The protocol: one round. -/
def Rd : Rounds.Schedule (GSem nD τ sig) (Dev nD) 𝕄 where
  duties g r := if r = 0 ∧ g.1.2 = .tc then
      (match g.2 with
      | .reg _ => Finset.univ.erase g.1.1
      | .dma q => if q.val < 6 then ∅ else raisers (arrOf q) g.1.1 (slotOf q))
    else ∅
  unitless _ := False
  amount g _ _ := match g.2 with | .reg _ => 1 | .dma _ => N
  payload g _ d := match g.2 with
    | .reg _ => barPay g.1.1 d
    | .dma q => cellPay I (arrOf q) g.1.1 (halfOf q) (slotOf q)
  amount_pos g _ _ _ := by
    rcases g with ⟨t, q | q⟩
    · exact Nat.one_pos
    · exact N_pos

instance Rd_storable (g : GSem nD τ sig) (r : ℕ) (d : Dev nD) : BI.Storable (upEmb : UEmb _ 𝕄) ((Rd I).payload g r d) := by
  rcases g with ⟨t, q | q⟩
  · show BI.Storable upEmb (barPay t.1 d); infer_instance
  · show BI.Storable upEmb (cellPay I (arrOf q) t.1 (halfOf q) (slotOf q)); infer_instance

section Tables
variable (c : Dev nD) (k : Fin 4) (h : Fin 2) (s d : Dev nD)

theorem duties_bar : (Rd I).duties (barCell c) 0 = Finset.univ.erase c := by dsimp only [Rd]; exact if_pos ⟨rfl, rfl⟩
theorem duties_cell : (Rd I).duties (dcell c k h s) 0 = raisers k c s := by
  dsimp only [Rd]
  rw [if_pos ⟨rfl, rfl⟩, if_neg (dsem_ge k h s), arrOf_dsem, slotOf_dsem]
theorem duties_later (g : GSem nD τ sig) : ∀ r, 1 ≤ r → (Rd I).duties g r = ∅ :=
  fun r hr => by dsimp only [Rd]; rw [if_neg fun h => by omega]
theorem amount_bar : (Rd I).amount (barCell c) 0 d = 1 := rfl
theorem amount_cell : (Rd I).amount (dcell c k h s) 0 d = N := rfl
theorem payload_bar : (Rd I).payload (barCell c) 0 d = barPay c d := rfl
theorem payload_cell : (Rd I).payload (dcell c k h s) 0 d = cellPay I k c h s := by
  dsimp only [Rd]; rw [arrOf_dsem, halfOf_dsem, slotOf_dsem]

theorem expect_bar : (Rd I).expect (barCell c) 0 = 15 := by
  unfold Schedule.expect Schedule.amountOf
  rw [duties_bar, Finset.sum_congr rfl fun d _ => amount_bar I c d, Finset.sum_const, Finset.card_erase_of_mem (Finset.mem_univ c)]
  rfl
theorem expect_cell {e : Dev nD} (he : raisers k c s = {e}) : (Rd I).expect (dcell c k h s) 0 = N := by
  unfold Schedule.expect Schedule.amountOf; rw [duties_cell, he, Finset.sum_singleton, amount_cell]

theorem rest_bar : bigSep ((Rd I).duties (barCell c) 0 \ ∅) (fun d => (Rd I).payload (barCell c) 0 d) = bigSep Finset.univ fun r : Fin 15 => barPay (F := F) c (peer c r) := by
  rw [Finset.sdiff_empty, duties_bar, bigSep_others]; rfl
theorem rest_cell {e : Dev nD} (he : raisers k c s = {e}) :
    bigSep ((Rd I).duties (dcell c k h s) 0 \ ∅) (fun d => (Rd I).payload (dcell c k h s) 0 d) = cellPay I k c h s := by
  rw [Finset.sdiff_empty, duties_cell, he, bigSep_singleton, payload_cell]
end Tables

/-! ## What a device owes, by stage

Stage 0 is the fifteen barrier signals, stages 1 and 2 the transfers of the two halves for reduction, stages 3 and 4 those
of the reduced rows; at each stage the fifteen others in order. -/

/-- The cell raised at stage `p` for the `r`-th other device, and by how much. -/
def owedCell (c : Dev nD) (x : Fin 5 × Fin 15) : GSem nD τ sig :=
  match x.1 with
  | 0 => barCell (peer c x.2)
  | 1 => dcell (peer c x.2) 1 0 c
  | 2 => dcell (peer c x.2) 1 1 c
  | 3 => dcell (peer c x.2) 3 0 c
  | 4 => dcell (peer c x.2) 3 1 c
def owedAmt (p : Fin 5) : ℕ := if p = 0 then 1 else N

/-- What is still to come when `k` of stage `p` are done. -/
def debts (p : Fin 5) (k : ℕ) : Finset (Fin 5 × Fin 15) := Finset.univ.filter fun x => p.val < x.1.val ∨ (x.1 = p ∧ k ≤ x.2.val)

def owed (c : Dev nD) (p : Fin 5) (k : ℕ) : CellTallies nD τ sig Unit := ∑ x ∈ debts p k, tallyAt (owedCell c x) () (owedAmt x.1)

theorem owed_step (c : Dev nD) (p : Fin 5) (r : Fin 15) : owed c p r.val = owed c p (r.val + 1) + tallyAt (owedCell c (p, r)) () (owedAmt p) := by
  have e : debts p r.val = insert (p, r) (debts p (r.val + 1)) := by
    ext ⟨q, r'⟩
    simp only [debts, Finset.mem_filter, Finset.mem_univ, true_and, Finset.mem_insert, Prod.mk.injEq, Fin.ext_iff]
    omega
  unfold owed
  rw [e, Finset.sum_insert (by simp [debts]), add_comm]

theorem owed_next (c : Dev nD) (p : Fin 5) (q : Fin 5) (h : q.val = p.val + 1) : owed c p 15 = owed c q 0 := by
  unfold owed
  congr 1
  ext ⟨q', r'⟩
  simp only [debts, Finset.mem_filter, Finset.mem_univ, true_and, Fin.ext_iff]
  have := r'.isLt
  omega

theorem owed_end (c : Dev nD) : owed c 4 15 = 0 := by
  have e : debts 4 15 = ∅ := by
    ext ⟨q', r'⟩
    simp only [debts, Finset.mem_filter, Finset.mem_univ, true_and, Fin.ext_iff]
    have := r'.isLt; have := q'.isLt
    have e4 : (4 : Fin 5).val = 4 := rfl
    rw [e4]
    constructor
    · omega
    · intro h; exact absurd h (Finset.notMem_empty _)
  unfold owed; rw [e, Finset.sum_empty]

theorem owed_pos {c : Dev nD} {p : Fin 5} {k : ℕ} {g : GSem nD τ sig} {u : Unit} (h : 0 < owed c p k g u) :
    ∃ x ∈ debts p k, g = owedCell c x := by
  unfold owed at h
  rw [Finset.sum_apply, Finsupp.finset_sum_apply] at h
  obtain ⟨x, hx, h0⟩ := Finset.exists_ne_zero_of_sum_ne_zero (Nat.pos_iff_ne_zero.mp h)
  refine ⟨x, hx, ?_⟩
  rw [tallyAt_apply] at h0
  by_contra hn
  exact h0 (if_neg fun h' => hn h'.1)

/-! ## Levels -/

def L (g : GSem nD τ sig) : Finset Unit := if g.1.2 = .tc then {()} else ∅
/-- Barrier cells at 1, the reduction's receive cells at 2, the gathering's at 3, all others at 0. -/
def lv (g : GSem nD τ sig) (_ : Unit) : ℕ := match g.2 with
  | .reg _ => 1
  | .dma q => if q.val < 6 then 0 else match arrOf q with | 0 => 0 | 1 => 2 | 2 => 0 | 3 => 3

theorem L_of_ne (g : GSem nD τ sig) (h : g.1.2 ≠ .tc) : L g = ∅ := if_neg h
theorem L_tc (c : Dev nD) (sm : SemLoc sig) : L ((c : Thread nD τ), sm) = {()} := if_pos rfl

/-- The level of the cells raised at each stage. -/
def stageLv (p : Fin 5) : ℕ := match p with | 0 => 1 | 1 => 2 | 2 => 2 | 3 => 3 | 4 => 3

theorem lv_cell (c : Dev nD) (k : Fin 4) (h : Fin 2) (s : Dev nD) (u : Unit) :
    lv (dcell c k h s) u = match k with | 0 => 0 | 1 => 2 | 2 => 0 | 3 => 3 := by
  show (if (dsem k h s).val < 6 then 0 else match arrOf (dsem k h s) with | 0 => 0 | 1 => 2 | 2 => 0 | 3 => 3) = _
  rw [if_neg (dsem_ge k h s), arrOf_dsem]

theorem lv_owedCell (c : Dev nD) (x : Fin 5 × Fin 15) (u : Unit) : lv (owedCell c x) u = stageLv x.1 := by
  obtain ⟨p, r⟩ := x
  match p with
  | 0 => rfl
  | 1 => exact lv_cell _ _ _ _ _
  | 2 => exact lv_cell _ _ _ _ _
  | 3 => exact lv_cell _ _ _ _ _
  | 4 => exact lv_cell _ _ _ _ _

theorem owedCell_tc (c : Dev nD) (x : Fin 5 × Fin 15) (u : Unit) : u ∈ L (owedCell c x) := by
  obtain ⟨p, r⟩ := x
  match p with
  | 0 | 1 | 2 | 3 | 4 => exact Finset.mem_singleton_self _

theorem stageLv_mono : ∀ p q : Fin 5, p.val ≤ q.val → stageLv p ≤ stageLv q := by decide

/-- A wait is allowed when its cell's level is below that of the stage begun. -/
theorem mayWait (c : Dev nD) (sm : SemLoc sig) (p : Fin 5) (k : ℕ) (h : lv ((c : Thread nD τ), sm) () < stageLv p) :
    (levAts L lv : sProp 𝕄) ⊢ MayWait (c : Thread nD τ) sm () (owed c p k) := by
  refine MayOwe.of_cut (L := L) (lev := lv) (lv ((c : Thread nD τ), sm) ()) (fun x hx => by rw [Finset.mem_singleton.mp hx, L_tc]; exact Finset.mem_singleton_self _)
    (fun g u hg => by obtain ⟨x, -, rfl⟩ := owed_pos hg; exact owedCell_tc c x u)
    (fun x hx => by rw [Finset.mem_singleton.mp hx])
    (fun g u hg => by
      obtain ⟨x, hx, rfl⟩ := owed_pos hg
      rw [lv_owedCell]
      refine lt_of_lt_of_le h (stageLv_mono _ _ ?_)
      rcases (Finset.mem_filter.mp hx).2 with h' | h'
      · omega
      · rw [h'.1])

theorem mayWait_zero (c : Dev nD) (sm : SemLoc sig) : (levAts L lv : sProp 𝕄) ⊢ MayWait (c : Thread nD τ) sm () 0 := by
  rw [MayWait_zero]; iintro -; iempintro

end Cert.MeshProof
-- ==== Proof.Steps.lean ====
/-
One step of the kernel's body at a time: a signal to another device, the wait on the barrier, a transfer to another device
or to itself, the wait that ends a transfer, a load and a store. Each is a rule that takes the state before the step to the
state after it, whatever the rest of the program is.
-/
module

public import proofs.«01_k».proof.Proof.Schedule

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)
open Idealize.ShloMosaic.Pipeline (Dat Cfg Window BodyObligation cellOf)

variable {F : FTy → Type} [FloatOps F]

local notation "𝕄" => MT nD τ sig Unit (Elt F) ℕ UU ℕ

variable (I : Inp F)

/-! ## The records every device keeps -/

/-- A device's cells: its barrier's, and those of the four arrays. -/
abbrev CK : Type := Unit ⊕ (Fin 4 × Fin 2 × Dev nD)
abbrev kcell (ck : Dev nD × CK) : GSem nD τ sig :=
  match ck.2 with
  | .inl _ => barCell ck.1
  | .inr x => dcell ck.1 x.1 x.2.1 x.2.2

/-- Every cell's invariant, that every cell has reached its round, and the levels. -/
def ctx (K : Dev nD × CK → ℕ) : sProp 𝕄 :=
  iprop(((bigSep Finset.univ fun ck : Dev nD × CK => cellInv ER (Rd I) (K ck) (kcell ck))
    ∗ bigSep Finset.univ fun ck : Dev nD × CK => reached ER (kcell ck) 0) ∗ levAts L lv)

instance ctx_persistent (K : Dev nD × CK → ℕ) : BI.Persistent (ctx I K) := by unfold ctx; infer_instance

variable (K : Dev nD × CK → ℕ)

theorem inv_at (ck : Dev nD × CK) :
    (bigSep Finset.univ fun ck : Dev nD × CK => (cellInv ER (Rd I) (K ck) (kcell ck) : sProp 𝕄)) ⊢ cellInv ER (Rd I) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)
theorem ctx_inv (ck : Dev nD × CK) : ctx I K ⊢ cellInv ER (Rd I) (K ck) (kcell ck) := by
  unfold ctx; iintro ⟨⟨HI, -⟩, -⟩; iapply (inv_at I K ck); iexact HI
theorem ctx_reached (ck : Dev nD × CK) : ctx I K ⊢ reached ER (kcell ck) 0 := by
  unfold ctx; iintro ⟨⟨-, HR⟩, -⟩; iapply (reached_at (F := F) ck); iexact HR
theorem ctx_lev : ctx I K ⊢ levAts L lv := by
  unfold ctx; iintro ⟨-, HL⟩; iexact HL

theorem ctx_mayWait (c : Dev nD) (sm : SemLoc sig) (p : Fin 5) (k : ℕ) (h : lv ((c : Thread nD τ), sm) () < stageLv p) :
    ctx I K ⊢ MayWait (c : Thread nD τ) sm () (owed c p k) := by
  unfold ctx; iintro ⟨-, HL⟩; iapply (mayWait c sm p k h); iexact HL

/-- What a device owes, whatever it has waited for. -/
def owesE (c : Dev nD) (O : CellTallies nD τ sig Unit) : sProp 𝕄 := iprop(∃ W, owes (c : Thread nD τ) O W)

abbrev 𝒱₀ : Variants := Variants.none
/-- Device `c` runs `p` to the end and then `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What follows a step without a result. -/
abbrev Rest (F : FTy → Type) [FloatOps F] (α : Type) := PUnit.{1} → Prog (TpuEff nD τ sig (Elt F) Λ₀ .tc) α

variable (c : Dev nD)

/-! ## The barrier -/

/-- Before signal `k`: the rest of the first stage is owed, and the slots for the devices still to be signalled are held. -/
def sigSt (k : ℕ) : sProp 𝕄 := iprop(owesE c (owed c 0 k)
  ∗ bigSep (todo 15 k) fun r => iprop(dutyTok ER (barCell (peer c r)) 0 c ∗ barPay (F := F) (peer c r) c))

theorem step_signal {R : sProp 𝕄} {α : Type} {Q : α → sProp 𝕄} (r : Fin 15) {dst : Dev nD} (hd : dst = peer c r) {n : Int} (hn : n = ((1 : ℕ) : Int)) {k : Rest F α}
    (h : iprop(ctx I K ∗ sigSt c (r.val + 1) ∗ R) ⊢ run c (k ⟨⟩) Q) :
    iprop(ctx I K ∗ sigSt c r.val ∗ R) ⊢ run c (.op (.semSignal (dst : Thread nD τ) barS n) k) Q := by
  subst hd hn
  iintro ⟨#Hctx, Hst, HR⟩
  ihave #HI := (ctx_inv I K (peer c r, .inl ())) $$ Hctx
  ihave #Hr := (ctx_reached I K (peer c r, .inl ())) $$ Hctx
  unfold sigSt owesE
  icases Hst with ⟨⟨%W, HO⟩, Ht⟩
  ihave Ht' := (Entails.of_eq (bigSep_todo r _)) $$ Ht
  icases Ht' with ⟨⟨Htok, Hpay⟩, Ht⟩
  iapply (Rounds.wp_signal 𝒱₀ ER (Rd I) (c : Thread nD τ) none (dst := (peer c r : Thread nD τ)) (κ := K (peer c r, .inl ()))
      (r := 0) (d := c) (by rw [duties_bar]; exact Finset.mem_erase.mpr ⟨(peer_ne c r).symm, Finset.mem_univ _⟩)
      (amount_bar I (peer c r) c) () (owed c 0 (r.val + 1)) (owed_step c 0 r))
    $$ [HO Htok Hpay]
  · isplitr; · iexact HI
    isplitl [HO]; · iexact HO
    isplitl [Htok]; · iexact Htok
    isplitl [Hpay]; · rw [payload_bar]; iexact Hpay
    iexact Hr
  iintro HO
  iapply h
  isplitr; · iexact Hctx
  isplitr [HR]
  · unfold sigSt owesE
    isplitl [HO]; · iexists W; iexact HO
    iexact Ht
  iexact HR

/-- Before the barrier's wait: the fifteen units due to it, and its round not taken. -/
def barSt : sProp 𝕄 := iprop(owesE c (owed c 1 0) ∗ cred (tallyAt (barCell c) () 15) ∗ atPos ER (barCell c) 0 ∅ 0)
/-- After it: the slots for `c` on each of the others. -/
def barSt' : sProp 𝕄 := iprop(owesE c (owed c 1 0) ∗ atPos ER (barCell c) 1 ∅ 0 ∗ bigSep Finset.univ fun r : Fin 15 => barPay (F := F) c (peer c r))

theorem step_barrier {R : sProp 𝕄} {α : Type} {Q : α → sProp 𝕄} {n : Int} (hn : n = ((15 : ℕ) : Int)) {k : Rest F α}
    (h : iprop(ctx I K ∗ barSt' c ∗ R) ⊢ run c (k ⟨⟩) Q) :
    iprop(ctx I K ∗ barSt c ∗ R) ⊢ run c (.op (.semWait barS n) k) Q := by
  subst hn
  iintro ⟨#Hctx, Hst, HR⟩
  ihave #HI := (ctx_inv I K (c, .inl ())) $$ Hctx
  unfold barSt owesE
  icases Hst with ⟨⟨%W, HO⟩, Hc, Hat⟩
  iapply (Rounds.wp_wait_rest_token 𝒱₀ ER (Rd I) (c : Thread nD τ) none (κ := K (c, .inl ()))
      (wpE_semWait_eq 𝒱₀ (c : Thread nD τ) none Set.univ) (Set.mem_univ _) () (O := owed c 1 0) (W := W) (R := 0) (m := 0) (T := ∅)
      (by rw [expect_bar])) $$ [HO Hc Hat]
  · isplitr; · iexact HI
    isplitl [Hc]; · iexact Hc
    isplitl [HO]; · iexact HO
    isplitr; · iapply (ctx_mayWait I K c (.reg barS) 1 0 (by show 1 < 2; decide)); iexact Hctx
    iexact Hat
  iintro ⟨HO, Hat, -, Hpay⟩
  ihave Hp := (Entails.of_eq (rest_bar I c)) $$ Hpay
  iapply h
  isplitr; · iexact Hctx
  isplitr [HR]
  · unfold barSt' owesE
    isplitl [HO]; · iexists _; iexact HO
    isplitl [Hat]; · iexact Hat
    iexact Hp
  iexact HR

/-! ## The transfers to the other devices -/

/-- A transfer to device `n`: the sent rows and the landing slot are given up, and what its two cells then hand over is
    covered; the debt of its receive credit is paid, and its send credit is due. -/
theorem step_send {R : sProp 𝕄} {α : Type} {Q : α → sProp 𝕄} {k₁ k₂ : Fin 4} {h : Fin 2} {n : Dev nD}
    {src dst : Memref sig .tc .vmem S16x768 .f32} {sS sR : DmaSem sig} (hS : sS = dsem k₁ h n) (hR : sR = dsem k₂ h c)
    (hr₁ : raisers k₁ c n = {c}) (hr₂ : raisers k₂ n c = {c})
    {q : PosShare TreeShare} {fs : Buf (Elt F) (src.view.loc (c : Thread nD τ))} {A B : sProp 𝕄}
    (hA : A ⊢ (src.view.loc (c : Thread nD τ) ↦[src.view.set]{q} fs))
    (hB : B ⊢ iprop(∃ fd, (dst.view.loc (n : Thread nD τ) ↦[dst.view.set]{fullShare} fd)))
    (hp₁ : (src.view.loc (c : Thread nD τ) ↦[src.view.set]{q} fs) ⊢ cellPay I k₁ c h n)
    (hp₂ : ∀ fd : Buf (Elt F) (dst.view.loc (n : Thread nD τ)),
      (dst.view.loc (n : Thread nD τ) ↦[dst.view.set]{fullShare} (dst.view.write (Elt F) fd (src.view.read (Elt F) fs) Finset.univ)) ⊢ cellPay I k₂ n h c)
    {O₀ : CellTallies nD τ sig Unit} (O : CellTallies nD τ sig Unit) (hO : O₀ = O + tallyAt (dcell n k₂ h c) () N)
    {hsc : (dst : Memref sig (Dev.tc n : Thread nD τ).2.kind .vmem S16x768 .f32).view.ref.isScScratch = false}
    {hsrc : src.view.WordExact} {hdst : dst.view.WordExact}
    {hsem : DmaTarget.Typed .vmem (.dma sR) (.remote (Dev.tc n) dst (.dma sS) hsc)} {k : Rest F α}
    (hk : iprop(ctx I K ∗ (owesE c O ∗ cred (tallyAt (dcell c k₁ h n) () N)) ∗ R) ⊢ run c (k ⟨⟩) Q) :
    iprop(ctx I K ∗ (owesE c O₀ ∗ A ∗ B ∗ dutyTok ER (dcell c k₁ h n) 0 c ∗ dutyTok ER (dcell n k₂ h c) 0 c) ∗ R)
      ⊢ run c (.op (.enqueueDma src (.remote (Dev.tc n : Thread nD τ) dst (.dma sS) hsc) (.dma sR) hsrc hdst hsem) k) Q := by
  subst hS hR
  iintro ⟨#Hctx, Hst, HR⟩
  ihave #HI₁ := (ctx_inv I K (c, .inr (k₁, h, n))) $$ Hctx
  ihave #HI₂ := (ctx_inv I K (n, .inr (k₂, h, c))) $$ Hctx
  ihave #Hr₁ := (ctx_reached I K (c, .inr (k₁, h, n))) $$ Hctx
  ihave #Hr₂ := (ctx_reached I K (n, .inr (k₂, h, c))) $$ Hctx
  unfold owesE
  icases Hst with ⟨⟨%W, HO⟩, HA, HB, Htok₁, Htok₂⟩
  ihave HA := hA $$ HA
  ihave HB := hB $$ HB
  icases HB with ⟨%fd, HB⟩
  iapply (Rounds.wp_send_pointsTo 𝒱₀ ER (Rd I) (c : Thread nD τ) none (κ₁ := K (c, .inr (k₁, h, n))) (κ₂ := K (n, .inr (k₂, h, c)))
      (c' := (n : Thread nD τ)) (src := src) (dst := dst) (r₁ := 0) (r₂ := 0) (d₁ := c) (d₂ := c) (fs := fs) (fd := fd) (q := q)
      (by rw [duties_cell, hr₁]; exact Finset.mem_singleton_self _)
      (by rw [duties_cell, hr₂]; exact Finset.mem_singleton_self _) () () N (amount_any dst _)
      (amount_cell I c k₁ h n c) (amount_cell I n k₂ h c c) O hO (W := W)
      (by rw [payload_cell]; exact hp₁) (by rw [payload_cell]; exact hp₂ fd))
    $$ [HA HB HO Htok₁ Htok₂]
  · isplitr; · iexact HI₁
    isplitr; · iexact HI₂
    isplitl [HA]; · iexact HA
    isplitl [HB]; · iexact HB
    isplitl [HO]; · iexact HO
    isplitl [Htok₁]; · iexact Htok₁
    isplitr; · iexact Hr₁
    isplitl [Htok₂]; · iexact Htok₂
    iexact Hr₂
  iintro ⟨Hc, HO⟩
  iapply hk
  isplitr; · iexact Hctx
  isplitr [HR]
  · unfold owesE
    isplitl [HO]; · iexists W; iexact HO
    iexact Hc
  iexact HR

/-- A transfer from one of the device's buffers to another: both come back through its one cell. -/
theorem step_local {R : sProp 𝕄} {α : Type} {Q : α → sProp 𝕄} {k₂ : Fin 4} {h : Fin 2}
    {src dst : Memref sig .tc .vmem S16x768 .f32} {sR : DmaSem sig} (hR : sR = dsem k₂ h c) (hr : raisers k₂ c c = {c})
    {q : PosShare TreeShare} {fs : Buf (Elt F) (src.view.loc (c : Thread nD τ))} {A B : sProp 𝕄}
    (hA : A ⊢ (src.view.loc (c : Thread nD τ) ↦[src.view.set]{q} fs))
    (hB : B ⊢ iprop(∃ fd, (dst.view.loc (c : Thread nD τ) ↦[dst.view.set]{fullShare} fd)))
    (hp : ∀ fd : Buf (Elt F) (dst.view.loc (c : Thread nD τ)),
      iprop((dst.view.loc (c : Thread nD τ) ↦[dst.view.set]{fullShare} (dst.view.write (Elt F) fd (src.view.read (Elt F) fs) Finset.univ))
        ∗ (src.view.loc (c : Thread nD τ) ↦[src.view.set]{q} fs)) ⊢ cellPay I k₂ c h c)
    {hsrc : src.view.WordExact} {hdst : dst.view.WordExact} {hsem : DmaTarget.Typed (nD := nD) (τ := τ) .vmem (.dma sR) (DmaTarget.here (p := (Proc.tc : Proc τ)) dst)} {k : Rest F α}
    (hk : iprop(ctx I K ∗ cred (tallyAt (dcell c k₂ h c) () N) ∗ R) ⊢ run c (k ⟨⟩) Q) :
    iprop(ctx I K ∗ (A ∗ B ∗ dutyTok ER (dcell c k₂ h c) 0 c) ∗ R)
      ⊢ run c (.op (.enqueueDma src (.here dst) (.dma sR) hsrc hdst hsem) k) Q := by
  subst hR
  iintro ⟨#Hctx, ⟨HA, HB, Htok⟩, HR⟩
  ihave #HI := (ctx_inv I K (c, .inr (k₂, h, c))) $$ Hctx
  ihave #Hr := (ctx_reached I K (c, .inr (k₂, h, c))) $$ Hctx
  ihave HA := hA $$ HA
  ihave HB := hB $$ HB
  icases HB with ⟨%fd, HB⟩
  iapply (Rounds.wp_copy_pointsTo 𝒱₀ ER (Rd I) (c : Thread nD τ) none (κ := K (c, .inr (k₂, h, c)))
      (src := src) (dst := dst) (r := 0) (d := c) (fs := fs) (fd := fd) (q := q)
      (by rw [duties_cell, hr]; exact Finset.mem_singleton_self _) () N (amount_any dst _)
      (amount_cell I c k₂ h c c) (by rw [payload_cell]; exact hp fd))
    $$ [HA HB Htok]
  · isplitr; · iexact HI
    isplitl [HA]; · iexact HA
    isplitl [HB]; · iexact HB
    isplitl [Htok]; · iexact Htok
    iexact Hr
  iintro Hc
  iapply hk
  isplitr; · iexact Hctx
  isplitl [Hc]; · iexact Hc
  iexact HR

/-! ## The waits that end transfers -/

/-- Of the cells of array `k`, half `h`, at the slots `σ 0`, `σ 1`, …: the first `m` waited for, the others due. -/
def waitSt (k : Fin 4) (h : Fin 2) {n : ℕ} (σ : Fin n → Dev nD) (O : CellTallies nD τ sig Unit) (m : ℕ) : sProp 𝕄 := iprop(owesE c O
  ∗ (bigSep (todo n m) fun i => iprop(cred (tallyAt (dcell c k h (σ i)) () N) ∗ atPos ER (dcell c k h (σ i)) 0 ∅ 0))
  ∗ bigSep (done n m) fun i => iprop(atPos ER (dcell c k h (σ i)) 1 ∅ 0 ∗ cellPay I k c h (σ i)))

theorem step_wait {R : sProp 𝕄} {α : Type} {Q : α → sProp 𝕄} {k : Fin 4} {h : Fin 2} {n : ℕ} (σ : Fin n → Dev nD) {O : CellTallies nD τ sig Unit} (i : Fin n)
    {e : Dev nD} (he : raisers k c (σ i) = {e}) {sem : DmaSem sig} (hs : sem = dsem k h (σ i))
    (hm : ctx I K ⊢ MayWait (c : Thread nD τ) (.dma (dsem k h (σ i))) () O)
    {src dst : Memref sig .tc .vmem S16x768 .f32} {hsrc : src.view.WordExact} {hdst : dst.view.WordExact} {kk : Rest F α}
    (hk : iprop(ctx I K ∗ waitSt I c k h σ O (i.val + 1) ∗ R) ⊢ run c (kk ⟨⟩) Q) :
    iprop(ctx I K ∗ waitSt I c k h σ O i.val ∗ R) ⊢ run c (.op (.waitDma2 sem src dst hsrc hdst) kk) Q := by
  subst hs
  iintro ⟨#Hctx, Hst, HR⟩
  ihave #HI := (ctx_inv I K (c, .inr (k, h, σ i))) $$ Hctx
  unfold waitSt owesE
  icases Hst with ⟨⟨%W, HO⟩, Ht, Hd⟩
  ihave Ht' := (Entails.of_eq (bigSep_todo i _)) $$ Ht
  icases Ht' with ⟨⟨Hc, Hat⟩, Ht⟩
  iapply (Rounds.wp_wait_rest_token 𝒱₀ ER (Rd I) (c : Thread nD τ) none (κ := K (c, .inr (k, h, σ i))) (k' := dst.view.dmaCredit)
      (wpE_waitDma2_eq 𝒱₀ (c : Thread nD τ) none Set.univ) (Set.mem_univ _) () (O := O) (W := W) (R := 0) (m := 0) (T := ∅)
      (by rw [Nat.zero_add, expect_cell I c k h (σ i) he, N_any])) $$ [Hc HO Hat]
  · isplitr; · iexact HI
    isplitl [Hc]; · rw [N_any]; iexact Hc
    isplitl [HO]; · iexact HO
    isplitr; · iapply hm; iexact Hctx
    iexact Hat
  iintro ⟨HO, Hat, -, Hpay⟩
  ihave Hp := (Entails.of_eq (rest_cell I c k h (σ i) he)) $$ Hpay
  iapply hk
  isplitr; · iexact Hctx
  isplitr [HR]
  · unfold waitSt owesE
    isplitl [HO]; · iexists _; iexact HO
    isplitl [Ht]; · iexact Ht
    rw [bigSep_done]
    isplitr [Hd]
    · isplitl [Hat]; · iexact Hat
      iexact Hp
    iexact Hd
  iexact HR

/-! ## Loads and stores -/

theorem step_load {R : sProp 𝕄} {α : Type} {Q : α → sProp 𝕄} {s : Shape} {e : EltTy} {m : Memref sig .tc .vmem s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) {k : (r.shape.Idx → Elt F e) → Prog (TpuEff nD τ sig (Elt F) Λ₀ .tc) α}
    (hk : iprop((m.view.loc (c : Thread nD τ) ↦[S]{q} f) ∗ R) ⊢ run c (k (m.view.readAt (Elt F) r f)) Q) :
    iprop((m.view.loc (c : Thread nD τ) ↦[S]{q} f) ∗ R) ⊢ run c (.op (.load m r hl) k) Q := by
  iintro ⟨H, HR⟩
  iapply (wp_load 𝒱₀ (c : Thread nD τ) none Set.univ (m := m) hS) $$ H; iintro H
  iapply hk
  isplitl [H]; · iexact H
  iexact HR

theorem step_store {R : sProp 𝕄} {α : Type} {Q : α → sProp 𝕄} {s : Shape} {e : EltTy} {m : Memref sig .tc .vmem s e} {r : Rect s}
    {w : r.shape.Idx → Elt F e} {Mk : Finset r.shape.Idx} {hx : (m.access r).Stores Mk} {hm : Mk = Finset.univ ∨ ∀ a, r.stride a = 1}
    {S : Finset (Idx ((m.access r).loc (c : Thread nD τ)))} {f : Buf (Elt F) ((m.access r).loc (c : Thread nD τ))}
    (hS : (m.access r).setOn Mk ⊆ S) {k : Rest F α}
    (hk : iprop(((m.access r).loc (c : Thread nD τ) ↦[S]{fullShare} ((m.access r).write (Elt F) f w Mk)) ∗ R) ⊢ run c (k ⟨⟩) Q) :
    iprop(((m.access r).loc (c : Thread nD τ) ↦[S]{fullShare} f) ∗ R) ⊢ run c (.op (.store m r w Mk hx hm) k) Q := by
  iintro ⟨H, HR⟩
  iapply (wp_store 𝒱₀ (c : Thread nD τ) none Set.univ (m := m) (r := r) (Mk := Mk) hS) $$ H; iintro H
  iapply hk
  isplitl [H]; · iexact H
  iexact HR

end Cert.MeshProof
-- ==== Proof.Moves.lean ====
/-
The transfers of the kernel, each as it is written in the program: the kernel's own device numbers, offsets and semaphore
elements, and the slots and shares they name.
-/
module

public import proofs.«01_k».proof.Proof.Steps

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)
open Idealize.ShloMosaic.Pipeline (Dat Cfg Window BodyObligation cellOf)

variable {F : FTy → Type} [FloatOps F]

local notation "𝕄" => MT nD τ sig Unit (Elt F) ℕ UU ℕ

variable (I : Inp F)

/-- The kernel's number for the device `o` steps on, as it computes it. -/
def devWord (d0 : Dev nD) (o : BitVec 32) : Nat :=
  let v2 : BitVec 32 := Scalar.remsi (Scalar.divsi (Dev.word d0) 1#32) 16#32
  let v6 : BitVec 32 := Scalar.select (Scalar.cmpi .eq 16#32 0#32) 1#32 16#32
  let v7 : BitVec 32 := Scalar.remsi (Scalar.addi v2 o) v6
  let v14 : BitVec 32 := Scalar.select (Scalar.andi (Scalar.xori (Scalar.cmpi .slt v7 0#32) (Scalar.cmpi .slt v6 0#32)) (Scalar.cmpi .ne v7 0#32))
    (Scalar.addi v7 v6) v7
  (Scalar.addi 0#32 (Scalar.muli v14 1#32)).toNat

theorem devWord_eq (c : Dev nD) (r : Fin 15) : devWord c (BitVec.ofNat 32 (1 + r.val)) = (peer c r).val := by revert c r; decide +kernel

theorem peer_of_word {c : Dev nD} {r : Fin 15} {n : Dev nD} (hn : n.val = devWord c (BitVec.ofNat 32 (1 + r.val))) : n = peer c r :=
  Fin.ext (hn.trans (devWord_eq c r))

/-- Sixteen rows of a slot at the offset `off`, as the program takes them. -/
abbrev rowsOf (b : Memref sig .tc .vmem S16x32x768 .f32) (off : Fin 3 → Nat) (p : ∀ a, off a + S1x16x768.size a ≤ S16x32x768.size a) :
    Memref sig .tc .vmem S16x768 .f32 :=
  (b.slice (Rect.unit (s := S16x32x768) off S1x16x768.size p) (fun _ => rfl)).squeeze S16x768 squeezes_S1x16x768_S16x768
/-- Sixteen rows of one device's at the offset `off`. -/
abbrev rowsOf2 (b : Memref sig .tc .vmem S32x768 .f32) (off : Fin 2 → Nat) (p : ∀ a, off a + S16x768.size a ≤ S32x768.size a) :
    Memref sig .tc .vmem S16x768 .f32 :=
  b.slice (Rect.unit (s := S32x768) off S16x768.size p) (fun _ => rfl)

theorem halfM_eq (b : Memref sig .tc .vmem S32x768 .f32) (h : Fin 2) {off : Fin 2 → Nat} (e : off = ![16 * h.val, 0])
    (p : ∀ a, off a + S16x768.size a ≤ S32x768.size a) : rowsOf2 b off p = halfM b h := by
  subst e; rfl

variable (K : Dev nD × CK → ℕ) (c : Dev nD)

/-! ## For reduction -/

/-- Before the `k`-th transfer of half `h` for reduction (stage `p`). -/
def rsSt (p : Fin 5) (h : Fin 2) (k : ℕ) : sProp 𝕄 := iprop(owesE c (owed c p k)
  ∗ (bigSep (todo 15 k) fun r => iprop(partPts c (peer c r) h (part I c) ∗ (∃ f, rsPts (F := F) (peer c r) c h f)
      ∗ dutyTok ER (dcell c 0 h (peer c r)) 0 c ∗ dutyTok ER (dcell (peer c r) 1 h c) 0 c))
  ∗ bigSep (done 15 k) fun r => cred (tallyAt (dcell c 0 h (peer c r)) () N))

theorem rs_recv_pay (s d : Dev nD) (h : Fin 2) (hne : s ≠ d) (fd : S16x32x768.Idx → Elt F .f32) :
    ((slotM rsM s h).view.loc (d : Thread nD τ) ↦[(slotM rsM s h).view.set]{fullShare}
        ((slotM rsM s h).view.write (Elt F) fd ((slotM partM d h).view.read (Elt F) (part I s)) Finset.univ) : sProp 𝕄)
      ⊢ cellPay I 1 d h s := by
  rw [rs_set]; unfold cellPay rsPts; dsimp only
  rw [if_neg hne, pointsTo_congr (rs_landed I s d h fd)]
  iintro H; isplitl; · iexact H
  iempintro

theorem step_rs {R : sProp 𝕄} {α : Type} {Q : α → sProp 𝕄} (p : Fin 5) (h : Fin 2) (r : Fin 15) (hp : owedCell c (p, r) = dcell (peer c r) 1 h c)
    (hN : owedAmt p = N) {n : Dev nD} (hn : n = peer c r)
    {src dst : Memref sig .tc .vmem S16x768 .f32} (hs : src = slotM partM (peer c r) h) (hd : dst = slotM rsM c h)
    {sS sR : DmaSem sig} (hS : sS = dsem 0 h (peer c r)) (hR : sR = dsem 1 h c)
    {hsc : (dst : Memref sig (Dev.tc n : Thread nD τ).2.kind .vmem S16x768 .f32).view.ref.isScScratch = false}
    {hsrc : src.view.WordExact} {hdst : dst.view.WordExact}
    {hsem : DmaTarget.Typed .vmem (.dma sR) (.remote (Dev.tc n) dst (.dma sS) hsc)} {k : Rest F α}
    (hk : iprop(ctx I K ∗ rsSt I c p h (r.val + 1) ∗ R) ⊢ run c (k ⟨⟩) Q) :
    iprop(ctx I K ∗ rsSt I c p h r.val ∗ R)
      ⊢ run c (.op (.enqueueDma src (.remote (Dev.tc n : Thread nD τ) dst (.dma sS) hsc) (.dma sR) hsrc hdst hsem) k) Q := by
  subst hn hs hd
  iintro ⟨#Hctx, Hst, HR⟩
  unfold rsSt
  icases Hst with ⟨HO, Ht, Hd⟩
  ihave Ht' := (Entails.of_eq (bigSep_todo r _)) $$ Ht
  icases Ht' with ⟨⟨Hsrc, Hdst, Htok₁, Htok₂⟩, Ht⟩
  iapply (step_send I K c (k₁ := 0) (k₂ := 1) (h := h) (n := peer c r) (src := slotM partM (peer c r) h) (dst := slotM rsM c h) hS hR (if_neg (peer_ne c r)) rfl
    (q := fullShare) (fs := part I c) (A := partPts c (peer c r) h (part I c)) (B := iprop(∃ f, rsPts (F := F) (peer c r) c h f))
    (by rw [part_set]; exact BIBase.Entails.rfl) (by rw [rs_set]; exact BIBase.Entails.rfl)
    (by rw [part_set]; exact BIBase.Entails.rfl) (fun fd => rs_recv_pay I c (peer c r) h (peer_ne c r).symm fd)
    (O₀ := owed c p r.val) (owed c p (r.val + 1)) (by rw [owed_step, hp, hN])
    (R := iprop((bigSep (todo 15 (r.val + 1)) fun r => iprop(partPts c (peer c r) h (part I c) ∗ (∃ f, rsPts (F := F) (peer c r) c h f)
      ∗ dutyTok ER (dcell c 0 h (peer c r)) 0 c ∗ dutyTok ER (dcell (peer c r) 1 h c) 0 c))
      ∗ (bigSep (done 15 r.val) fun r => cred (tallyAt (dcell c 0 h (peer c r)) () N)) ∗ R)) (Q := Q) ?_)
  · iintro ⟨#Hctx, ⟨HO, Hc⟩, Ht, Hd, HR⟩
    iapply hk
    isplitr; · iexact Hctx
    isplitr [HR]
    · unfold rsSt
      isplitl [HO]; · iexact HO
      isplitl [Ht]; · iexact Ht
      rw [bigSep_done]
      isplitl [Hc]; · iexact Hc
      iexact Hd
    iexact HR
  isplitr; · iexact Hctx
  isplitl [HO Hsrc Hdst Htok₁ Htok₂]
  · isplitl [HO]; · iexact HO
    isplitl [Hsrc]; · iexact Hsrc
    isplitl [Hdst]; · iexact Hdst
    isplitl [Htok₁]; · iexact Htok₁
    iexact Htok₂
  isplitl [Ht]; · iexact Ht
  isplitl [Hd]; · iexact Hd
  iexact HR

/-- The device's own rows of half `h`, put into its own slot. -/
theorem step_rs_local {R : sProp 𝕄} {α : Type} {Q : α → sProp 𝕄} (h : Fin 2)
    {src dst : Memref sig .tc .vmem S16x768 .f32} (hs : src = slotM partM c h) (hd : dst = slotM rsM c h)
    {sR : DmaSem sig} (hR : sR = dsem 1 h c)
    {hsrc : src.view.WordExact} {hdst : dst.view.WordExact} {hsem : DmaTarget.Typed (nD := nD) (τ := τ) .vmem (.dma sR) (DmaTarget.here (p := (Proc.tc : Proc τ)) dst)}
    {k : Rest F α} (hk : iprop(ctx I K ∗ cred (tallyAt (dcell c 1 h c) () N) ∗ R) ⊢ run c (k ⟨⟩) Q) :
    iprop(ctx I K ∗ (partPts c c h (part I c) ∗ (∃ f, rsPts (F := F) c c h f) ∗ dutyTok ER (dcell c 1 h c) 0 c) ∗ R)
      ⊢ run c (.op (.enqueueDma src (.here dst) (.dma sR) hsrc hdst hsem) k) Q := by
  subst hs hd
  refine step_local I K c (k₂ := 1) (h := h) hR rfl (q := fullShare) (fs := part I c)
    (by rw [part_set]; exact BIBase.Entails.rfl) (by rw [rs_set]; exact BIBase.Entails.rfl) (fun fd => ?_) hk
  rw [rs_set, part_set]; unfold cellPay rsPts partPts; dsimp only
  rw [if_pos rfl]
  iintro ⟨H, Hs⟩
  isplitl [H]
  · iapply (Entails.of_eq (pointsTo_congr (rs_landed I c c h fd))); iexact H
  iexact Hs

/-! ## The reduced rows -/

/-- Before the `k`-th transfer of half `h` of the reduced rows (stage `p`). -/
def agSt (p : Fin 5) (h : Fin 2) (k : ℕ) : sProp 𝕄 := iprop(owesE c (owed c p k)
  ∗ (bigSep (todo 15 k) fun r => iprop(redPts c h (peer c r) (red I c) ∗ (∃ f, agPts (F := F) (peer c r) c h f)
      ∗ dutyTok ER (dcell c 2 h (peer c r)) 0 c ∗ dutyTok ER (dcell (peer c r) 3 h c) 0 c))
  ∗ bigSep (done 15 k) fun r => cred (tallyAt (dcell c 2 h (peer c r)) () N))

theorem ag_recv_pay (s d : Dev nD) (h : Fin 2) (hne : s ≠ d) (fd : S16x32x768.Idx → Elt F .f32) :
    ((slotM agM s h).view.loc (d : Thread nD τ) ↦[(slotM agM s h).view.set]{fullShare}
        ((slotM agM s h).view.write (Elt F) fd ((halfM redM h).view.read (Elt F) (red I s)) Finset.univ) : sProp 𝕄)
      ⊢ cellPay I 3 d h s := by
  rw [ag_set]; unfold cellPay agPts; dsimp only
  rw [if_neg hne, pointsTo_congr (ag_landed I s h fd)]
  iintro H; isplitl; · iexact H
  iempintro

theorem step_ag {R : sProp 𝕄} {α : Type} {Q : α → sProp 𝕄} (p : Fin 5) (h : Fin 2) (r : Fin 15) (hp : owedCell c (p, r) = dcell (peer c r) 3 h c)
    (hN : owedAmt p = N) {n : Dev nD} (hn : n = peer c r)
    {src dst : Memref sig .tc .vmem S16x768 .f32} (hs : src = halfM redM h) (hd : dst = slotM agM c h)
    {sS sR : DmaSem sig} (hS : sS = dsem 2 h (peer c r)) (hR : sR = dsem 3 h c)
    {hsc : (dst : Memref sig (Dev.tc n : Thread nD τ).2.kind .vmem S16x768 .f32).view.ref.isScScratch = false}
    {hsrc : src.view.WordExact} {hdst : dst.view.WordExact}
    {hsem : DmaTarget.Typed .vmem (.dma sR) (.remote (Dev.tc n) dst (.dma sS) hsc)} {k : Rest F α}
    (hk : iprop(ctx I K ∗ agSt I c p h (r.val + 1) ∗ R) ⊢ run c (k ⟨⟩) Q) :
    iprop(ctx I K ∗ agSt I c p h r.val ∗ R)
      ⊢ run c (.op (.enqueueDma src (.remote (Dev.tc n : Thread nD τ) dst (.dma sS) hsc) (.dma sR) hsrc hdst hsem) k) Q := by
  subst hn hs hd
  iintro ⟨#Hctx, Hst, HR⟩
  unfold agSt
  icases Hst with ⟨HO, Ht, Hd⟩
  ihave Ht' := (Entails.of_eq (bigSep_todo r _)) $$ Ht
  icases Ht' with ⟨⟨Hsrc, Hdst, Htok₁, Htok₂⟩, Ht⟩
  iapply (step_send I K c (k₁ := 2) (k₂ := 3) (h := h) (n := peer c r) (src := halfM redM h) (dst := slotM agM c h) hS hR (if_neg (peer_ne c r)) rfl
    (q := leaf 4 fullShare (peer c r)) (fs := red I c) (A := redPts c h (peer c r) (red I c)) (B := iprop(∃ f, agPts (F := F) (peer c r) c h f))
    (by rw [red_set]; exact BIBase.Entails.rfl) (by rw [ag_set]; exact BIBase.Entails.rfl)
    (by rw [red_set]; exact BIBase.Entails.rfl) (fun fd => ag_recv_pay I c (peer c r) h (peer_ne c r).symm fd)
    (O₀ := owed c p r.val) (owed c p (r.val + 1)) (by rw [owed_step, hp, hN])
    (R := iprop((bigSep (todo 15 (r.val + 1)) fun r => iprop(redPts c h (peer c r) (red I c) ∗ (∃ f, agPts (F := F) (peer c r) c h f)
      ∗ dutyTok ER (dcell c 2 h (peer c r)) 0 c ∗ dutyTok ER (dcell (peer c r) 3 h c) 0 c))
      ∗ (bigSep (done 15 r.val) fun r => cred (tallyAt (dcell c 2 h (peer c r)) () N)) ∗ R)) (Q := Q) ?_)
  · iintro ⟨#Hctx, ⟨HO, Hc⟩, Ht, Hd, HR⟩
    iapply hk
    isplitr; · iexact Hctx
    isplitr [HR]
    · unfold agSt
      isplitl [HO]; · iexact HO
      isplitl [Ht]; · iexact Ht
      rw [bigSep_done]
      isplitl [Hc]; · iexact Hc
      iexact Hd
    iexact HR
  isplitr; · iexact Hctx
  isplitl [HO Hsrc Hdst Htok₁ Htok₂]
  · isplitl [HO]; · iexact HO
    isplitl [Hsrc]; · iexact Hsrc
    isplitl [Hdst]; · iexact Hdst
    isplitl [Htok₁]; · iexact Htok₁
    iexact Htok₂
  isplitl [Ht]; · iexact Ht
  isplitl [Hd]; · iexact Hd
  iexact HR

/-- The device's own reduced rows of half `h`, put into its own slot. -/
theorem step_ag_local {R : sProp 𝕄} {α : Type} {Q : α → sProp 𝕄} (h : Fin 2)
    {src dst : Memref sig .tc .vmem S16x768 .f32} (hs : src = halfM redM h) (hd : dst = slotM agM c h)
    {sR : DmaSem sig} (hR : sR = dsem 3 h c)
    {hsrc : src.view.WordExact} {hdst : dst.view.WordExact} {hsem : DmaTarget.Typed (nD := nD) (τ := τ) .vmem (.dma sR) (DmaTarget.here (p := (Proc.tc : Proc τ)) dst)}
    {k : Rest F α} (hk : iprop(ctx I K ∗ cred (tallyAt (dcell c 3 h c) () N) ∗ R) ⊢ run c (k ⟨⟩) Q) :
    iprop(ctx I K ∗ (redPts c h c (red I c) ∗ (∃ f, agPts (F := F) c c h f) ∗ dutyTok ER (dcell c 3 h c) 0 c) ∗ R)
      ⊢ run c (.op (.enqueueDma src (.here dst) (.dma sR) hsrc hdst hsem) k) Q := by
  subst hs hd
  refine step_local I K c (k₂ := 3) (h := h) hR rfl (q := leaf 4 fullShare c) (fs := red I c)
    (by rw [red_set]; exact BIBase.Entails.rfl) (by rw [ag_set]; exact BIBase.Entails.rfl) (fun fd => ?_) hk
  rw [ag_set, red_set]; unfold cellPay agPts redPts; dsimp only
  rw [if_pos rfl]
  iintro ⟨H, Hs⟩
  isplitl [H]
  · iapply (Entails.of_eq (pointsTo_congr (ag_landed I c h fd))); iexact H
  iexact Hs

/-! ## As written in the program -/

section Written
variable (r : ℕ) (hr : r < 15) {n : Dev nD} (hn : n.val = devWord c (BitVec.ofNat 32 (1 + r)))

include hr hn

theorem step_sig {R : sProp 𝕄} {α : Type} {Q : α → sProp 𝕄} {k : Rest F α} {i : Int} (hi : i = ((1 : ℕ) : Int))
    (hk : iprop(ctx I K ∗ sigSt c (r + 1) ∗ R) ⊢ run c (k ⟨⟩) Q) :
    iprop(ctx I K ∗ sigSt c r ∗ R) ⊢ run c (.op (.semSignal (n : Thread nD τ) barS i) k) Q :=
  step_signal I K c ⟨r, hr⟩ (peer_of_word (r := ⟨r, hr⟩) hn) hi hk

theorem step_rs0 {R : sProp 𝕄} {α : Type} {Q : α → sProp 𝕄} {k : Rest F α} {p₁ p₂ p₃ p₄} {hsc : (rowsOf rsM (k0_off3 c) p₃ : Memref sig (Dev.tc n : Thread nD τ).2.kind .vmem S16x768 .f32).view.ref.isScScratch = false}
    {hsrc : (rowsOf partM (k0_off4 c (BitVec.ofNat 32 (1 + r))) p₄).view.WordExact} {hdst : (rowsOf rsM (k0_off3 c) p₃).view.WordExact}
    {hsem : DmaTarget.Typed .vmem (.dma (elemOf cc0_scratch6 (k0_off2 c) p₂)) (.remote (Dev.tc n) (rowsOf rsM (k0_off3 c) p₃) (.dma (elemOf cc0_scratch5 (k0_off1 c (BitVec.ofNat 32 (1 + r))) p₁)) hsc)}
    (hk : iprop(ctx I K ∗ rsSt I c 1 0 (r + 1) ∗ R) ⊢ run c (k ⟨⟩) Q) :
    iprop(ctx I K ∗ rsSt I c 1 0 r ∗ R) ⊢ run c (.op (.enqueueDma (rowsOf partM (k0_off4 c (BitVec.ofNat 32 (1 + r))) p₄) (.remote (Dev.tc n : Thread nD τ) (rowsOf rsM (k0_off3 c) p₃)
      (.dma (elemOf cc0_scratch5 (k0_off1 c (BitVec.ofNat 32 (1 + r))) p₁)) hsc) (.dma (elemOf cc0_scratch6 (k0_off2 c) p₂)) hsrc hdst hsem) k) Q :=
  step_rs I K c 1 0 ⟨r, hr⟩ rfl rfl (peer_of_word (r := ⟨r, hr⟩) hn) (slotM_eq _ _ 0 (off4_eq c ⟨r, hr⟩) _) (slotM_eq _ c 0 (k0_off3_eq c) _) (elem0 0 _ _ (off1_eq c ⟨r, hr⟩)) (elem1 0 c _ (k0_off2_eq c)) hk
theorem step_ag0 {R : sProp 𝕄} {α : Type} {Q : α → sProp 𝕄} {k : Rest F α} {p₁ p₂ p₃ p₄} {hsc : (rowsOf agM (k0_off3 c) p₃ : Memref sig (Dev.tc n : Thread nD τ).2.kind .vmem S16x768 .f32).view.ref.isScScratch = false}
    {hsrc : (rowsOf2 redM ![0, 0] p₄).view.WordExact} {hdst : (rowsOf agM (k0_off3 c) p₃).view.WordExact}
    {hsem : DmaTarget.Typed .vmem (.dma (elemOf cc0_scratch8 (k0_off2 c) p₂)) (.remote (Dev.tc n) (rowsOf agM (k0_off3 c) p₃) (.dma (elemOf cc0_scratch7 (k0_off1 c (BitVec.ofNat 32 (1 + r))) p₁)) hsc)}
    (hk : iprop(ctx I K ∗ agSt I c 3 0 (r + 1) ∗ R) ⊢ run c (k ⟨⟩) Q) :
    iprop(ctx I K ∗ agSt I c 3 0 r ∗ R) ⊢ run c (.op (.enqueueDma (rowsOf2 redM ![0, 0] p₄) (.remote (Dev.tc n : Thread nD τ) (rowsOf agM (k0_off3 c) p₃)
      (.dma (elemOf cc0_scratch7 (k0_off1 c (BitVec.ofNat 32 (1 + r))) p₁)) hsc) (.dma (elemOf cc0_scratch8 (k0_off2 c) p₂)) hsrc hdst hsem) k) Q :=
  step_ag I K c 3 0 ⟨r, hr⟩ rfl rfl (peer_of_word (r := ⟨r, hr⟩) hn) (halfM_eq _ 0 rfl _) (slotM_eq _ c 0 (k0_off3_eq c) _) (elem2 0 _ _ (off1_eq c ⟨r, hr⟩)) (elem3 0 c _ (k0_off2_eq c)) hk
theorem step_rs1 {R : sProp 𝕄} {α : Type} {Q : α → sProp 𝕄} {k : Rest F α} {p₁ p₂ p₃ p₄} {hsc : (rowsOf rsM (k0_off7 c) p₃ : Memref sig (Dev.tc n : Thread nD τ).2.kind .vmem S16x768 .f32).view.ref.isScScratch = false}
    {hsrc : (rowsOf partM (k0_off8 c (BitVec.ofNat 32 (1 + r))) p₄).view.WordExact} {hdst : (rowsOf rsM (k0_off7 c) p₃).view.WordExact}
    {hsem : DmaTarget.Typed .vmem (.dma (elemOf cc0_scratch6 (k0_off6 c) p₂)) (.remote (Dev.tc n) (rowsOf rsM (k0_off7 c) p₃) (.dma (elemOf cc0_scratch5 (k0_off5 c (BitVec.ofNat 32 (1 + r))) p₁)) hsc)}
    (hk : iprop(ctx I K ∗ rsSt I c 2 1 (r + 1) ∗ R) ⊢ run c (k ⟨⟩) Q) :
    iprop(ctx I K ∗ rsSt I c 2 1 r ∗ R) ⊢ run c (.op (.enqueueDma (rowsOf partM (k0_off8 c (BitVec.ofNat 32 (1 + r))) p₄) (.remote (Dev.tc n : Thread nD τ) (rowsOf rsM (k0_off7 c) p₃)
      (.dma (elemOf cc0_scratch5 (k0_off5 c (BitVec.ofNat 32 (1 + r))) p₁)) hsc) (.dma (elemOf cc0_scratch6 (k0_off6 c) p₂)) hsrc hdst hsem) k) Q :=
  step_rs I K c 2 1 ⟨r, hr⟩ rfl rfl (peer_of_word (r := ⟨r, hr⟩) hn) (slotM_eq _ _ 1 (off8_eq c ⟨r, hr⟩) _) (slotM_eq _ c 1 (k0_off7_eq c) _) (elem0 1 _ _ (off5_eq c ⟨r, hr⟩)) (elem1 1 c _ (k0_off6_eq c)) hk
theorem step_ag1 {R : sProp 𝕄} {α : Type} {Q : α → sProp 𝕄} {k : Rest F α} {p₁ p₂ p₃ p₄} {hsc : (rowsOf agM (k0_off7 c) p₃ : Memref sig (Dev.tc n : Thread nD τ).2.kind .vmem S16x768 .f32).view.ref.isScScratch = false}
    {hsrc : (rowsOf2 redM ![16, 0] p₄).view.WordExact} {hdst : (rowsOf agM (k0_off7 c) p₃).view.WordExact}
    {hsem : DmaTarget.Typed .vmem (.dma (elemOf cc0_scratch8 (k0_off6 c) p₂)) (.remote (Dev.tc n) (rowsOf agM (k0_off7 c) p₃) (.dma (elemOf cc0_scratch7 (k0_off5 c (BitVec.ofNat 32 (1 + r))) p₁)) hsc)}
    (hk : iprop(ctx I K ∗ agSt I c 4 1 (r + 1) ∗ R) ⊢ run c (k ⟨⟩) Q) :
    iprop(ctx I K ∗ agSt I c 4 1 r ∗ R) ⊢ run c (.op (.enqueueDma (rowsOf2 redM ![16, 0] p₄) (.remote (Dev.tc n : Thread nD τ) (rowsOf agM (k0_off7 c) p₃)
      (.dma (elemOf cc0_scratch7 (k0_off5 c (BitVec.ofNat 32 (1 + r))) p₁)) hsc) (.dma (elemOf cc0_scratch8 (k0_off6 c) p₂)) hsrc hdst hsem) k) Q :=
  step_ag I K c 4 1 ⟨r, hr⟩ rfl rfl (peer_of_word (r := ⟨r, hr⟩) hn) (halfM_eq _ 1 rfl _) (slotM_eq _ c 1 (k0_off7_eq c) _) (elem2 1 _ _ (off5_eq c ⟨r, hr⟩)) (elem3 1 c _ (k0_off6_eq c)) hk

end Written

end Cert.MeshProof
-- ==== Proof.Local.lean ====
/-
The steps on a device's own buffers: reading its inputs, filling its attention rows head by head, its partial products,
its reduced rows and its result row by row.
-/
module

public import proofs.«01_k».proof.Proof.Moves

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)
open Idealize.ShloMosaic.Pipeline (Dat Cfg Window BodyObligation cellOf)

variable {F : FTy → Type} [FloatOps F]

local notation "𝕄" => MT nD τ sig Unit (Elt F) ℕ UU ℕ

variable (I : Inp F) (K : Dev nD × CK → ℕ) (c : Dev nD)

/-- A load from a buffer held within `P`, whose value is `v`. -/
theorem step_read {P R : sProp 𝕄} {α : Type} {Q : α → sProp 𝕄} {s : Shape} {e : EltTy} {m : Memref sig .tc .vmem s e} {r : LoadRect s} {hl : m.view.LoadsAt r}
    {S : Finset (Idx (m.view.loc (c : Thread nD τ)))} {q : PosShare TreeShare} {f : Buf (Elt F) (m.view.loc (c : Thread nD τ))}
    (hP : P ⊢ iprop((m.view.loc (c : Thread nD τ) ↦[S]{q} f) ∗ ((m.view.loc (c : Thread nD τ) ↦[S]{q} f) -∗ P)))
    (hS : m.view.setOn r.set ⊆ S) {v : r.shape.Idx → Elt F e} (hv : m.view.readAt (Elt F) r f = v)
    {k : (r.shape.Idx → Elt F e) → Prog (TpuEff nD τ sig (Elt F) Λ₀ .tc) α}
    (hk : iprop(ctx I K ∗ P ∗ R) ⊢ run c (k v) Q) :
    iprop(ctx I K ∗ P ∗ R) ⊢ run c (.op (.load m r hl) k) Q := by
  subst hv
  iintro ⟨#Hctx, HP, HR⟩
  ihave HP' := hP $$ HP
  icases HP' with ⟨H, Hback⟩
  iapply (wp_load 𝒱₀ (c : Thread nD τ) none Set.univ (m := m) hS) $$ H; iintro H
  iapply hk
  isplitr; · iexact Hctx
  isplitl [H Hback]; · iapply Hback; iexact H
  iexact HR

/-- A load whose value is not used. -/
theorem step_peek {P R : sProp 𝕄} {α : Type} {Q : α → sProp 𝕄} {s : Shape} {e : EltTy} {m : Memref sig .tc .vmem s e} {r : LoadRect s} {hl : m.view.LoadsAt r}
    {S : Finset (Idx (m.view.loc (c : Thread nD τ)))}
    (hP : P ⊢ iprop(∃ (f : Buf (Elt F) (m.view.loc (c : Thread nD τ))), (m.view.loc (c : Thread nD τ) ↦[S]{fullShare} f) ∗ ((m.view.loc (c : Thread nD τ) ↦[S]{fullShare} f) -∗ P)))
    (hS : m.view.setOn r.set ⊆ S)
    {k : (r.shape.Idx → Elt F e) → Prog (TpuEff nD τ sig (Elt F) Λ₀ .tc) α}
    (hk : ∀ v, iprop(ctx I K ∗ P ∗ R) ⊢ run c (k v) Q) :
    iprop(ctx I K ∗ P ∗ R) ⊢ run c (.op (.load m r hl) k) Q := by
  iintro ⟨#Hctx, HP, HR⟩
  ihave HP' := hP $$ HP
  icases HP' with ⟨%f, H, Hback⟩
  iapply (wp_load 𝒱₀ (c : Thread nD τ) none Set.univ (m := m) hS) $$ H; iintro H
  iapply (hk _)
  isplitr; · iexact Hctx
  isplitl [H Hback]; · iapply Hback; iexact H
  iexact HR

/-- A store into a buffer held within `P`, after which what is held is `P'`. -/
theorem step_write {P P' R : sProp 𝕄} {α : Type} {Q : α → sProp 𝕄} {s : Shape} {e : EltTy} {m : Memref sig .tc .vmem s e} {r : Rect s}
    {w : r.shape.Idx → Elt F e} {hx : (m.access r).Stores Finset.univ} {hm : (Finset.univ : Finset r.shape.Idx) = Finset.univ ∨ ∀ a, r.stride a = 1}
    {S : Finset (Idx ((m.access r).loc (c : Thread nD τ)))}
    (hP : P ⊢ iprop(∃ (f : Buf (Elt F) ((m.access r).loc (c : Thread nD τ))), ((m.access r).loc (c : Thread nD τ) ↦[S]{fullShare} f)
      ∗ (((m.access r).loc (c : Thread nD τ) ↦[S]{fullShare} ((m.access r).write (Elt F) f w Finset.univ)) -∗ P')))
    (hS : (m.access r).setOn Finset.univ ⊆ S) {k : Rest F α}
    (hk : iprop(ctx I K ∗ P' ∗ R) ⊢ run c (k ⟨⟩) Q) :
    iprop(ctx I K ∗ P ∗ R) ⊢ run c (.op (.store m r w Finset.univ hx hm) k) Q := by
  iintro ⟨#Hctx, HP, HR⟩
  ihave HP' := hP $$ HP
  icases HP' with ⟨%f, H, Hback⟩
  iapply (wp_store 𝒱₀ (c : Thread nD τ) none Set.univ (m := m) (r := r) (Mk := Finset.univ) hS) $$ H; iintro H
  iapply hk
  isplitr; · iexact Hctx
  isplitl [H Hback]; · iapply Hback; iexact H
  iexact HR

/-! ## Inputs and attention rows -/

abbrev whole₁ (b : Ref sig .tc) (f : b.ty.Contents (Elt F)) : sProp 𝕄 := ((c : Thread nD τ).loc b) ↦{fullShare} f

/-- The number of the head an element of the attention rows lies in. -/
def headNo (i : S512x512.Idx) : ℕ := 8 * ((i 0).val / 256) + (i 1).val / 64

/-- The attention rows with the first `k` heads in place. -/
def attnBuf (k : ℕ) : sProp 𝕄 := iprop(∃ f : Vec F S512x512 .f32, ⌜∀ i, headNo i < k → f i = attn I c i⌝ ∗ whole₁ (F := F) c cc0_scratch0 f)

/-- The device's inputs. -/
def inBufs : sProp 𝕄 := iprop(whole₁ (F := F) c cc0_stg0_0 (I.x c) ∗ whole₁ (F := F) c cc0_stg1_0 (I.wq c) ∗ whole₁ (F := F) c cc0_stg2_0 (I.wo c)
  ∗ whole₁ (F := F) c cc0_stg3_0 (I.wk c) ∗ whole₁ (F := F) c cc0_stg4_0 (I.wv c))

/-- The device's own computation: its inputs, `k` heads of its attention rows, room for its partial products. -/
def cmpSt (k : ℕ) : sProp 𝕄 := iprop(inBufs I c ∗ attnBuf I c k ∗ ∃ f, whole₁ (F := F) c cc0_scratch1 f)
def cmpSt' : sProp 𝕄 := iprop(inBufs I c ∗ attnBuf I c 16 ∗ whole₁ (F := F) c cc0_scratch1 (part I c))

theorem zero2 : (![0, 0] : Fin 2 → ℕ) = fun _ => 0 := by funext a; fin_cases a <;> rfl
theorem zero3 : (![0, 0, 0] : Fin 3 → ℕ) = fun _ => 0 := by funext a; fin_cases a <;> rfl

/-! The five inputs, read whole. -/

theorem read_x {R : sProp 𝕄} {α : Type} {Q : α → sProp 𝕄} (n : ℕ) {p} {hl} {k : Vec F S2x256x768 .f32 → Prog (TpuEff nD τ sig (Elt F) Λ₀ .tc) α}
    (hk : iprop(ctx I K ∗ cmpSt I c n ∗ R) ⊢ run c (k (I.x c)) Q) :
    iprop(ctx I K ∗ cmpSt I c n ∗ R) ⊢ run c (.op (.load (Memref.whole cc0_stg0_0) (Rect.unit (s := S2x256x768) ![0, 0, 0] S2x256x768.size p).toLoadRect hl) k) Q :=
  step_read I K c (S := Finset.univ) (q := fullShare) (f := I.x c) (by
    unfold cmpSt inBufs; iintro ⟨⟨H0, H1, H2, H3, H4⟩, H5⟩
    isplitl [H0]; · iexact H0
    iintro H0; isplitr [H5]
    · isplitl [H0]; · iexact H0
      isplitl [H1]; · iexact H1
      isplitl [H2]; · iexact H2
      isplitl [H3]; · iexact H3
      iexact H4
    iexact H5) (Finset.subset_univ _) (Memref.readAt_unit_zero (Elt F) cc0_stg0_0 zero3 _ _) hk

theorem read_wq {R : sProp 𝕄} {α : Type} {Q : α → sProp 𝕄} (n : ℕ) {p} {hl} {k : Vec F S768x512 .f32 → Prog (TpuEff nD τ sig (Elt F) Λ₀ .tc) α}
    (hk : iprop(ctx I K ∗ cmpSt I c n ∗ R) ⊢ run c (k (I.wq c)) Q) :
    iprop(ctx I K ∗ cmpSt I c n ∗ R) ⊢ run c (.op (.load (Memref.whole cc0_stg1_0) (Rect.unit (s := S768x512) ![0, 0] S768x512.size p).toLoadRect hl) k) Q :=
  step_read I K c (S := Finset.univ) (q := fullShare) (f := I.wq c) (by
    unfold cmpSt inBufs; iintro ⟨⟨H0, H1, H2, H3, H4⟩, H5⟩
    isplitl [H1]; · iexact H1
    iintro H1; isplitr [H5]
    · isplitl [H0]; · iexact H0
      isplitl [H1]; · iexact H1
      isplitl [H2]; · iexact H2
      isplitl [H3]; · iexact H3
      iexact H4
    iexact H5) (Finset.subset_univ _) (Memref.readAt_unit_zero (Elt F) cc0_stg1_0 zero2 _ _) hk

theorem read_wo {R : sProp 𝕄} {α : Type} {Q : α → sProp 𝕄} (n : ℕ) {p} {hl} {k : Vec F S512x768 .f32 → Prog (TpuEff nD τ sig (Elt F) Λ₀ .tc) α}
    (hk : iprop(ctx I K ∗ cmpSt I c n ∗ R) ⊢ run c (k (I.wo c)) Q) :
    iprop(ctx I K ∗ cmpSt I c n ∗ R) ⊢ run c (.op (.load (Memref.whole cc0_stg2_0) (Rect.unit (s := S512x768) ![0, 0] S512x768.size p).toLoadRect hl) k) Q :=
  step_read I K c (S := Finset.univ) (q := fullShare) (f := I.wo c) (by
    unfold cmpSt inBufs; iintro ⟨⟨H0, H1, H2, H3, H4⟩, H5⟩
    isplitl [H2]; · iexact H2
    iintro H2; isplitr [H5]
    · isplitl [H0]; · iexact H0
      isplitl [H1]; · iexact H1
      isplitl [H2]; · iexact H2
      isplitl [H3]; · iexact H3
      iexact H4
    iexact H5) (Finset.subset_univ _) (Memref.readAt_unit_zero (Elt F) cc0_stg2_0 zero2 _ _) hk

theorem read_wk {R : sProp 𝕄} {α : Type} {Q : α → sProp 𝕄} (n : ℕ) {p} {hl} {k : Vec F S768x512 .f32 → Prog (TpuEff nD τ sig (Elt F) Λ₀ .tc) α}
    (hk : iprop(ctx I K ∗ cmpSt I c n ∗ R) ⊢ run c (k (I.wk c)) Q) :
    iprop(ctx I K ∗ cmpSt I c n ∗ R) ⊢ run c (.op (.load (Memref.whole cc0_stg3_0) (Rect.unit (s := S768x512) ![0, 0] S768x512.size p).toLoadRect hl) k) Q :=
  step_read I K c (S := Finset.univ) (q := fullShare) (f := I.wk c) (by
    unfold cmpSt inBufs; iintro ⟨⟨H0, H1, H2, H3, H4⟩, H5⟩
    isplitl [H3]; · iexact H3
    iintro H3; isplitr [H5]
    · isplitl [H0]; · iexact H0
      isplitl [H1]; · iexact H1
      isplitl [H2]; · iexact H2
      isplitl [H3]; · iexact H3
      iexact H4
    iexact H5) (Finset.subset_univ _) (Memref.readAt_unit_zero (Elt F) cc0_stg3_0 zero2 _ _) hk

theorem read_wv {R : sProp 𝕄} {α : Type} {Q : α → sProp 𝕄} (n : ℕ) {p} {hl} {k : Vec F S768x512 .f32 → Prog (TpuEff nD τ sig (Elt F) Λ₀ .tc) α}
    (hk : iprop(ctx I K ∗ cmpSt I c n ∗ R) ⊢ run c (k (I.wv c)) Q) :
    iprop(ctx I K ∗ cmpSt I c n ∗ R) ⊢ run c (.op (.load (Memref.whole cc0_stg4_0) (Rect.unit (s := S768x512) ![0, 0] S768x512.size p).toLoadRect hl) k) Q :=
  step_read I K c (S := Finset.univ) (q := fullShare) (f := I.wv c) (by
    unfold cmpSt inBufs; iintro ⟨⟨H0, H1, H2, H3, H4⟩, H5⟩
    isplitl [H4]; · iexact H4
    iintro H4; isplitr [H5]
    · isplitl [H0]; · iexact H0
      isplitl [H1]; · iexact H1
      isplitl [H2]; · iexact H2
      isplitl [H3]; · iexact H3
      iexact H4
    iexact H5) (Finset.subset_univ _) (Memref.readAt_unit_zero (Elt F) cc0_stg4_0 zero2 _ _) hk

/-- The old rows of a head, whose value is not used. -/
theorem peek_attn {R : sProp 𝕄} {α : Type} {Q : α → sProp 𝕄} (n : ℕ) {r : LoadRect S512x512} {hl}
    {k : (r.shape.Idx → Elt F .f32) → Prog (TpuEff nD τ sig (Elt F) Λ₀ .tc) α}
    (hk : ∀ v, iprop(ctx I K ∗ cmpSt I c n ∗ R) ⊢ run c (k v) Q) :
    iprop(ctx I K ∗ cmpSt I c n ∗ R) ⊢ run c (.op (.load (Memref.whole cc0_scratch0) r hl) k) Q :=
  step_peek I K c (S := Finset.univ) (by
    unfold cmpSt attnBuf; iintro ⟨H0, ⟨%f, %hf, H1⟩, H2⟩
    iexists f; isplitl [H1]; · iexact H1
    iintro H1
    isplitl [H0]; · iexact H0
    isplitl [H1]
    · iexists f; isplitr; · ipureintro; exact hf
      iexact H1
    iexact H2) (Finset.subset_univ _) hk

/-- Where an element of a head's rectangle lies. -/
theorem head_mem (b : Fin 2) (j : Fin 8) {off : Fin 2 → ℕ} (e : off = ![256 * b.val, 64 * j.val])
    (p : ∀ a, off a + S256x64.size a ≤ S512x512.size a) (i : S512x512.Idx) :
    i ∈ (Rect.unit (s := S512x512) off S256x64.size p).set ↔ headNo i = 8 * b.val + j.val := by
  subst e
  rw [Rect.mem_set_unit, Fin.forall_fin_succ, Fin.forall_fin_succ]
  have h0 : (i 0).val < 512 := (i 0).isLt
  have h1 : (i 1).val < 512 := (i 1).isLt
  have hb := b.isLt; have hj := j.isLt
  unfold headNo
  constructor
  · rintro ⟨hx, hy, -⟩
    have hx' : 256 * b.val ≤ (i 0).val ∧ (i 0).val < 256 * b.val + 256 := hx
    have hy' : 64 * j.val ≤ (i 1).val ∧ (i 1).val < 64 * j.val + 64 := hy
    omega
  · intro h
    refine ⟨?_, ?_, fun a => a.elim0⟩
    · show 256 * b.val ≤ (i 0).val ∧ (i 0).val < 256 * b.val + 256; omega
    · show 64 * j.val ≤ (i 1).val ∧ (i 1).val < 64 * j.val + 64; omega

/-- Storing a head puts it in place and leaves the heads before it. -/
theorem head_write (b : Fin 2) (j : Fin 8) {off : Fin 2 → ℕ} (e : off = ![256 * b.val, 64 * j.val])
    (p : ∀ a, off a + S256x64.size a ≤ S512x512.size a) (f : Vec F S512x512 .f32) (n : ℕ) (hn : n = 8 * b.val + j.val)
    (hf : ∀ i, headNo i < n → f i = attn I c i) (i : S512x512.Idx) (hi : headNo i < n + 1) :
    ((Memref.whole cc0_scratch0).access (Rect.unit (s := S512x512) off S256x64.size p) : View sig .tc .vmem _ _).write (Elt F) f (headAt I c b j) Finset.univ i = attn I c i := by
  by_cases hm : i ∈ (Rect.unit (s := S512x512) off S256x64.size p).set
  · obtain ⟨x, rfl⟩ : ∃ x, (Rect.unit (s := S512x512) off S256x64.size p).emb x = i := by
      rw [← Rect.map_emb_univ] at hm
      obtain ⟨x, -, hx⟩ := Finset.mem_map.mp hm
      exact ⟨x, hx⟩
    refine (View.write_emb_of_mem (v := ((Memref.whole cc0_scratch0).access (Rect.unit (s := S512x512) off S256x64.size p) : View sig .tc .vmem _ _)) f _ (Finset.mem_univ x)).trans ?_
    have hh := (head_mem b j e p _).mp hm
    subst e
    have e0 : (((Rect.unit (s := S512x512) ![256 * b.val, 64 * j.val] S256x64.size p).emb x) 0).val = 256 * b.val + (x 0).val := by
      rw [Rect.emb_apply]; show 256 * b.val + 1 * (x 0).val = _; omega
    have e1 : (((Rect.unit (s := S512x512) ![256 * b.val, 64 * j.val] S256x64.size p).emb x) 1).val = 64 * j.val + (x 1).val := by
      rw [Rect.emb_apply]; show 64 * j.val + 1 * (x 1).val = _; omega
    have h0 : (x 0).val < 256 := (x 0).isLt
    have h1 : (x 1).val < 64 := (x 1).isLt
    unfold attn
    show headAt I c b j x = _
    congr 1
    · exact Fin.ext (by show b.val = _ / 256; rw [e0]; omega)
    · exact Fin.ext (by show j.val = _ / 64; rw [e1]; omega)
    · funext a
      match a with
      | ⟨0, _⟩ => exact Fin.ext (by show (x 0).val = _ % 256; rw [e0]; omega)
      | ⟨1, _⟩ => exact Fin.ext (by show (x 1).val = _ % 64; rw [e1]; omega)
  · have hm' : i ∉ ((Memref.whole cc0_scratch0).access (Rect.unit (s := S512x512) off S256x64.size p) : View sig .tc .vmem _ _).setOn Finset.univ := by
      intro h; refine hm ?_
      rw [View.setOn_univ] at h
      exact (View.set_slice_whole cc0_scratch0 (Rect.unit (s := S512x512) off S256x64.size p)) ▸ h
    rw [View.write_of_not_mem _ _ _ hm']
    have := mt (head_mem b j e p i).mpr hm
    exact hf i (by omega)

/-- A head stored. -/
theorem put_head {R : sProp 𝕄} {α : Type} {Q : α → sProp 𝕄} (n : ℕ) (b : Fin 2) (j : Fin 8) (hn : n = 8 * b.val + j.val) {off : Fin 2 → ℕ}
    (e : off = ![256 * b.val, 64 * j.val]) {p} {w : Vec F S256x64 .f32} (hw : w = headAt I c b j) {hx hm} {k : Rest F α}
    (hk : iprop(ctx I K ∗ cmpSt I c (n + 1) ∗ R) ⊢ run c (k ⟨⟩) Q) :
    iprop(ctx I K ∗ cmpSt I c n ∗ R)
      ⊢ run c (.op (.store (Memref.whole cc0_scratch0) (Rect.unit (s := S512x512) off S256x64.size p) w Finset.univ hx hm) k) Q := by
  subst hw
  refine step_write I K c (S := Finset.univ) ?_ (Finset.subset_univ _) hk
  unfold cmpSt attnBuf; iintro ⟨H0, ⟨%f, %hf, H1⟩, H2⟩
  iexists f; isplitl [H1]; · iexact H1
  iintro H1
  isplitl [H0]; · iexact H0
  isplitl [H1]
  · iexists _; isplitr
    · ipureintro; exact head_write I c b j e p f n hn hf
    iexact H1
  iexact H2

theorem headNo_lt (i : S512x512.Idx) : headNo i < 16 := by
  have h0 : (i 0).val < 512 := (i 0).isLt
  have h1 : (i 1).val < 512 := (i 1).isLt
  unfold headNo; omega

/-- The attention rows once all heads are in place. -/
theorem read_attn {R : sProp 𝕄} {α : Type} {Q : α → sProp 𝕄} {p} {hl} {k : Vec F S512x512 .f32 → Prog (TpuEff nD τ sig (Elt F) Λ₀ .tc) α}
    (hk : iprop(ctx I K ∗ cmpSt I c 16 ∗ R) ⊢ run c (k (attn I c)) Q) :
    iprop(ctx I K ∗ cmpSt I c 16 ∗ R) ⊢ run c (.op (.load (Memref.whole cc0_scratch0) (Rect.unit (s := S512x512) ![0, 0] S512x512.size p).toLoadRect hl) k) Q :=
  step_read I K c (S := Finset.univ) (q := fullShare) (f := attn I c) (by
    unfold cmpSt attnBuf; iintro ⟨H0, ⟨%f, %hf, H1⟩, H2⟩
    obtain rfl : f = attn I c := funext fun i => hf i (headNo_lt i)
    isplitl [H1]; · iexact H1
    iintro H1
    isplitl [H0]; · iexact H0
    isplitl [H1]
    · iexists _; isplitr; · ipureintro; exact hf
      iexact H1
    iexact H2) (Finset.subset_univ _) (Memref.readAt_unit_zero (Elt F) cc0_scratch0 zero2 _ _) hk

/-! ## The partial products -/

theorem peek_part {R : sProp 𝕄} {α : Type} {Q : α → sProp 𝕄} (n : ℕ) {r : LoadRect S16x32x768} {hl}
    {k : (r.shape.Idx → Elt F .f32) → Prog (TpuEff nD τ sig (Elt F) Λ₀ .tc) α}
    (hk : ∀ v, iprop(ctx I K ∗ cmpSt I c n ∗ R) ⊢ run c (k v) Q) :
    iprop(ctx I K ∗ cmpSt I c n ∗ R) ⊢ run c (.op (.load partM r hl) k) Q :=
  step_peek I K c (S := Finset.univ) (by
    unfold cmpSt; iintro ⟨H0, H1, ⟨%f, H2⟩⟩
    iexists f; isplitl [H2]; · iexact H2
    iintro H2
    isplitl [H0]; · iexact H0
    isplitl [H1]; · iexact H1
    iexists f; iexact H2) (Finset.subset_univ _) hk

theorem put_part {R : sProp 𝕄} {α : Type} {Q : α → sProp 𝕄} {p} {w : Vec F S16x32x768 .f32} (hw : w = part I c) {hx hm} {k : Rest F α}
    (hk : iprop(ctx I K ∗ cmpSt' I c ∗ R) ⊢ run c (k ⟨⟩) Q) :
    iprop(ctx I K ∗ cmpSt I c 16 ∗ R)
      ⊢ run c (.op (.store partM (Rect.unit (s := S16x32x768) ![0, 0, 0] S16x32x768.size p) w Finset.univ hx hm) k) Q := by
  subst hw
  refine step_write I K c (P' := cmpSt' I c) (S := Finset.univ) ?_ (Finset.subset_univ _) hk
  unfold cmpSt cmpSt'; iintro ⟨H0, H1, ⟨%f, H2⟩⟩
  iexists f; isplitl [H2]; · iexact H2
  iintro H2
  isplitl [H0]; · iexact H0
  isplitl [H1]; · iexact H1
  ihave H3 := (Entails.of_eq (congrArg (fun g => whole₁ (F := F) c cc0_scratch1 g) (Memref.write_access_unit_zero_univ (Elt F) cc0_scratch1 zero3 p f (part I c)))) $$ H2
  iexact H3

end Cert.MeshProof
-- ==== Proof.Rows.lean ====
/-
Waiting for the transfers, as the program writes the waits; summing the received rows; and writing the result.
-/
module

public import proofs.«01_k».proof.Proof.Local

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)
open Idealize.ShloMosaic.Pipeline (Dat Cfg Window BodyObligation cellOf)

variable {F : FTy → Type} [FloatOps F]

local notation "𝕄" => MT nD τ sig Unit (Elt F) ℕ UU ℕ

variable (I : Inp F) (K : Dev nD × CK → ℕ) (c : Dev nD)

/-! ## Waits -/

theorem raisers_recv₁ (s : Dev nD) : raisers 1 c s = {s} := rfl
theorem raisers_recv₃ (s : Dev nD) : raisers 3 c s = {s} := rfl
theorem raisers_send₀ (s : Dev nD) (h : s ≠ c) : raisers 0 c s = {c} := if_neg h
theorem raisers_send₂ (s : Dev nD) (h : s ≠ c) : raisers 2 c s = {c} := if_neg h

theorem ctx_mayWait_end (sm : SemLoc sig) : ctx I K ⊢ MayWait (c : Thread nD τ) sm () (owed c 4 15) := by
  rw [owed_end]; unfold ctx; iintro ⟨-, HL⟩; iapply (mayWait_zero c sm); iexact HL

/-- The wait for device `n`'s rows, half 0: the transfers of the reduced rows are still owed. -/
theorem wait_rs0 {R : sProp 𝕄} {α : Type} {Q : α → sProp 𝕄} (n : ℕ) (hn : n < 16) {p}
    {src dst : Memref sig .tc .vmem S16x768 .f32} {hsrc : src.view.WordExact} {hdst : dst.view.WordExact} {k : Rest F α}
    (hk : iprop(ctx I K ∗ waitSt I c 1 0 (fun s : Dev nD => s) (owed c 3 0) (n + 1) ∗ R) ⊢ run c (k ⟨⟩) Q) :
    iprop(ctx I K ∗ waitSt I c 1 0 (fun s : Dev nD => s) (owed c 3 0) n ∗ R) ⊢ run c (.op (.waitDma2 (elemOf cc0_scratch6 ![0, n] p) src dst hsrc hdst) k) Q :=
  step_wait I K c (fun s : Dev nD => s) (⟨n, hn⟩ : Dev nD) (raisers_recv₁ c _) (elem1 0 ⟨n, hn⟩ _ rfl)
    (ctx_mayWait I K c _ 3 0 (by show lv (dcell c 1 0 _) () < 3; rw [lv_cell]; decide)) hk

theorem wait_rs1 {R : sProp 𝕄} {α : Type} {Q : α → sProp 𝕄} (n : ℕ) (hn : n < 16) {p}
    {src dst : Memref sig .tc .vmem S16x768 .f32} {hsrc : src.view.WordExact} {hdst : dst.view.WordExact} {k : Rest F α}
    (hk : iprop(ctx I K ∗ waitSt I c 1 1 (fun s : Dev nD => s) (owed c 4 0) (n + 1) ∗ R) ⊢ run c (k ⟨⟩) Q) :
    iprop(ctx I K ∗ waitSt I c 1 1 (fun s : Dev nD => s) (owed c 4 0) n ∗ R) ⊢ run c (.op (.waitDma2 (elemOf cc0_scratch6 ![1, n] p) src dst hsrc hdst) k) Q :=
  step_wait I K c (fun s : Dev nD => s) (⟨n, hn⟩ : Dev nD) (raisers_recv₁ c _) (elem1 1 ⟨n, hn⟩ _ rfl)
    (ctx_mayWait I K c _ 4 0 (by show lv (dcell c 1 1 _) () < 3; rw [lv_cell]; decide)) hk

theorem wait_ag0 {R : sProp 𝕄} {α : Type} {Q : α → sProp 𝕄} (n : ℕ) (hn : n < 16) {p}
    {src dst : Memref sig .tc .vmem S16x768 .f32} {hsrc : src.view.WordExact} {hdst : dst.view.WordExact} {k : Rest F α}
    (hk : iprop(ctx I K ∗ waitSt I c 3 0 (fun s : Dev nD => s) (owed c 4 15) (n + 1) ∗ R) ⊢ run c (k ⟨⟩) Q) :
    iprop(ctx I K ∗ waitSt I c 3 0 (fun s : Dev nD => s) (owed c 4 15) n ∗ R) ⊢ run c (.op (.waitDma2 (elemOf cc0_scratch8 ![0, n] p) src dst hsrc hdst) k) Q :=
  step_wait I K c (fun s : Dev nD => s) (⟨n, hn⟩ : Dev nD) (raisers_recv₃ c _) (elem3 0 ⟨n, hn⟩ _ rfl) (ctx_mayWait_end I K c _) hk
theorem wait_ag1 {R : sProp 𝕄} {α : Type} {Q : α → sProp 𝕄} (n : ℕ) (hn : n < 16) {p}
    {src dst : Memref sig .tc .vmem S16x768 .f32} {hsrc : src.view.WordExact} {hdst : dst.view.WordExact} {k : Rest F α}
    (hk : iprop(ctx I K ∗ waitSt I c 3 1 (fun s : Dev nD => s) (owed c 4 15) (n + 1) ∗ R) ⊢ run c (k ⟨⟩) Q) :
    iprop(ctx I K ∗ waitSt I c 3 1 (fun s : Dev nD => s) (owed c 4 15) n ∗ R) ⊢ run c (.op (.waitDma2 (elemOf cc0_scratch8 ![1, n] p) src dst hsrc hdst) k) Q :=
  step_wait I K c (fun s : Dev nD => s) (⟨n, hn⟩ : Dev nD) (raisers_recv₃ c _) (elem3 1 ⟨n, hn⟩ _ rfl) (ctx_mayWait_end I K c _) hk

/-- The waits for the device's own transfers to have left, in the order they were begun. -/
theorem wait_sent_rs0 {R : sProp 𝕄} {α : Type} {Q : α → sProp 𝕄} (r : ℕ) (hr : r < 15) {p}
    {src dst : Memref sig .tc .vmem S16x768 .f32} {hsrc : src.view.WordExact} {hdst : dst.view.WordExact} {k : Rest F α}
    (hk : iprop(ctx I K ∗ waitSt I c 0 0 (peer c) (owed c 4 15) (r + 1) ∗ R) ⊢ run c (k ⟨⟩) Q) :
    iprop(ctx I K ∗ waitSt I c 0 0 (peer c) (owed c 4 15) r ∗ R) ⊢ run c (.op (.waitDma2 (elemOf cc0_scratch5 (k0_off1 c (BitVec.ofNat 32 (1 + r))) p) src dst hsrc hdst) k) Q :=
  step_wait I K c (peer c) ⟨r, hr⟩ (raisers_send₀ c _ (peer_ne c _)) (elem0 0 _ _ (off1_eq c ⟨r, hr⟩)) (ctx_mayWait_end I K c _) hk
theorem wait_sent_rs1 {R : sProp 𝕄} {α : Type} {Q : α → sProp 𝕄} (r : ℕ) (hr : r < 15) {p}
    {src dst : Memref sig .tc .vmem S16x768 .f32} {hsrc : src.view.WordExact} {hdst : dst.view.WordExact} {k : Rest F α}
    (hk : iprop(ctx I K ∗ waitSt I c 0 1 (peer c) (owed c 4 15) (r + 1) ∗ R) ⊢ run c (k ⟨⟩) Q) :
    iprop(ctx I K ∗ waitSt I c 0 1 (peer c) (owed c 4 15) r ∗ R) ⊢ run c (.op (.waitDma2 (elemOf cc0_scratch5 (k0_off5 c (BitVec.ofNat 32 (1 + r))) p) src dst hsrc hdst) k) Q :=
  step_wait I K c (peer c) ⟨r, hr⟩ (raisers_send₀ c _ (peer_ne c _)) (elem0 1 _ _ (off5_eq c ⟨r, hr⟩)) (ctx_mayWait_end I K c _) hk
theorem wait_sent_ag0 {R : sProp 𝕄} {α : Type} {Q : α → sProp 𝕄} (r : ℕ) (hr : r < 15) {p}
    {src dst : Memref sig .tc .vmem S16x768 .f32} {hsrc : src.view.WordExact} {hdst : dst.view.WordExact} {k : Rest F α}
    (hk : iprop(ctx I K ∗ waitSt I c 2 0 (peer c) (owed c 4 15) (r + 1) ∗ R) ⊢ run c (k ⟨⟩) Q) :
    iprop(ctx I K ∗ waitSt I c 2 0 (peer c) (owed c 4 15) r ∗ R) ⊢ run c (.op (.waitDma2 (elemOf cc0_scratch7 (k0_off1 c (BitVec.ofNat 32 (1 + r))) p) src dst hsrc hdst) k) Q :=
  step_wait I K c (peer c) ⟨r, hr⟩ (raisers_send₂ c _ (peer_ne c _)) (elem2 0 _ _ (off1_eq c ⟨r, hr⟩)) (ctx_mayWait_end I K c _) hk
theorem wait_sent_ag1 {R : sProp 𝕄} {α : Type} {Q : α → sProp 𝕄} (r : ℕ) (hr : r < 15) {p}
    {src dst : Memref sig .tc .vmem S16x768 .f32} {hsrc : src.view.WordExact} {hdst : dst.view.WordExact} {k : Rest F α}
    (hk : iprop(ctx I K ∗ waitSt I c 2 1 (peer c) (owed c 4 15) (r + 1) ∗ R) ⊢ run c (k ⟨⟩) Q) :
    iprop(ctx I K ∗ waitSt I c 2 1 (peer c) (owed c 4 15) r ∗ R) ⊢ run c (.op (.waitDma2 (elemOf cc0_scratch7 (k0_off5 c (BitVec.ofNat 32 (1 + r))) p) src dst hsrc hdst) k) Q :=
  step_wait I K c (peer c) ⟨r, hr⟩ (raisers_send₂ c _ (peer_ne c _)) (elem2 1 _ _ (off5_eq c ⟨r, hr⟩)) (ctx_mayWait_end I K c _) hk

/-! ## Summing the received rows -/

/-- What is held while half `h` is summed: all received rows of that half, and the place for the sum. -/
def sumSt (h : Fin 2) : sProp 𝕄 := iprop((((c : Thread nD τ).loc cc0_scratch3) ↦[sideSet h]{fullShare} (rs I c : Vec F S16x32x768 .f32))
  ∗ ∃ f : Vec F S32x768 .f32, ((c : Thread nD τ).loc cc0_scratch2) ↦[halfSet h]{fullShare} f)
def sumSt' (h : Fin 2) : sProp 𝕄 := iprop((((c : Thread nD τ).loc cc0_scratch3) ↦[sideSet h]{fullShare} (rs I c : Vec F S16x32x768 .f32))
  ∗ ((c : Thread nD τ).loc cc0_scratch2) ↦[halfSet h]{fullShare} (red I c : Vec F S32x768 .f32))

theorem row_lt (h : Fin 2) {a : ℕ} (ha : a < 16) : 16 * h.val + a < 32 := by have := h.isLt; omega

/-- The rows received from `s`, half `h`. -/
def rsRow (h : Fin 2) (s : Dev nD) : Vec F S1x16x768 .f32 := fun i => part I s (ix3 c ⟨16 * h.val + (i 1).val, row_lt h (i 1).isLt⟩ (i 2))

theorem rsRow_eq (h : Fin 2) (s : Dev nD) {off : Fin 3 → ℕ} (e : off = ![s.val, 16 * h.val, 0]) (p : ∀ a, off a + S1x16x768.size a ≤ S16x32x768.size a) :
    rsM.view.readAt (Elt F) (Rect.unit (s := S16x32x768) off S1x16x768.size p).toLoadRect (rs I c) = rsRow I c h s := by
  subst e
  funext i
  have h0 : (i 0).val < 1 := (i 0).isLt
  have e0 : ((Rect.unit (s := S16x32x768) ![s.val, 16 * h.val, 0] S1x16x768.size p).emb i) 0 = s :=
    Fin.ext (by rw [Rect.emb_apply]; show s.val + 1 * (i 0).val = s.val; omega)
  have e1 : ((Rect.unit (s := S16x32x768) ![s.val, 16 * h.val, 0] S1x16x768.size p).emb i) 1 = ⟨16 * h.val + (i 1).val, row_lt h (i 1).isLt⟩ :=
    Fin.ext (by rw [Rect.emb_apply]; show 16 * h.val + 1 * (i 1).val = 16 * h.val + (i 1).val; omega)
  have e2 : ((Rect.unit (s := S16x32x768) ![s.val, 16 * h.val, 0] S1x16x768.size p).emb i) 2 = i 2 :=
    Fin.ext (by rw [Rect.emb_apply]; show 0 + 1 * (i 2).val = (i 2).val; omega)
  show rs I c ((Rect.unit (s := S16x32x768) ![s.val, 16 * h.val, 0] S1x16x768.size p).emb i) = _
  unfold rs rsRow
  rw [e0, e1, e2]
  rfl

theorem row_within (h : Fin 2) (s : Dev nD) {off : Fin 3 → ℕ} (e : off = ![s.val, 16 * h.val, 0]) (p : ∀ a, off a + S1x16x768.size a ≤ S16x32x768.size a) :
    rsM.view.setOn (Rect.unit (s := S16x32x768) off S1x16x768.size p).toLoadRect.set ⊆ sideSet h := by
  subst e
  intro i hi
  have hs : i ∈ slotSet s h := by
    obtain ⟨x, hx, rfl⟩ := Finset.mem_map.mp hi
    exact hx
  exact Finset.mem_biUnion.mpr ⟨s, Finset.mem_univ s, hs⟩

/-- Reading the rows received from device `n`. -/
theorem read_rs {R : sProp 𝕄} {α : Type} {Q : α → sProp 𝕄} (h : Fin 2) (n : ℕ) (hn : n < 16) {off : Fin 3 → ℕ} (e : off = ![n, 16 * h.val, 0]) {p} {hl}
    {k : Vec F S1x16x768 .f32 → Prog (TpuEff nD τ sig (Elt F) Λ₀ .tc) α} (hk : iprop(ctx I K ∗ sumSt I c h ∗ R) ⊢ run c (k (rsRow I c h ⟨n, hn⟩)) Q) :
    iprop(ctx I K ∗ sumSt I c h ∗ R) ⊢ run c (.op (.load rsM (Rect.unit (s := S16x32x768) off S1x16x768.size p).toLoadRect hl) k) Q :=
  step_read I K c (m := rsM) (S := sideSet h) (q := fullShare) (f := rs I c) (by
    unfold sumSt; iintro ⟨H0, H1⟩
    isplitl [H0]; · iexact H0
    iintro H0; isplitl [H0]; · iexact H0
    iexact H1) (row_within h ⟨n, hn⟩ e p) (rsRow_eq I c h ⟨n, hn⟩ e p) hk

theorem half_within (h : Fin 2) {off : Fin 2 → ℕ} (e : off = ![16 * h.val, 0]) (p : ∀ a, off a + S16x768.size a ≤ S32x768.size a) :
    (redM.access (Rect.unit (s := S32x768) off S16x768.size p)).setOn Finset.univ = halfSet h := by
  subst e
  exact (View.setOn_univ _).trans (View.set_slice_whole cc0_scratch2 _)

theorem peek_red {R : sProp 𝕄} {α : Type} {Q : α → sProp 𝕄} (h : Fin 2) {off : Fin 2 → ℕ} (e : off = ![16 * h.val, 0]) {p} {hl}
    {k : Vec F S16x768 .f32 → Prog (TpuEff nD τ sig (Elt F) Λ₀ .tc) α} (hk : ∀ v, iprop(ctx I K ∗ sumSt I c h ∗ R) ⊢ run c (k v) Q) :
    iprop(ctx I K ∗ sumSt I c h ∗ R) ⊢ run c (.op (.load redM (Rect.unit (s := S32x768) off S16x768.size p).toLoadRect hl) k) Q :=
  step_peek I K c (m := redM) (S := halfSet h) (by
    unfold sumSt; iintro ⟨H0, ⟨%f, H1⟩⟩
    iexists f; isplitl [H1]; · iexact H1
    iintro H1; isplitl [H0]; · iexact H0
    iexists f; iexact H1) (fun i hi => by
      subst e
      obtain ⟨x, hx, rfl⟩ := Finset.mem_map.mp hi
      exact hx) hk

/-- The tree of sums, on whole tiles. -/
def treeV (g : Dev nD → FVec F S16x768 .f32) : FVec F S16x768 .f32 :=
  addf (addf (addf (addf (g 0) (g 1)) (addf (g 2) (g 3))) (addf (addf (g 4) (g 5)) (addf (g 6) (g 7))))
    (addf (addf (addf (g 8) (g 9)) (addf (g 10) (g 11))) (addf (addf (g 12) (g 13)) (addf (g 14) (g 15))))

/-- The sum of the received rows, as the kernel stores it. -/
def sumTile (h : Fin 2) : FVec F S16x768 .f32 :=
  shapeCast S16x768 (treeV fun s => shapeCast S16x768 (rsRow I c h s) shapeCasts_S1x16x768_S16x768) shapeCasts_S16x768_S16x768

theorem sumTile_apply (h : Fin 2) (x : S16x768.Idx) :
    sumTile I c h x = red I c (ix2 ⟨16 * h.val + (x 0).val, row_lt h (x 0).isLt⟩ (x 1)) := by
  have e : ∀ s, shapeCast S16x768 (rsRow I c h s) shapeCasts_S1x16x768_S16x768 x = part I s (ix3 c ⟨16 * h.val + (x 0).val, row_lt h (x 0).isLt⟩ (x 1)) := fun s => by
    unfold shapeCast
    rw [Shape.reshapeEquiv_cons_one (n := 2) (d := ![16, 768]) _ x]
    rfl
  unfold sumTile
  rw [shapeCast_self]
  show tree (fun s => shapeCast S16x768 (rsRow I c h s) shapeCasts_S1x16x768_S16x768 x) = _
  rw [funext e]
  rfl

/-- The sum stored. -/
theorem put_red {R : sProp 𝕄} {α : Type} {Q : α → sProp 𝕄} (h : Fin 2) {off : Fin 2 → ℕ} (e : off = ![16 * h.val, 0]) {p}
    {w : Vec F S16x768 .f32} (hw : w = sumTile I c h) {hx hm} {k : Rest F α}
    (hk : iprop(ctx I K ∗ sumSt' I c h ∗ R) ⊢ run c (k ⟨⟩) Q) :
    iprop(ctx I K ∗ sumSt I c h ∗ R) ⊢ run c (.op (.store redM (Rect.unit (s := S32x768) off S16x768.size p) w Finset.univ hx hm) k) Q := by
  subst hw
  refine step_write I K c (m := redM) (r := Rect.unit (s := S32x768) off S16x768.size p) (P' := sumSt' I c h) (S := halfSet h) ?_ (half_within h e p).subset hk
  unfold sumSt sumSt'; iintro ⟨H0, ⟨%f, H1⟩⟩
  iexists f; isplitl [H1]; · iexact H1
  iintro H1; isplitl [H0]; · iexact H0
  have hl : ∀ i ∈ halfSet h, (redM.access (Rect.unit (s := S32x768) off S16x768.size p)).write (Elt F) f (sumTile I c h) Finset.univ i = red I c i := by
    subst e
    rw [← half_within h rfl p, View.setOn_univ]
    refine landed (redM.access (Rect.unit (s := S32x768) ![16 * h.val, 0] S16x768.size p)) f (red I c) _ fun x => ?_
    show sumTile I c h x = red I c ((Rect.unit (s := S32x768) ![16 * h.val, 0] S16x768.size p).emb x)
    rw [sumTile_apply]
    congr 1
    funext a
    refine Fin.ext ?_
    rw [Rect.emb_apply]
    match a with
    | ⟨0, _⟩ => show 16 * h.val + (x 0).val = 16 * h.val + 1 * (x 0).val; omega
    | ⟨1, _⟩ => show (x 1).val = 0 + 1 * (x 1).val; omega
  iapply (Entails.of_eq (pointsTo_congr (ℓ := (c : Thread nD τ).loc cc0_scratch2) (q := fullShare) hl)); iexact H1

/-! ## The result, row by row -/

/-- The first `k` devices' rows of the result in place; the gathered rows held whole. -/
def outSt (k : ℕ) : sProp 𝕄 := iprop(whole₁ (F := F) c cc0_scratch4 (all I)
  ∗ ∃ f : Vec F S16x32x768 .f32, ⌜∀ i, (i 0).val < k → f i = all I i⌝ ∗ whole₁ (F := F) c cc0_stg5_0 f)

/-- The rows of device `s` in the result. -/
def outRow (s : Dev nD) : Vec F S1x32x768 .f32 := fun i => all I (ix3 s (i 1) (i 2))

theorem row_emb (n : ℕ) (hn : n < 16) {off : Fin 3 → ℕ} (e : off = ![n, 0, 0]) (p : ∀ a, off a + S1x32x768.size a ≤ S16x32x768.size a)
    (i : (Rect.unit (s := S16x32x768) off S1x32x768.size p).shape.Idx) :
    (Rect.unit (s := S16x32x768) off S1x32x768.size p).emb i = ix3 (⟨n, hn⟩ : Fin 16) (i 1) (i 2) := by
  subst e
  have h0 : (i 0).val < 1 := (i 0).isLt
  funext a
  refine Fin.ext ?_
  rw [Rect.emb_apply]
  match a with
  | ⟨0, _⟩ => show n + 1 * (i 0).val = n; omega
  | ⟨1, _⟩ => show 0 + 1 * (i 1).val = (i 1).val; omega
  | ⟨2, _⟩ => show 0 + 1 * (i 2).val = (i 2).val; omega

theorem row_mem (n : ℕ) (hn : n < 16) {off : Fin 3 → ℕ} (e : off = ![n, 0, 0]) (p : ∀ a, off a + S1x32x768.size a ≤ S16x32x768.size a) (i : S16x32x768.Idx) :
    i ∈ (Rect.unit (s := S16x32x768) off S1x32x768.size p).set ↔ (i 0).val = n := by
  subst e
  rw [Rect.mem_set_unit, Fin.forall_fin_succ, Fin.forall_fin_succ, Fin.forall_fin_succ]
  have h1 : (i 1).val < 32 := (i 1).isLt
  have h2 : (i 2).val < 768 := (i 2).isLt
  constructor
  · rintro ⟨h0, -⟩
    have h0' : n ≤ (i 0).val ∧ (i 0).val < n + 1 := h0
    omega
  · intro h0
    refine ⟨?_, ?_, ?_, fun a => a.elim0⟩
    · show n ≤ (i 0).val ∧ (i 0).val < n + 1; omega
    · show 0 ≤ (i 1).val ∧ (i 1).val < 0 + 32; omega
    · show 0 ≤ (i 2).val ∧ (i 2).val < 0 + 768; omega

theorem outRow_eq (n : ℕ) (hn : n < 16) (p : ∀ a, (![n, 0, 0] : Fin 3 → ℕ) a + S1x32x768.size a ≤ S16x32x768.size a) :
    agM.view.readAt (Elt F) (Rect.unit (s := S16x32x768) ![n, 0, 0] S1x32x768.size p).toLoadRect (all I) = outRow I ⟨n, hn⟩ := by
  funext i
  show all I ((Rect.unit (s := S16x32x768) ![n, 0, 0] S1x32x768.size p).emb i) = _
  exact congrArg (all I) (row_emb n hn rfl p i)

theorem read_row {R : sProp 𝕄} {α : Type} {Q : α → sProp 𝕄} (n : ℕ) (hn : n < 16) {p} {hl}
    {k : Vec F S1x32x768 .f32 → Prog (TpuEff nD τ sig (Elt F) Λ₀ .tc) α} (hk : iprop(ctx I K ∗ outSt I c n ∗ R) ⊢ run c (k (outRow I ⟨n, hn⟩)) Q) :
    iprop(ctx I K ∗ outSt I c n ∗ R) ⊢ run c (.op (.load agM (Rect.unit (s := S16x32x768) ![n, 0, 0] S1x32x768.size p).toLoadRect hl) k) Q :=
  step_read I K c (S := Finset.univ) (q := fullShare) (f := all I) (by
    unfold outSt; iintro ⟨H0, H1⟩
    isplitl [H0]; · iexact H0
    iintro H0; isplitl [H0]; · iexact H0
    iexact H1) (Finset.subset_univ _) (outRow_eq I n hn p) hk

theorem peek_row {R : sProp 𝕄} {α : Type} {Q : α → sProp 𝕄} (n : ℕ) {r : LoadRect S16x32x768} {hl}
    {k : (r.shape.Idx → Elt F .f32) → Prog (TpuEff nD τ sig (Elt F) Λ₀ .tc) α} (hk : ∀ v, iprop(ctx I K ∗ outSt I c n ∗ R) ⊢ run c (k v) Q) :
    iprop(ctx I K ∗ outSt I c n ∗ R) ⊢ run c (.op (.load (Memref.whole cc0_stg5_0) r hl) k) Q :=
  step_peek I K c (S := Finset.univ) (by
    unfold outSt; iintro ⟨H0, ⟨%f, %hf, H1⟩⟩
    iexists f; isplitl [H1]; · iexact H1
    iintro H1; isplitl [H0]; · iexact H0
    iexists f; isplitr; · ipureintro; exact hf
    iexact H1) (Finset.subset_univ _) hk

theorem row_write (n : ℕ) (hn : n < 16) (p : ∀ a, (![n, 0, 0] : Fin 3 → ℕ) a + S1x32x768.size a ≤ S16x32x768.size a) (f : Vec F S16x32x768 .f32)
    (hf : ∀ i, (i 0).val < n → f i = all I i) (i : S16x32x768.Idx) (hi : (i 0).val < n + 1) :
    ((Memref.whole cc0_stg5_0).access (Rect.unit (s := S16x32x768) ![n, 0, 0] S1x32x768.size p) : View sig .tc .vmem _ _).write (Elt F) f (outRow I ⟨n, hn⟩) Finset.univ i = all I i := by
  have hset : ((Memref.whole cc0_stg5_0).access (Rect.unit (s := S16x32x768) ![n, 0, 0] S1x32x768.size p) : View sig .tc .vmem _ _).set
      = (Rect.unit (s := S16x32x768) ![n, 0, 0] S1x32x768.size p).set := View.set_slice_whole cc0_stg5_0 _
  by_cases hm : i ∈ (Rect.unit (s := S16x32x768) ![n, 0, 0] S1x32x768.size p).set
  · refine landed ((Memref.whole cc0_stg5_0).access (Rect.unit (s := S16x32x768) ![n, 0, 0] S1x32x768.size p) : View sig .tc .vmem _ _) f (all I) _ (fun x => ?_) i (hset ▸ hm)
    exact (congrArg (all I) (row_emb n hn rfl p x)).symm
  · rw [View.write_of_not_mem _ _ _ (by rw [View.setOn_univ, hset]; exact hm)]
    have := mt (row_mem n hn rfl p i).mpr hm
    exact hf i (by omega)

theorem put_row {R : sProp 𝕄} {α : Type} {Q : α → sProp 𝕄} (n : ℕ) (hn : n < 16) {p} {w : Vec F S1x32x768 .f32}
    (hw : w = shapeCast S1x32x768 (shapeCast S32x768 (outRow I ⟨n, hn⟩) shapeCasts_S1x32x768_S32x768) shapeCasts_S32x768_S1x32x768) {hx hm} {k : Rest F α}
    (hk : iprop(ctx I K ∗ outSt I c (n + 1) ∗ R) ⊢ run c (k ⟨⟩) Q) :
    iprop(ctx I K ∗ outSt I c n ∗ R)
      ⊢ run c (.op (.store (Memref.whole cc0_stg5_0) (Rect.unit (s := S16x32x768) ![n, 0, 0] S1x32x768.size p) w Finset.univ hx hm) k) Q := by
  rw [shapeCast_shapeCast] at hw
  subst hw
  refine step_write I K c (S := Finset.univ) ?_ (Finset.subset_univ _) hk
  unfold outSt; iintro ⟨H0, ⟨%f, %hf, H1⟩⟩
  iexists f; isplitl [H1]; · iexact H1
  iintro H1; isplitl [H0]; · iexact H0
  iexists _; isplitr
  · ipureintro; exact row_write I n hn p f hf
  iexact H1

end Cert.MeshProof
-- ==== Proof.Phases.lean ====
/-
What is held between the phases of the body: buffers cut into slots and joined again, and each phase's beginning and end.
-/
module

public import proofs.«01_k».proof.Proof.Rows

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (I : Inp F) (c : Dev nD)

/-! ## Buffers and their slots -/

omit [FloatOps F] in
/-- The partial products are their slots of half 0 and those of half 1. -/
theorem part_slots (f : Vec F S16x32x768 .f32) : (whole₁ (F := F) c cc0_scratch1 f : sProp 𝕄)
    = iprop((bigSep Finset.univ fun s => partPts c s 0 f) ∗ bigSep Finset.univ fun s => partPts c s 1 f) := by
  show ((c : Thread nD τ).loc cc0_scratch1 ↦{fullShare} f : sProp 𝕄) = _
  unfold partPts
  rw [← pointsTo_biUnion _ _ fun s _ s' _ h => slot_disjoint 0 s s' h, ← pointsTo_biUnion _ _ fun s _ s' _ h => slot_disjoint 1 s s' h]
  refine Eq.trans ?_ (BI.Entails.antisymm (pointsTo_union side_disjoint).1 (pointsTo_union side_disjoint).2)
  rw [show (Finset.univ.biUnion fun s => slotSet s 0) ∪ (Finset.univ.biUnion fun s => slotSet s 1) = Finset.univ from side_union]

omit [FloatOps F] in
/-- One half of a buffer's slots together. -/
theorem rs_side (h : Fin 2) (f : Vec F S16x32x768 .f32) :
    (bigSep Finset.univ fun s => rsPts (F := F) c s h f : sProp 𝕄) = (((c : Thread nD τ).loc cc0_scratch3) ↦[sideSet h]{fullShare} f) := by
  unfold rsPts; rw [← pointsTo_biUnion _ _ fun s _ s' _ hh => slot_disjoint h s s' hh]; rfl
omit [FloatOps F] in
theorem rs_whole (f : Vec F S16x32x768 .f32) : (whole₁ (F := F) c cc0_scratch3 f : sProp 𝕄)
    = iprop((((c : Thread nD τ).loc cc0_scratch3) ↦[sideSet 0]{fullShare} f) ∗ ((c : Thread nD τ).loc cc0_scratch3) ↦[sideSet 1]{fullShare} f) := by
  refine Eq.trans ?_ (BI.Entails.antisymm (pointsTo_union side_disjoint).1 (pointsTo_union side_disjoint).2)
  rw [side_union]
omit [FloatOps F] in
theorem ag_side (h : Fin 2) (f : Vec F S16x32x768 .f32) :
    (bigSep Finset.univ fun s => agPts (F := F) c s h f : sProp 𝕄) = (((c : Thread nD τ).loc cc0_scratch4) ↦[sideSet h]{fullShare} f) := by
  unfold agPts; rw [← pointsTo_biUnion _ _ fun s _ s' _ hh => slot_disjoint h s s' hh]; rfl
omit [FloatOps F] in
theorem ag_whole (f : Vec F S16x32x768 .f32) : (whole₁ (F := F) c cc0_scratch4 f : sProp 𝕄)
    = iprop((((c : Thread nD τ).loc cc0_scratch4) ↦[sideSet 0]{fullShare} f) ∗ ((c : Thread nD τ).loc cc0_scratch4) ↦[sideSet 1]{fullShare} f) := by
  refine Eq.trans ?_ (BI.Entails.antisymm (pointsTo_union side_disjoint).1 (pointsTo_union side_disjoint).2)
  rw [side_union]
omit [FloatOps F] in
theorem red_whole (f : Vec F S32x768 .f32) : (whole₁ (F := F) c cc0_scratch2 f : sProp 𝕄)
    = iprop((((c : Thread nD τ).loc cc0_scratch2) ↦[halfSet 0]{fullShare} f) ∗ ((c : Thread nD τ).loc cc0_scratch2) ↦[halfSet 1]{fullShare} f) := by
  refine Eq.trans ?_ (BI.Entails.antisymm (pointsTo_union half_disjoint).1 (pointsTo_union half_disjoint).2)
  rw [half_union]
omit [FloatOps F] in
/-- Half the reduced rows is its sixteen shares. -/
theorem red_shares (h : Fin 2) (f : Vec F S32x768 .f32) :
    (((c : Thread nD τ).loc cc0_scratch2) ↦[halfSet h]{fullShare} f : sProp 𝕄) = bigSep Finset.univ fun d : Dev nD => redPts c h d f := by
  have e := pointsTo_leaves (Val := Elt F) (Ix := Unit) (Name := ℕ) (U := UU) (Lvl := ℕ) (ℓ := (c : Thread nD τ).loc cc0_scratch2) (halfSet h) f 4 fullShare
  rw [e]; rfl

/-! ## What accompanies each exchange -/

/-- To wait for half `h` of receive array `k`: the positions of its cells, and the credits of the other devices' transfers. -/
def recvW (k : Fin 4) (h : Fin 2) : sProp 𝕄 := iprop((bigSep Finset.univ fun s : Dev nD => atPos ER (dcell c k h s) 0 ∅ 0)
  ∗ bigSep Finset.univ fun r : Fin 15 => cred (tallyAt (dcell c k h (peer c r)) () N))
/-- The credits of the device's own transfers of half `h`, send array `k`. -/
def sentCr (k : Fin 4) (h : Fin 2) : sProp 𝕄 := bigSep Finset.univ fun r : Fin 15 => cred (tallyAt (dcell c k h (peer c r)) () N)
def sendW (k : Fin 4) (h : Fin 2) : sProp 𝕄 := bigSep Finset.univ fun s : Dev nD => atPos ER (dcell c k h s) 0 ∅ 0
/-- The duties of the device's transfers of half `h`, send array `k₁` and receive array `k₂`. -/
def toks (k₁ k₂ : Fin 4) (h : Fin 2) : sProp 𝕄 := bigSep Finset.univ fun r : Fin 15 =>
  iprop(dutyTok ER (dcell c k₁ h (peer c r)) 0 c ∗ dutyTok ER (dcell (peer c r) k₂ h c) 0 c)
def ownCr (k : Fin 4) (h : Fin 2) : sProp 𝕄 := cred (tallyAt (dcell c k h c) () N)

/-- Before the reduction's transfers of half `h`: the duties, and the device's own landing slot. -/
def exR (h : Fin 2) : sProp 𝕄 := iprop(toks (F := F) c 0 1 h ∗ dutyTok ER (dcell c 1 h c) 0 c ∗ ∃ f, rsPts (F := F) c c h f)
def exA (h : Fin 2) : sProp 𝕄 := iprop(toks (F := F) c 2 3 h ∗ dutyTok ER (dcell c 3 h c) 0 c ∗ ∃ f, agPts (F := F) c c h f)
/-- The rows to send for reduction, with their landing slots and duties. -/
def rsMat (h : Fin 2) : sProp 𝕄 := bigSep Finset.univ fun r : Fin 15 => iprop(partPts c (peer c r) h (part I c) ∗ (∃ f, rsPts (F := F) (peer c r) c h f)
      ∗ dutyTok ER (dcell c 0 h (peer c r)) 0 c ∗ dutyTok ER (dcell (peer c r) 1 h c) 0 c)
def rsOwn (h : Fin 2) : sProp 𝕄 := iprop(partPts c c h (part I c) ∗ (∃ f, rsPts (F := F) c c h f) ∗ dutyTok ER (dcell c 1 h c) 0 c)
def agOwn (h : Fin 2) : sProp 𝕄 := iprop(redPts c h c (red I c) ∗ (∃ f, agPts (F := F) c c h f) ∗ dutyTok ER (dcell c 3 h c) 0 c)
/-- The landing slots on the others for the device's reduced rows. -/
def agL (h : Fin 2) : sProp 𝕄 := bigSep Finset.univ fun r : Fin 15 => iprop(∃ f, agPts (F := F) (peer c r) c h f)
def redFree (h : Fin 2) : sProp 𝕄 := iprop(∃ f : Vec F S32x768 .f32, ((c : Thread nD τ).loc cc0_scratch2) ↦[halfSet h]{fullShare} f)
/-- The positions of an array's cells once its waits are over. -/
def posR (k : Fin 4) (h : Fin 2) : sProp 𝕄 := bigSep Finset.univ fun s : Dev nD => atPos ER (dcell c k h s) 1 ∅ 0
def posS (k : Fin 4) (h : Fin 2) : sProp 𝕄 := bigSep Finset.univ fun r : Fin 15 => atPos ER (dcell c k h (peer c r)) 1 ∅ 0
/-- The barrier's due and position. -/
def barW : sProp 𝕄 := iprop(cred (tallyAt (barCell c) () 15) ∗ atPos ER (barCell c) 0 ∅ 0)

/-! ## From phase to phase -/

theorem to_barrier : iprop(sigSt (F := F) c 15 ∗ barW c) ⊢ barSt c := by
  unfold sigSt barW barSt
  rw [owed_next c 0 1 rfl]
  iintro ⟨⟨HO, -⟩, Hc, Ha⟩
  isplitl [HO]; · iexact HO
  isplitl [Hc]; · iexact Hc
  iexact Ha

theorem mat_split (h : Fin 2) : iprop((bigSep Finset.univ fun s => partPts c s h (part I c))
      ∗ (bigSep Finset.univ fun r : Fin 15 => iprop(∃ f, rsPts (F := F) (peer c r) c h f)) ∗ exR (F := F) c h) ⊢ iprop(rsMat I c h ∗ rsOwn I c h) := by
  unfold exR rsMat rsOwn toks
  rw [bigSep_devs c]
  simp only [bigSep_sep']
  iintro ⟨⟨Hp, HP⟩, HL, HT, Ht, Hl⟩
  isplitl [HP HL HT]
  · isplitl [HP]; · iexact HP
    isplitl [HL]; · iexact HL
    iexact HT
  isplitl [Hp]; · iexact Hp
  isplitl [Hl]; · iexact Hl
  iexact Ht

theorem rsSt_begin (p : Fin 5) (h : Fin 2) : iprop(owesE (F := F) c (owed c p 0) ∗ rsMat I c h) ⊢ rsSt I c p h 0 := by
  unfold rsSt rsMat; rw [todo_zero, done_zero, bigSep_empty]
  iintro ⟨HO, HM⟩
  isplitl [HO]; · iexact HO
  isplitl [HM]; · iexact HM
  iempintro
theorem rsSt_end (p : Fin 5) (h : Fin 2) : rsSt I c p h 15 ⊢ iprop(owesE (F := F) c (owed c p 15) ∗ sentCr c 0 h) := by
  unfold rsSt sentCr; rw [done_full]
  iintro ⟨HO, -, HD⟩
  isplitl [HO]; · iexact HO
  iexact HD
theorem agSt_end (p : Fin 5) (h : Fin 2) : agSt I c p h 15 ⊢ iprop(owesE (F := F) c (owed c p 15) ∗ sentCr c 2 h) := by
  unfold agSt sentCr; rw [done_full]
  iintro ⟨HO, -, HD⟩
  isplitl [HO]; · iexact HO
  iexact HD

/-- From the barrier to the first half's transfers: the partial products are cut by destination. -/
theorem to_rs0 : iprop(barSt' (F := F) c ∗ whole₁ (F := F) c cc0_scratch1 (part I c) ∗ exR (F := F) c 0 ∗ exR (F := F) c 1)
    ⊢ iprop(rsSt I c 1 0 0 ∗ rsOwn I c 0 ∗ (rsMat I c 1 ∗ rsOwn I c 1) ∗ (agL (F := F) c 0 ∗ agL (F := F) c 1) ∗ atPos ER (barCell c) 1 ∅ 0) := by
  unfold barSt'
  rw [part_slots]
  have e : (bigSep Finset.univ fun r : Fin 15 => barPay (F := F) c (peer c r)) = iprop(((bigSep Finset.univ fun r : Fin 15 => iprop(∃ f, rsPts (F := F) (peer c r) c 0 f)) ∗ agL (F := F) c 0)
      ∗ ((bigSep Finset.univ fun r : Fin 15 => iprop(∃ f, rsPts (F := F) (peer c r) c 1 f)) ∗ agL (F := F) c 1)) := by
    unfold agL; rw [← bigSep_sep', ← bigSep_sep', ← bigSep_sep']; rfl
  rw [e]
  iintro ⟨⟨HO, Hb, ⟨HL0, HA0⟩, ⟨HL1, HA1⟩⟩, ⟨HP0, HP1⟩, HX0, HX1⟩
  ihave H0 := (mat_split I c 0) $$ [HP0 HL0 HX0]
  · isplitl [HP0]; · iexact HP0
    isplitl [HL0]; · iexact HL0
    iexact HX0
  ihave H1 := (mat_split I c 1) $$ [HP1 HL1 HX1]
  · isplitl [HP1]; · iexact HP1
    isplitl [HL1]; · iexact HL1
    iexact HX1
  icases H0 with ⟨HM0, Ho0⟩
  isplitl [HO HM0]
  · iapply (rsSt_begin I c 1 0); isplitl [HO]; · iexact HO
    iexact HM0
  isplitl [Ho0]; · iexact Ho0
  isplitl [H1]; · iexact H1
  isplitl [HA0 HA1]
  · isplitl [HA0]; · iexact HA0
    iexact HA1
  iexact Hb

theorem to_rs1 : iprop(rsSt I c 1 0 15 ∗ rsMat I c 1) ⊢ iprop(rsSt I c 2 1 0 ∗ sentCr (F := F) c 0 0) := by
  iintro ⟨H, HM⟩
  ihave H' := (rsSt_end I c 1 0) $$ H
  icases H' with ⟨HO, HC⟩
  isplitr [HC]
  · iapply (rsSt_begin I c 2 1); rw [← owed_next c 1 2 rfl]
    isplitl [HO]; · iexact HO
    iexact HM
  iexact HC

theorem wait_begin (k : Fin 4) (h : Fin 2) (O) : iprop(owesE (F := F) c O ∗ recvW c k h ∗ ownCr c k h) ⊢ waitSt I c k h (fun s : Dev nD => s) O 0 := by
  unfold recvW ownCr waitSt; rw [todo_zero, done_zero, bigSep_empty, bigSep_sep', bigSep_devs c (fun s : Dev nD => (cred (tallyAt (dcell c k h s) () N) : sProp 𝕄))]
  iintro ⟨HO, ⟨HA, HC⟩, Hc⟩
  isplitl [HO]; · iexact HO
  isplitl [HA HC Hc]
  · isplitl [HC Hc]
    · isplitl [Hc]; · iexact Hc
      iexact HC
    iexact HA
  iempintro

theorem wait_begin_sent (k : Fin 4) (h : Fin 2) (O) : iprop(owesE (F := F) c O ∗ sendW c k h ∗ sentCr c k h)
    ⊢ iprop(waitSt I c k h (peer c) O 0 ∗ atPos ER (dcell c k h c) 0 ∅ 0) := by
  unfold sendW sentCr waitSt; rw [todo_zero, done_zero, bigSep_empty, bigSep_sep', bigSep_devs c (fun s : Dev nD => (atPos ER (dcell c k h s) 0 ∅ 0 : sProp 𝕄))]
  iintro ⟨HO, ⟨Ha, HA⟩, HC⟩
  isplitr [Ha]
  · isplitl [HO]; · iexact HO
    isplitl [HA HC]
    · isplitl [HC]; · iexact HC
      iexact HA
    iempintro
  iexact Ha

theorem wait_end (k : Fin 4) (h : Fin 2) {n : ℕ} (σ : Fin n → Dev nD) (O) : waitSt I c k h σ O n
    ⊢ iprop(owesE (F := F) c O ∗ (bigSep Finset.univ fun i => atPos ER (dcell c k h (σ i)) 1 ∅ 0) ∗ bigSep Finset.univ fun i => cellPay I k c h (σ i)) := by
  unfold waitSt; rw [done_full, bigSep_sep' Finset.univ (fun i => atPos ER (dcell c k h (σ i)) 1 ∅ 0) (fun i => cellPay I k c h (σ i))]
  iintro ⟨HO, -, HA, HP⟩
  isplitl [HO]; · iexact HO
  isplitl [HA]; · iexact HA
  iexact HP

theorem got_rs (h : Fin 2) : (bigSep Finset.univ fun s : Dev nD => cellPay I 1 c h s)
    ⊢ iprop((((c : Thread nD τ).loc cc0_scratch3) ↦[sideSet h]{fullShare} (rs I c : Vec F S16x32x768 .f32)) ∗ partPts c c h (part I c)) := by
  have e : (bigSep Finset.univ fun s : Dev nD => cellPay I 1 c h s)
      = iprop((bigSep Finset.univ fun s : Dev nD => rsPts c s h (rs I c)) ∗ bigSep Finset.univ fun s : Dev nD => if s = c then partPts c c h (part I c) else iprop(emp)) := by
    rw [← bigSep_sep']; rfl
  rw [e, rs_side, bigSep_devs c (fun s : Dev nD => if s = c then partPts c c h (part I c) else iprop(emp)), if_pos rfl]
  iintro ⟨H, Hp, -⟩
  isplitl [H]; · iexact H
  iexact Hp
theorem got_ag (h : Fin 2) : (bigSep Finset.univ fun s : Dev nD => cellPay I 3 c h s)
    ⊢ iprop((((c : Thread nD τ).loc cc0_scratch4) ↦[sideSet h]{fullShare} (all I : Vec F S16x32x768 .f32)) ∗ redPts c h c (red I c)) := by
  have e : (bigSep Finset.univ fun s : Dev nD => cellPay I 3 c h s)
      = iprop((bigSep Finset.univ fun s : Dev nD => agPts c s h (all I)) ∗ bigSep Finset.univ fun s : Dev nD => if s = c then redPts c h c (red I c) else iprop(emp)) := by
    rw [← bigSep_sep']; rfl
  rw [e, ag_side, bigSep_devs c (fun s : Dev nD => if s = c then redPts c h c (red I c) else iprop(emp)), if_pos rfl]
  iintro ⟨H, Hp, -⟩
  isplitl [H]; · iexact H
  iexact Hp

theorem to_wait0 : iprop(rsSt I c 2 1 15 ∗ recvW c 1 0 ∗ ownCr c 1 0) ⊢ iprop(waitSt I c 1 0 (fun s : Dev nD => s) (owed c 3 0) 0 ∗ sentCr (F := F) c 0 1) := by
  iintro ⟨H, HW, Hc⟩
  ihave H' := (rsSt_end I c 2 1) $$ H
  icases H' with ⟨HO, HC⟩
  isplitr [HC]
  · iapply (wait_begin I c 1 0 _); rw [← owed_next c 2 3 rfl]
    isplitl [HO]; · iexact HO
    isplitl [HW]; · iexact HW
    iexact Hc
  iexact HC

theorem to_sum (h : Fin 2) (O) : iprop(waitSt I c 1 h (fun s : Dev nD => s) O 16 ∗ redFree (F := F) c h)
    ⊢ iprop(sumSt I c h ∗ owesE (F := F) c O ∗ partPts c c h (part I c) ∗ posR c 1 h) := by
  unfold sumSt redFree posR
  iintro ⟨H, HF⟩
  ihave H' := (wait_end I c 1 h (fun s : Dev nD => s) O) $$ H
  icases H' with ⟨HO, HA, HP⟩
  ihave H' := (got_rs I c h) $$ HP
  icases H' with ⟨HS, Hp⟩
  isplitl [HS HF]
  · isplitl [HS]; · iexact HS
    iexact HF
  isplitl [HO]; · iexact HO
  isplitl [Hp]; · iexact Hp
  iexact HA

theorem to_ag (p : Fin 5) (h : Fin 2) : iprop(sumSt' I c h ∗ owesE (F := F) c (owed c p 0) ∗ agL (F := F) c h ∗ exA (F := F) c h)
    ⊢ iprop(agSt I c p h 0 ∗ agOwn I c h ∗ ((c : Thread nD τ).loc cc0_scratch3) ↦[sideSet h]{fullShare} (rs I c : Vec F S16x32x768 .f32)) := by
  unfold sumSt' agL exA toks agSt agOwn
  rw [red_shares, bigSep_devs c (fun d : Dev nD => redPts c h d (red I c)), todo_zero, done_zero, bigSep_empty]
  simp only [bigSep_sep']
  iintro ⟨⟨HS, Hr, HR⟩, HO, HL, HT, Ht, Hl⟩
  isplitl [HO HR HL HT]
  · isplitl [HO]; · iexact HO
    isplitl [HR HL HT]
    · isplitl [HR]; · iexact HR
      isplitl [HL]; · iexact HL
      iexact HT
    iempintro
  isplitl [Hr Hl Ht]
  · isplitl [Hr]; · iexact Hr
    isplitl [Hl]; · iexact Hl
    iexact Ht
  iexact HS

theorem to_wait1 : iprop(agSt I c 3 0 15 ∗ recvW c 1 1 ∗ ownCr c 1 1) ⊢ iprop(waitSt I c 1 1 (fun s : Dev nD => s) (owed c 4 0) 0 ∗ sentCr (F := F) c 2 0) := by
  iintro ⟨H, HW, Hc⟩
  ihave H' := (agSt_end I c 3 0) $$ H
  icases H' with ⟨HO, HC⟩
  isplitr [HC]
  · iapply (wait_begin I c 1 1 _); rw [← owed_next c 3 4 rfl]
    isplitl [HO]; · iexact HO
    isplitl [HW]; · iexact HW
    iexact Hc
  iexact HC

theorem to_gather0 : iprop(agSt I c 4 1 15 ∗ recvW c 3 0 ∗ ownCr c 3 0) ⊢ iprop(waitSt I c 3 0 (fun s : Dev nD => s) (owed c 4 15) 0 ∗ sentCr (F := F) c 2 1) := by
  iintro ⟨H, HW, Hc⟩
  ihave H' := (agSt_end I c 4 1) $$ H
  icases H' with ⟨HO, HC⟩
  isplitr [HC]
  · iapply (wait_begin I c 3 0 _)
    isplitl [HO]; · iexact HO
    isplitl [HW]; · iexact HW
    iexact Hc
  iexact HC

/-- What is held of the gathered rows of half `h`. -/
def gathered (h : Fin 2) : sProp 𝕄 := iprop((((c : Thread nD τ).loc cc0_scratch4) ↦[sideSet h]{fullShare} (all I : Vec F S16x32x768 .f32))
  ∗ redPts c h c (red I c) ∗ posR c 3 h)

theorem gather_end (h : Fin 2) (O) : waitSt I c 3 h (fun s : Dev nD => s) O 16 ⊢ iprop(owesE (F := F) c O ∗ gathered I c h) := by
  unfold gathered posR
  iintro H
  ihave H' := (wait_end I c 3 h (fun s : Dev nD => s) O) $$ H
  icases H' with ⟨HO, HA, HP⟩
  ihave H' := (got_ag I c h) $$ HP
  icases H' with ⟨HS, Hp⟩
  isplitl [HO]; · iexact HO
  isplitl [HS]; · iexact HS
  isplitl [Hp]; · iexact Hp
  iexact HA

theorem to_gather1 (O) : iprop(waitSt I c 3 0 (fun s : Dev nD => s) O 16 ∗ recvW c 3 1 ∗ ownCr c 3 1)
    ⊢ iprop(waitSt I c 3 1 (fun s : Dev nD => s) O 0 ∗ gathered I c 0) := by
  iintro ⟨H, HW, Hc⟩
  ihave H' := (gather_end I c 0 O) $$ H
  icases H' with ⟨HO, HG⟩
  isplitr [HG]
  · iapply (wait_begin I c 3 1 _)
    isplitl [HO]; · iexact HO
    isplitl [HW]; · iexact HW
    iexact Hc
  iexact HG

theorem to_out (O) : iprop(waitSt I c 3 1 (fun s : Dev nD => s) O 16 ∗ gathered I c 0 ∗ ∃ f, whole₁ (F := F) c cc0_stg5_0 f)
    ⊢ iprop(outSt I c 0 ∗ owesE (F := F) c O ∗ (redPts c 0 c (red I c) ∗ redPts c 1 c (red I c)) ∗ posR c 3 0 ∗ posR c 3 1) := by
  iintro ⟨H, HG, ⟨%f, Hf⟩⟩
  ihave H' := (gather_end I c 1 O) $$ H
  icases H' with ⟨HO, HG'⟩
  unfold gathered outSt
  icases HG with ⟨HS, Hr, HP⟩
  icases HG' with ⟨HS', Hr', HP'⟩
  isplitl [HS HS' Hf]
  · isplitl [HS HS']
    · rw [ag_whole]
      isplitl [HS]; · iexact HS
      iexact HS'
    iexists f
    isplitr; · ipureintro; exact fun i hi => absurd hi (Nat.not_lt_zero _)
    iexact Hf
  isplitl [HO]; · iexact HO
  isplitl [Hr Hr']
  · isplitl [Hr]; · iexact Hr
    iexact Hr'
  isplitl [HP]; · iexact HP
  iexact HP'

/-- What the waits for the device's own transfers give back: the rows sent, with all the cells' positions. -/
def backSt (k : Fin 4) (h : Fin 2) : sProp 𝕄 := iprop(posS (F := F) c k h ∗ (bigSep Finset.univ fun r : Fin 15 => cellPay I k c h (peer c r))
  ∗ atPos ER (dcell c k h c) 0 ∅ 0)

theorem sent_end (k : Fin 4) (h : Fin 2) (O) : iprop(waitSt I c k h (peer c) O 15 ∗ atPos ER (dcell c k h c) 0 ∅ 0) ⊢ iprop(owesE (F := F) c O ∗ backSt I c k h) := by
  unfold backSt posS
  iintro ⟨H, Ha⟩
  ihave H' := (wait_end I c k h (peer c) O) $$ H
  icases H' with ⟨HO, HA, HP⟩
  isplitl [HO]; · iexact HO
  isplitl [HA]; · iexact HA
  isplitl [HP]; · iexact HP
  iexact Ha

end Cert.MeshProof
-- ==== Proof.Held.lean ====
/-
What device `c` holds from phase to phase of its body: each step of the protocol's bookkeeping, with everything else it holds.
-/
module

public import proofs.«01_k».proof.Proof.Phases

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (I : Inp F) (K : Dev nD × CK → ℕ) (c : Dev nD)

/-- What is held together is held in any order and bracketing. -/
instance heldComm : Std.Commutative (α := sProp 𝕄) BIBase.sep :=
  ⟨fun P Q => BI.Entails.antisymm (show iprop(P ∗ Q) ⊢ iprop(Q ∗ P) by iintro ⟨HP, HQ⟩; isplitl [HQ] <;> iassumption)
    (show iprop(Q ∗ P) ⊢ iprop(P ∗ Q) by iintro ⟨HQ, HP⟩; isplitl [HP] <;> iassumption)⟩
instance heldAssoc : Std.Associative (α := sProp 𝕄) BIBase.sep :=
  ⟨fun P Q R => BI.Entails.antisymm
    (show iprop((P ∗ Q) ∗ R) ⊢ iprop(P ∗ Q ∗ R) by
      iintro ⟨⟨HP, HQ⟩, HR⟩; isplitl [HP]; · iexact HP
      isplitl [HQ] <;> iassumption)
    (show iprop(P ∗ Q ∗ R) ⊢ iprop((P ∗ Q) ∗ R) by
      iintro ⟨HP, HQ, HR⟩; isplitl [HP HQ]; · (isplitl [HP] <;> iassumption)
      iexact HR)⟩

/-- An exchange of part of what is held. -/
theorem swap {P Q R A B : sProp 𝕄} (h : P ⊢ Q) (hA : A = iprop(P ∗ R)) (hB : iprop(Q ∗ R) = B) : A ⊢ B := by
  subst hA hB; iintro ⟨HP, HR⟩
  isplitl [HP]; · iapply h; iexact HP
  iexact HR

def outFree : sProp 𝕄 := iprop(∃ f, whole₁ (F := F) c cc0_stg5_0 f)
def sends : sProp 𝕄 := iprop(sendW (F := F) c 0 0 ∗ sendW (F := F) c 0 1 ∗ sendW (F := F) c 2 0 ∗ sendW (F := F) c 2 1)
/-- What the body holds at its start besides the signals' and the attention's. -/
def begin1 : sProp 𝕄 := iprop(exR (F := F) c 0 ∗ exR (F := F) c 1 ∗ exA (F := F) c 0 ∗ exA (F := F) c 1 ∗ redFree (F := F) c 0 ∗ redFree (F := F) c 1
  ∗ recvW (F := F) c 1 0 ∗ recvW (F := F) c 1 1 ∗ recvW (F := F) c 3 0 ∗ recvW (F := F) c 3 1 ∗ sends (F := F) c ∗ outFree (F := F) c)
def begin0 : sProp 𝕄 := iprop(barW (F := F) c ∗ begin1 (F := F) c)
/-- What is not used between the attention and the end. -/
def kept : sProp 𝕄 := iprop((inBufs I c ∗ attnBuf I c 16) ∗ atPos ER (barCell c) 1 ∅ 0)
def late : sProp 𝕄 := iprop(recvW (F := F) c 3 0 ∗ recvW (F := F) c 3 1 ∗ sends (F := F) c ∗ outFree (F := F) c ∗ kept I c)
def late1 : sProp 𝕄 := iprop(agL (F := F) c 1 ∗ exA (F := F) c 1 ∗ redFree (F := F) c 1 ∗ late I c)
def late0 : sProp 𝕄 := iprop(agL (F := F) c 0 ∗ exA (F := F) c 0 ∗ redFree (F := F) c 0 ∗ recvW (F := F) c 1 0 ∗ recvW (F := F) c 1 1 ∗ late1 I c)
/-- Half the rows received for reduction, the device's own rows of that half, and the positions of its cells. -/
def sideR (h : Fin 2) : sProp 𝕄 := ((c : Thread nD τ).loc cc0_scratch3) ↦[sideSet h]{fullShare} (rs I c : Vec F S16x32x768 .f32)
def home (h : Fin 2) : sProp 𝕄 := iprop(sideR I c h ∗ partPts c c h (part I c) ∗ posR (F := F) c 1 h)
def sents : sProp 𝕄 := iprop(sentCr (F := F) c 0 0 ∗ sentCr (F := F) c 0 1 ∗ sentCr (F := F) c 2 0)

def mid0 : sProp 𝕄 := iprop(agL (F := F) c 0 ∗ exA (F := F) c 0 ∗ redFree (F := F) c 0 ∗ recvW (F := F) c 1 1 ∗ ownCr (F := F) c 1 1
  ∗ sentCr (F := F) c 0 0 ∗ sentCr (F := F) c 0 1 ∗ late1 I c)
def mid1 : sProp 𝕄 := iprop(owesE (F := F) c (owed c 3 0) ∗ partPts c c 0 (part I c) ∗ posR (F := F) c 1 0 ∗ agL (F := F) c 0 ∗ exA (F := F) c 0
  ∗ recvW (F := F) c 1 1 ∗ ownCr (F := F) c 1 1 ∗ sentCr (F := F) c 0 0 ∗ sentCr (F := F) c 0 1 ∗ late1 I c)
def mid2 : sProp 𝕄 := iprop(home I c 0 ∗ recvW (F := F) c 1 1 ∗ ownCr (F := F) c 1 1 ∗ sentCr (F := F) c 0 0 ∗ sentCr (F := F) c 0 1 ∗ late1 I c)
def mid3 : sProp 𝕄 := iprop(ownCr (F := F) c 3 0 ∗ home I c 0 ∗ sents (F := F) c ∗ late1 I c)
def mid4 : sProp 𝕄 := iprop(owesE (F := F) c (owed c 4 0) ∗ partPts c c 1 (part I c) ∗ posR (F := F) c 1 1 ∗ ownCr (F := F) c 3 0 ∗ home I c 0 ∗ sents (F := F) c
  ∗ agL (F := F) c 1 ∗ exA (F := F) c 1 ∗ late I c)
def mid5 : sProp 𝕄 := iprop(ownCr (F := F) c 3 0 ∗ (home I c 0 ∗ home I c 1) ∗ sents (F := F) c ∗ late I c)
def mid6 : sProp 𝕄 := iprop(recvW (F := F) c 3 1 ∗ ownCr (F := F) c 3 1 ∗ (home I c 0 ∗ home I c 1) ∗ (sents (F := F) c ∗ sentCr (F := F) c 2 1)
  ∗ sends (F := F) c ∗ outFree (F := F) c ∗ kept I c)
def mid7 : sProp 𝕄 := iprop(gathered I c 0 ∗ (home I c 0 ∗ home I c 1) ∗ (sents (F := F) c ∗ sentCr (F := F) c 2 1) ∗ sends (F := F) c ∗ outFree (F := F) c ∗ kept I c)
def homeA : sProp 𝕄 := iprop((redPts c 0 c (red I c) ∗ redPts c 1 c (red I c)) ∗ posR (F := F) c 3 0 ∗ posR (F := F) c 3 1)
def end0 : sProp 𝕄 := iprop(owesE (F := F) c (owed c 4 15) ∗ homeA I c ∗ (home I c 0 ∗ home I c 1)
  ∗ (sents (F := F) c ∗ sentCr (F := F) c 2 1) ∗ sends (F := F) c ∗ kept I c)
/-- What the waits for the device's own transfers leave alone. -/
def rest : sProp 𝕄 := iprop(outSt I c 16 ∗ homeA I c ∗ (home I c 0 ∗ home I c 1) ∗ kept I c)
/-- The wait for the device's own transfers of half `h`, array `k`, that is at hand, and the ones to come. -/
def own0 (k : Fin 4) (h : Fin 2) : sProp 𝕄 := atPos ER (dcell c k h c) 0 ∅ 0
def due (k : Fin 4) (h : Fin 2) : sProp 𝕄 := iprop(sendW (F := F) c k h ∗ sentCr (F := F) c k h)
def end1 : sProp 𝕄 := iprop(own0 (F := F) c 0 0 ∗ due (F := F) c 0 1 ∗ due (F := F) c 2 0 ∗ due (F := F) c 2 1 ∗ rest I c)
def end2 : sProp 𝕄 := iprop(own0 (F := F) c 0 1 ∗ backSt I c 0 0 ∗ due (F := F) c 2 0 ∗ due (F := F) c 2 1 ∗ rest I c)
def end3 : sProp 𝕄 := iprop(own0 (F := F) c 2 0 ∗ (backSt I c 0 0 ∗ backSt I c 0 1) ∗ due (F := F) c 2 1 ∗ rest I c)
def end4 : sProp 𝕄 := iprop(own0 (F := F) c 2 1 ∗ (backSt I c 0 0 ∗ backSt I c 0 1 ∗ backSt I c 2 0) ∗ rest I c)
/-- What the body holds at its end. -/
def over : sProp 𝕄 := iprop(owesE (F := F) c (owed c 4 15) ∗ (backSt I c 0 0 ∗ backSt I c 0 1 ∗ backSt I c 2 0 ∗ backSt I c 2 1) ∗ rest I c)

theorem sent_next (k k' : Fin 4) (h h' : Fin 2) (O) : iprop(waitSt I c k h (peer c) O 15 ∗ own0 (F := F) c k h ∗ due (F := F) c k' h')
    ⊢ iprop(waitSt I c k' h' (peer c) O 0 ∗ own0 (F := F) c k' h' ∗ backSt I c k h) := by
  unfold own0 due
  iintro ⟨H, Ha, HD⟩
  ihave H' := (sent_end I c k h O) $$ [H Ha]
  · isplitl [H]; · iexact H
    iexact Ha
  icases H' with ⟨HO, HB⟩
  ihave H' := (wait_begin_sent I c k' h' O) $$ [HO HD]
  · isplitl [HO]; · iexact HO
    iexact HD
  icases H' with ⟨H, Ha⟩
  isplitl [H]; · iexact H
  isplitl [Ha]; · iexact Ha
  iexact HB

theorem phase1 : iprop(ctx I K ∗ cmpSt' I c ∗ sigSt (F := F) c 15 ∗ begin0 (F := F) c) ⊢ iprop(ctx I K ∗ barSt (F := F) c ∗ cmpSt' I c ∗ begin1 (F := F) c) :=
  swap (to_barrier (F := F) c) (R := iprop(ctx I K ∗ cmpSt' I c ∗ begin1 (F := F) c))
    (by unfold begin0; ac_rfl) (by ac_rfl)

theorem phase2 : iprop(ctx I K ∗ barSt' (F := F) c ∗ cmpSt' I c ∗ begin1 (F := F) c) ⊢ iprop(ctx I K ∗ rsSt I c 1 0 0 ∗ rsOwn I c 0 ∗ (rsMat I c 1 ∗ rsOwn I c 1) ∗ late0 I c) :=
  swap (to_rs0 I c) (R := iprop(ctx I K ∗ inBufs I c ∗ attnBuf I c 16 ∗ exA (F := F) c 0 ∗ exA (F := F) c 1 ∗ redFree (F := F) c 0 ∗ redFree (F := F) c 1 ∗ recvW (F := F) c 1 0 ∗ recvW (F := F) c 1 1 ∗ recvW (F := F) c 3 0 ∗ recvW (F := F) c 3 1 ∗ sends (F := F) c ∗ outFree (F := F) c))
    (by unfold cmpSt' begin1; ac_rfl) (by unfold late0 late1 late kept; ac_rfl)

theorem phase3 : iprop(ctx I K ∗ ownCr (F := F) c 1 0 ∗ rsSt I c 1 0 15 ∗ (rsMat I c 1 ∗ rsOwn I c 1) ∗ late0 I c) ⊢ iprop(ctx I K ∗ rsSt I c 2 1 0 ∗ rsOwn I c 1 ∗ (ownCr (F := F) c 1 0 ∗ sentCr (F := F) c 0 0) ∗ late0 I c) :=
  swap (to_rs1 I c) (R := iprop(ctx I K ∗ ownCr (F := F) c 1 0 ∗ rsOwn I c 1 ∗ late0 I c))
    (by ac_rfl) (by ac_rfl)

theorem phase4 : iprop(ctx I K ∗ ownCr (F := F) c 1 1 ∗ rsSt I c 2 1 15 ∗ (ownCr (F := F) c 1 0 ∗ sentCr (F := F) c 0 0) ∗ late0 I c) ⊢ iprop(ctx I K ∗ waitSt I c 1 0 (fun s : Dev nD => s) (owed c 3 0) 0 ∗ mid0 I c) :=
  swap (to_wait0 I c) (R := iprop(ctx I K ∗ ownCr (F := F) c 1 1 ∗ sentCr (F := F) c 0 0 ∗ agL (F := F) c 0 ∗ exA (F := F) c 0 ∗ redFree (F := F) c 0 ∗ recvW (F := F) c 1 1 ∗ late1 I c))
    (by unfold late0; ac_rfl) (by unfold mid0; ac_rfl)

theorem phase5 : iprop(ctx I K ∗ waitSt I c 1 0 (fun s : Dev nD => s) (owed c 3 0) 16 ∗ mid0 I c) ⊢ iprop(ctx I K ∗ sumSt I c 0 ∗ mid1 I c) :=
  swap (to_sum I c 0 (owed c 3 0)) (R := iprop(ctx I K ∗ agL (F := F) c 0 ∗ exA (F := F) c 0 ∗ recvW (F := F) c 1 1 ∗ ownCr (F := F) c 1 1 ∗ sentCr (F := F) c 0 0 ∗ sentCr (F := F) c 0 1 ∗ late1 I c))
    (by unfold mid0; ac_rfl) (by unfold mid1; ac_rfl)

theorem phase6 : iprop(ctx I K ∗ sumSt' I c 0 ∗ mid1 I c) ⊢ iprop(ctx I K ∗ agSt I c 3 0 0 ∗ agOwn I c 0 ∗ mid2 I c) :=
  swap (to_ag I c 3 0) (R := iprop(ctx I K ∗ partPts c c 0 (part I c) ∗ posR (F := F) c 1 0 ∗ recvW (F := F) c 1 1 ∗ ownCr (F := F) c 1 1 ∗ sentCr (F := F) c 0 0 ∗ sentCr (F := F) c 0 1 ∗ late1 I c))
    (by unfold mid1; ac_rfl) (by unfold mid2 home sideR; ac_rfl)

theorem phase7 : iprop(ctx I K ∗ ownCr (F := F) c 3 0 ∗ agSt I c 3 0 15 ∗ mid2 I c) ⊢ iprop(ctx I K ∗ waitSt I c 1 1 (fun s : Dev nD => s) (owed c 4 0) 0 ∗ mid3 I c) :=
  swap (to_wait1 I c) (R := iprop(ctx I K ∗ ownCr (F := F) c 3 0 ∗ home I c 0 ∗ sentCr (F := F) c 0 0 ∗ sentCr (F := F) c 0 1 ∗ late1 I c))
    (by unfold mid2; ac_rfl) (by unfold mid3 sents; ac_rfl)

theorem phase8 : iprop(ctx I K ∗ waitSt I c 1 1 (fun s : Dev nD => s) (owed c 4 0) 16 ∗ mid3 I c) ⊢ iprop(ctx I K ∗ sumSt I c 1 ∗ mid4 I c) :=
  swap (to_sum I c 1 (owed c 4 0)) (R := iprop(ctx I K ∗ ownCr (F := F) c 3 0 ∗ home I c 0 ∗ sents (F := F) c ∗ agL (F := F) c 1 ∗ exA (F := F) c 1 ∗ late I c))
    (by unfold mid3 late1; ac_rfl) (by unfold mid4; ac_rfl)

theorem phase9 : iprop(ctx I K ∗ sumSt' I c 1 ∗ mid4 I c) ⊢ iprop(ctx I K ∗ agSt I c 4 1 0 ∗ agOwn I c 1 ∗ mid5 I c) :=
  swap (to_ag I c 4 1) (R := iprop(ctx I K ∗ partPts c c 1 (part I c) ∗ posR (F := F) c 1 1 ∗ ownCr (F := F) c 3 0 ∗ home I c 0 ∗ sents (F := F) c ∗ late I c))
    (by unfold mid4; ac_rfl) (by unfold mid5; rw [show home I c 1 = iprop(sideR I c 1 ∗ partPts c c 1 (part I c) ∗ posR (F := F) c 1 1) from rfl]; unfold sideR; ac_rfl)

theorem phase10 : iprop(ctx I K ∗ ownCr (F := F) c 3 1 ∗ agSt I c 4 1 15 ∗ mid5 I c) ⊢ iprop(ctx I K ∗ waitSt I c 3 0 (fun s : Dev nD => s) (owed c 4 15) 0 ∗ mid6 I c) :=
  swap (to_gather0 I c) (R := iprop(ctx I K ∗ ownCr (F := F) c 3 1 ∗ (home I c 0 ∗ home I c 1) ∗ sents (F := F) c ∗ recvW (F := F) c 3 1 ∗ sends (F := F) c ∗ outFree (F := F) c ∗ kept I c))
    (by unfold mid5 late; ac_rfl) (by unfold mid6; ac_rfl)

theorem phase11 : iprop(ctx I K ∗ waitSt I c 3 0 (fun s : Dev nD => s) (owed c 4 15) 16 ∗ mid6 I c) ⊢ iprop(ctx I K ∗ waitSt I c 3 1 (fun s : Dev nD => s) (owed c 4 15) 0 ∗ mid7 I c) :=
  swap (to_gather1 I c (owed c 4 15)) (R := iprop(ctx I K ∗ (home I c 0 ∗ home I c 1) ∗ sents (F := F) c ∗ sentCr (F := F) c 2 1 ∗ sends (F := F) c ∗ outFree (F := F) c ∗ kept I c))
    (by unfold mid6; ac_rfl) (by unfold mid7; ac_rfl)

theorem phase12 : iprop(ctx I K ∗ waitSt I c 3 1 (fun s : Dev nD => s) (owed c 4 15) 16 ∗ mid7 I c) ⊢ iprop(ctx I K ∗ outSt I c 0 ∗ end0 I c) :=
  swap (to_out I c (owed c 4 15)) (R := iprop(ctx I K ∗ (home I c 0 ∗ home I c 1) ∗ sents (F := F) c ∗ sentCr (F := F) c 2 1 ∗ sends (F := F) c ∗ kept I c))
    (by unfold mid7 outFree; ac_rfl) (by unfold end0 homeA; ac_rfl)

theorem phase13 : iprop(ctx I K ∗ outSt I c 16 ∗ end0 I c) ⊢ iprop(ctx I K ∗ waitSt I c 0 0 (peer c) (owed c 4 15) 0 ∗ end1 I c) :=
  swap (wait_begin_sent I c 0 0 (owed c 4 15)) (R := iprop(ctx I K ∗ outSt I c 16 ∗ homeA I c ∗ (home I c 0 ∗ home I c 1) ∗ kept I c ∗ sentCr (F := F) c 0 1 ∗ sentCr (F := F) c 2 0 ∗ sentCr (F := F) c 2 1 ∗ sendW (F := F) c 0 1 ∗ sendW (F := F) c 2 0 ∗ sendW (F := F) c 2 1))
    (by unfold end0 sents sends; ac_rfl) (by unfold end1 own0 due rest; ac_rfl)

theorem phase14 : iprop(ctx I K ∗ waitSt I c 0 0 (peer c) (owed c 4 15) 15 ∗ end1 I c) ⊢ iprop(ctx I K ∗ waitSt I c 0 1 (peer c) (owed c 4 15) 0 ∗ end2 I c) :=
  swap (sent_next I c 0 0 0 1 (owed c 4 15)) (R := iprop(ctx I K ∗ due (F := F) c 2 0 ∗ due (F := F) c 2 1 ∗ rest I c))
    (by unfold end1; ac_rfl) (by unfold end2; ac_rfl)

theorem phase15 : iprop(ctx I K ∗ waitSt I c 0 1 (peer c) (owed c 4 15) 15 ∗ end2 I c) ⊢ iprop(ctx I K ∗ waitSt I c 2 0 (peer c) (owed c 4 15) 0 ∗ end3 I c) :=
  swap (sent_next I c 0 2 1 0 (owed c 4 15)) (R := iprop(ctx I K ∗ backSt I c 0 0 ∗ due (F := F) c 2 1 ∗ rest I c))
    (by unfold end2; ac_rfl) (by unfold end3; ac_rfl)

theorem phase16 : iprop(ctx I K ∗ waitSt I c 2 0 (peer c) (owed c 4 15) 15 ∗ end3 I c) ⊢ iprop(ctx I K ∗ waitSt I c 2 1 (peer c) (owed c 4 15) 0 ∗ end4 I c) :=
  swap (sent_next I c 2 2 0 1 (owed c 4 15)) (R := iprop(ctx I K ∗ backSt I c 0 0 ∗ backSt I c 0 1 ∗ rest I c))
    (by unfold end3; ac_rfl) (by unfold end4; ac_rfl)

theorem phase17 : iprop(ctx I K ∗ waitSt I c 2 1 (peer c) (owed c 4 15) 15 ∗ end4 I c) ⊢ iprop(ctx I K ∗ over I c) :=
  swap (sent_end I c 2 1 (owed c 4 15)) (R := iprop(ctx I K ∗ backSt I c 0 0 ∗ backSt I c 0 1 ∗ backSt I c 2 0 ∗ rest I c))
    (by unfold end4 own0; ac_rfl) (by unfold over; ac_rfl)

end Cert.MeshProof
-- ==== Proof.Body.lean ====
/-
The body of one device, from the barrier's signals to the last wait, run once at a symbolic device: one rule per operation, in program order.
-/
module

public import proofs.«01_k».proof.Proof.Held

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (I : Inp F) (K : Dev nD × CK → ℕ) (c : Dev nD)

/-- Two neighbouring parts of what is held change places. -/
theorem turn {X A B R G : sProp 𝕄} (h : iprop(X ∗ B ∗ A ∗ R) ⊢ G) : iprop(X ∗ A ∗ B ∗ R) ⊢ G := by
  refine BIBase.Entails.trans ?_ h
  iintro ⟨HX, HA, HB, HR⟩
  isplitl [HX]; · iexact HX
  isplitl [HB]; · iexact HB
  isplitl [HA]; · iexact HA
  iexact HR

set_option maxRecDepth 100000 in
set_option maxHeartbeats 4000000 in
/-- The body, run once at a symbolic device from what the launch gives it, reaches its end with the gathered result held. -/
theorem body_run {Q : PUnit → sProp 𝕄} (hQ : iprop(ctx I K ∗ over I c) ⊢ (|={Set.univ}=> Q ⟨⟩)) : iprop(ctx I K ∗ sigSt (F := F) c 0 ∗ cmpSt I c 0 ∗ begin0 (F := F) c)
    ⊢ run c (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8) Q := by
  rw [cc0_body_eq_skeleton]
  simp only [cc0_body_skel, k0_part1_eq_skeleton, k0_part1_skel, k0_part2_eq_skeleton, k0_part2_skel, k0_part3_eq_skeleton, k0_part3_skel, k0_part4_eq_skeleton, k0_part4_skel,
      k0_part5_eq_skeleton, k0_part5_skel, k0_part6_eq_skeleton, k0_part6_skel, k0_part7_eq_skeleton, k0_part7_skel, k0_part8_eq_skeleton, k0_part8_skel,
      k0_part9_eq_skeleton, k0_part9_skel, k0_part10_eq_skeleton, k0_part10_skel, k0_part11_eq_skeleton, k0_part11_skel, k0_part12_eq_skeleton,
      k0_part12_skel, k0_part13_eq_skeleton, k0_part13_skel, k0_part14_eq_skeleton, k0_part14_skel, k0_part15_eq_skeleton, k0_part15_skel,
      k0_part16_eq_skeleton, k0_part16_skel, k0_part17_eq_skeleton, k0_part17_skel, k0_part18_eq_skeleton, k0_part18_skel, k0_part19_eq_skeleton,
      k0_part19_skel, k0_part20_eq_skeleton, k0_part20_skel, k0_part21_eq_skeleton, k0_part21_skel, k0_part22_eq_skeleton, k0_part22_skel,
      k0_part23_eq_skeleton, k0_part23_skel, k0_part24_eq_skeleton, k0_part24_skel, k0_part25_eq_skeleton, k0_part25_skel, k0_part26_eq_skeleton,
      k0_part26_skel, k0_part27_eq_skeleton, k0_part27_skel, k0_part28_eq_skeleton, k0_part28_skel, k0_part29_eq_skeleton, k0_part29_skel,
      k0_part30_eq_skeleton, k0_part30_skel, k0_part31_eq_skeleton, k0_part31_skel, k0_part32_eq_skeleton, k0_part32_skel, k0_part33_eq_skeleton,
      k0_part33_skel, k0_part34_eq_skeleton, k0_part34_skel, k0_part35_eq_skeleton, k0_part35_skel, k0_part36_eq_skeleton, k0_part36_skel,
      k0_part37_eq_skeleton, k0_part37_skel, k0_part38_eq_skeleton, k0_part38_skel, k0_part39_eq_skeleton, k0_part39_skel, k0_part40_eq_skeleton,
      k0_part40_skel, k0_part41_eq_skeleton, k0_part41_skel, k0_part42_eq_skeleton, k0_part42_skel, k0_part43_eq_skeleton, k0_part43_skel,
      k0_part44_eq_skeleton, k0_part44_skel, k0_part45_eq_skeleton, k0_part45_skel, k0_part46_eq_skeleton, k0_part46_skel, k0_part47_eq_skeleton,
      k0_part47_skel, k0_part48_eq_skeleton, k0_part48_skel, k0_part49_eq_skeleton, k0_part49_skel, k0_part50_eq_skeleton, k0_part50_skel,
      k0_part51_eq_skeleton, k0_part51_skel, k0_part52_eq_skeleton, k0_part52_skel, k0_part53_eq_skeleton, k0_part53_skel, k0_part54_eq_skeleton,
      k0_part54_skel, k0_part55_eq_skeleton, k0_part55_skel, k0_part56_eq_skeleton, k0_part56_skel, k0_part57_eq_skeleton, k0_part57_skel,
      k0_part58_eq_skeleton, k0_part58_skel, k0_part59_eq_skeleton, k0_part59_skel, k0_part60_eq_skeleton, k0_part60_skel, k0_part61_eq_skeleton,
      k0_part61_skel, k0_part62_eq_skeleton, k0_part62_skel, k0_part63_eq_skeleton, k0_part63_skel, k0_part64_eq_skeleton, k0_part64_skel,
      k0_part65_eq_skeleton, k0_part65_skel, k0_part66_eq_skeleton, k0_part66_skel, k0_part67_eq_skeleton, k0_part67_skel, k0_part68_eq_skeleton,
      k0_part68_skel, k0_part69_eq_skeleton, k0_part69_skel, k0_part70_eq_skeleton, k0_part70_skel, k0_part71_eq_skeleton, k0_part71_skel,
      k0_part72_eq_skeleton, k0_part72_skel, k0_part73_eq_skeleton, k0_part73_skel, k0_part74_eq_skeleton, k0_part74_skel, k0_part75_eq_skeleton,
      k0_part75_skel, k0_part76_eq_skeleton, k0_part76_skel, k0_part77_eq_skeleton, k0_part77_skel, k0_part78_eq_skeleton, k0_part78_skel,
      k0_part79_eq_skeleton, k0_part79_skel, k0_part80_eq_skeleton, k0_part80_skel, k0_part81_eq_skeleton, k0_part81_skel, k0_part82_eq_skeleton,
      k0_part82_skel, k0_part83_eq_skeleton, k0_part83_skel, k0_part84_eq_skeleton, k0_part84_skel, k0_part85_eq_skeleton, k0_part85_skel,
      k0_part86_eq_skeleton, k0_part86_skel, k0_part87_eq_skeleton, k0_part87_skel, k0_part88_eq_skeleton, k0_part88_skel, k0_part89_eq_skeleton,
      k0_part89_skel, k0_part90_eq_skeleton, k0_part90_skel, k0_part91_eq_skeleton, k0_part91_skel, k0_part92_eq_skeleton, k0_part92_skel,
      k0_part93_eq_skeleton, k0_part93_skel, k0_part94_eq_skeleton, k0_part94_skel, k0_part95_eq_skeleton, k0_part95_skel, Prog.lift, Prog.bind_op, Prog.bind_ret,
    Prog.pure_eq_ret, semSignalWord, semWaitWord, wp_deviceId]
  iterate 15 refine step_sig I K c _ (by decide) rfl rfl ?_
  refine turn ?_
  refine read_x I K c _ ?_
  refine read_wq I K c _ ?_
  refine read_wk I K c _ ?_
  refine read_wv I K c _ ?_
  refine peek_attn I K c _ fun _ => ?_
  refine put_head I K c _ 0 0 rfl rfl rfl ?_
  refine peek_attn I K c _ fun _ => ?_
  refine put_head I K c _ 0 1 rfl rfl rfl ?_
  refine peek_attn I K c _ fun _ => ?_
  refine put_head I K c _ 0 2 rfl rfl rfl ?_
  refine peek_attn I K c _ fun _ => ?_
  refine put_head I K c _ 0 3 rfl rfl rfl ?_
  refine peek_attn I K c _ fun _ => ?_
  refine put_head I K c _ 0 4 rfl rfl rfl ?_
  refine peek_attn I K c _ fun _ => ?_
  refine put_head I K c _ 0 5 rfl rfl rfl ?_
  refine peek_attn I K c _ fun _ => ?_
  refine put_head I K c _ 0 6 rfl rfl rfl ?_
  refine peek_attn I K c _ fun _ => ?_
  refine put_head I K c _ 0 7 rfl rfl rfl ?_
  refine peek_attn I K c _ fun _ => ?_
  refine put_head I K c _ 1 0 rfl rfl rfl ?_
  refine peek_attn I K c _ fun _ => ?_
  refine put_head I K c _ 1 1 rfl rfl rfl ?_
  refine peek_attn I K c _ fun _ => ?_
  refine put_head I K c _ 1 2 rfl rfl rfl ?_
  refine peek_attn I K c _ fun _ => ?_
  refine put_head I K c _ 1 3 rfl rfl rfl ?_
  refine peek_attn I K c _ fun _ => ?_
  refine put_head I K c _ 1 4 rfl rfl rfl ?_
  refine peek_attn I K c _ fun _ => ?_
  refine put_head I K c _ 1 5 rfl rfl rfl ?_
  refine peek_attn I K c _ fun _ => ?_
  refine put_head I K c _ 1 6 rfl rfl rfl ?_
  refine peek_attn I K c _ fun _ => ?_
  refine put_head I K c _ 1 7 rfl rfl rfl ?_
  refine read_attn I K c ?_
  refine read_wo I K c _ ?_
  refine peek_part I K c _ fun _ => ?_
  refine put_part I K c rfl ?_
  refine BIBase.Entails.trans (phase1 I K c) ?_
  refine step_barrier I K c rfl ?_
  refine BIBase.Entails.trans (phase2 I K c) ?_
  iterate 15 refine step_rs0 I K c _ (by decide) rfl ?_
  refine turn ?_
  refine step_rs_local I K c 0 (slotM_eq _ c 0 (k0_off3_eq c) _) (slotM_eq _ c 0 (k0_off3_eq c) _) (elem1 0 c _ (k0_off2_eq c)) ?_
  refine BIBase.Entails.trans (phase3 I K c) ?_
  iterate 15 refine step_rs1 I K c _ (by decide) rfl ?_
  refine turn ?_
  refine step_rs_local I K c 1 (slotM_eq _ c 1 (k0_off7_eq c) _) (slotM_eq _ c 1 (k0_off7_eq c) _) (elem1 1 c _ (k0_off6_eq c)) ?_
  refine BIBase.Entails.trans (phase4 I K c) ?_
  iterate 16 refine wait_rs0 I K c _ (by decide) ?_
  refine BIBase.Entails.trans (phase5 I K c) ?_
  iterate 16 refine read_rs I K c 0 _ (by decide) rfl ?_
  refine peek_red I K c 0 rfl fun _ => ?_
  refine put_red I K c 0 rfl rfl ?_
  refine BIBase.Entails.trans (phase6 I K c) ?_
  iterate 15 refine step_ag0 I K c _ (by decide) rfl ?_
  refine turn ?_
  refine step_ag_local I K c 0 (halfM_eq _ 0 rfl _) (slotM_eq _ c 0 (k0_off3_eq c) _) (elem3 0 c _ (k0_off2_eq c)) ?_
  refine BIBase.Entails.trans (phase7 I K c) ?_
  iterate 16 refine wait_rs1 I K c _ (by decide) ?_
  refine BIBase.Entails.trans (phase8 I K c) ?_
  iterate 16 refine read_rs I K c 1 _ (by decide) rfl ?_
  refine peek_red I K c 1 rfl fun _ => ?_
  refine put_red I K c 1 rfl rfl ?_
  refine BIBase.Entails.trans (phase9 I K c) ?_
  iterate 15 refine step_ag1 I K c _ (by decide) rfl ?_
  refine turn ?_
  refine step_ag_local I K c 1 (halfM_eq _ 1 rfl _) (slotM_eq _ c 1 (k0_off7_eq c) _) (elem3 1 c _ (k0_off6_eq c)) ?_
  refine BIBase.Entails.trans (phase10 I K c) ?_
  iterate 16 refine wait_ag0 I K c _ (by decide) ?_
  refine BIBase.Entails.trans (phase11 I K c) ?_
  iterate 16 refine wait_ag1 I K c _ (by decide) ?_
  refine BIBase.Entails.trans (phase12 I K c) ?_
  iterate 16 refine read_row I K c _ (by decide) (peek_row I K c _ fun _ => put_row I K c _ (by decide) rfl ?_)
  refine BIBase.Entails.trans (phase13 I K c) ?_
  iterate 15 refine wait_sent_rs0 I K c _ (by decide) ?_
  refine BIBase.Entails.trans (phase14 I K c) ?_
  iterate 15 refine wait_sent_rs1 I K c _ (by decide) ?_
  refine BIBase.Entails.trans (phase15 I K c) ?_
  iterate 15 refine wait_sent_ag0 I K c _ (by decide) ?_
  refine BIBase.Entails.trans (phase16 I K c) ?_
  iterate 15 refine wait_sent_ag1 I K c _ (by decide) ?_
  refine BIBase.Entails.trans (phase17 I K c) ?_
  unfold run
  rw [wp_ret]
  exact hQ

end Cert.MeshProof
-- ==== Proof.Close.lean ====
/-
The end of the body: the buffers whole again, every counter at zero.
-/
module

public import proofs.«01_k».proof.Proof.Held

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (I : Inp F) (K : Dev nD × CK → ℕ) (c : Dev nD)

/-- The counters of half `h` of semaphore array `k`, at zero. -/
def zeros (k : Fin 4) (h : Fin 2) : sProp 𝕄 := bigSep Finset.univ fun s : Dev nD => semVal (dcell c k h s) 0
def allZero : sProp 𝕄 := iprop((zeros (F := F) c 0 0 ∗ zeros (F := F) c 0 1) ∗ (zeros (F := F) c 1 0 ∗ zeros (F := F) c 1 1)
  ∗ (zeros (F := F) c 2 0 ∗ zeros (F := F) c 2 1) ∗ (zeros (F := F) c 3 0 ∗ zeros (F := F) c 3 1))
/-- The five buffers of the body's own, at any contents. -/
def anyBufs : sProp 𝕄 := iprop((∃ f, whole₁ (F := F) c cc0_scratch0 f) ∗ (∃ f, whole₁ (F := F) c cc0_scratch1 f) ∗ (∃ f, whole₁ (F := F) c cc0_scratch2 f)
  ∗ (∃ f, whole₁ (F := F) c cc0_scratch3 f) ∗ ∃ f, whole₁ (F := F) c cc0_scratch4 f)

theorem close_at (ck : Dev nD × CK) (R : ℕ) (hR : ∀ r, R ≤ r → (Rd I).duties (kcell ck) r = ∅) :
    iprop(ctx I K ∗ atPos ER (kcell ck) R ∅ 0) ⊢ (|={Set.univ}=> semVal (kcell ck) 0 : sProp 𝕄) := by
  iintro ⟨#Hc, Ha⟩
  ihave #HI := (ctx_inv I K ck) $$ Hc
  iapply (Rounds.cell_close ER (Rd I) (Set.mem_univ (K ck)) (fun h => h) (R := R) hR)
  isplitr; · iexact HI
  iexact Ha

theorem close_bar : iprop(ctx I K ∗ atPos ER (barCell c) 1 ∅ 0) ⊢ (|={Set.univ}=> semVal (barCell c) 0 : sProp 𝕄) :=
  close_at I K (c, .inl ()) 1 (duties_later I (barCell c))

theorem close_recv (k : Fin 4) (h : Fin 2) : iprop(ctx I K ∗ posR (F := F) c k h) ⊢ (|={Set.univ}=> zeros c k h : sProp 𝕄) :=
  (BI.bigSep_with_persistent fun s _ => close_at I K (c, .inr (k, h, s)) 1 (duties_later I (dcell c k h s))).trans (bigSep_fupd _ _)

theorem close_sent (k : Fin 4) (h : Fin 2) (hk : raisers k c c = ∅) :
    iprop(ctx I K ∗ posS (F := F) c k h ∗ atPos ER (dcell c k h c) 0 ∅ 0) ⊢ (|={Set.univ}=> zeros c k h : sProp 𝕄) := by
  unfold zeros posS
  rw [bigSep_devs c]
  iintro ⟨#Hc, HP, Ha⟩
  imod (close_at I K (c, .inr (k, h, c)) 0 (fun r _ => by
    rcases r with _ | r
    · exact (duties_cell I c k h c).trans hk
    · exact duties_later I (dcell c k h c) _ (Nat.succ_le_succ (Nat.zero_le _)))) $$ [Ha] with Hz
  · isplitr; · iexact Hc
    iexact Ha
  imod ((BI.bigSep_with_persistent (S := Finset.univ) (R := ctx I K) fun (r : Fin 15) _ => close_at I K (c, .inr (k, h, peer c r)) 1 (duties_later I (dcell c k h (peer c r)))).trans
    (bigSep_fupd _ _)) $$ [HP] with HZ
  · isplitr; · iexact Hc
    iexact HP
  imodintro
  isplitl [Hz]; · iexact Hz
  iexact HZ

/-- The partial products whole again. -/
theorem part_back : iprop(((bigSep Finset.univ fun r : Fin 15 => cellPay I 0 c 0 (peer c r)) ∗ partPts c c 0 (part I c))
      ∗ (bigSep Finset.univ fun r : Fin 15 => cellPay I 0 c 1 (peer c r)) ∗ partPts c c 1 (part I c)) ⊢ whole₁ (F := F) c cc0_scratch1 (part I c) := by
  rw [part_slots, bigSep_devs c, bigSep_devs c]
  iintro ⟨⟨HP, Hp⟩, HP', Hp'⟩
  isplitl [HP Hp]
  · isplitl [Hp]; · iexact Hp
    iexact HP
  isplitl [Hp']; · iexact Hp'
  iexact HP'

/-- The reduced rows whole again. -/
theorem red_back : iprop(((bigSep Finset.univ fun r : Fin 15 => cellPay I 2 c 0 (peer c r)) ∗ redPts c 0 c (red I c))
      ∗ (bigSep Finset.univ fun r : Fin 15 => cellPay I 2 c 1 (peer c r)) ∗ redPts c 1 c (red I c)) ⊢ whole₁ (F := F) c cc0_scratch2 (red I c) := by
  rw [red_whole, red_shares, red_shares, bigSep_devs c, bigSep_devs c]
  iintro ⟨⟨HP, Hp⟩, HP', Hp'⟩
  isplitl [HP Hp]
  · isplitl [Hp]; · iexact Hp
    iexact HP
  isplitl [Hp']; · iexact Hp'
  iexact HP'

theorem out_full : outSt I c 16 ⊢ iprop((∃ f, whole₁ (F := F) c cc0_scratch4 f) ∗ whole₁ (F := F) c cc0_stg5_0 (all I)) := by
  unfold outSt
  iintro ⟨HA, ⟨%f, %hf, HO⟩⟩
  have e : f = all I := funext fun i => hf i (i 0).isLt
  subst e
  isplitl [HA]; · iexists _; iexact HA
  iexact HO

theorem body_end : iprop(ctx I K ∗ over I c) ⊢ (|={Set.univ}=>
    iprop((anyBufs (F := F) c ∗ semVal (barCell c) 0 ∗ allZero (F := F) c) ∗ owesE (F := F) c 0 ∗ inBufs I c ∗ whole₁ (F := F) c cc0_stg5_0 (all I)) : sProp 𝕄) := by
  unfold over backSt rest homeA home kept
  rw [owed_end]
  iintro ⟨#Hc, HO, ⟨⟨HS0, HP0, Ha0⟩, ⟨HS1, HP1, Ha1⟩, ⟨HS2, HP2, Ha2⟩, ⟨HS3, HP3, Ha3⟩⟩, Hout, ⟨⟨Hr0, Hr1⟩, HR0, HR1⟩, ⟨⟨Hs0, Hp0, HR2⟩, ⟨Hs1, Hp1, HR3⟩⟩, ⟨⟨Hin, Hat⟩, Hb⟩⟩
  imod (close_bar I K c) $$ [Hb] with Hzb
  · isplitr; · iexact Hc
    iexact Hb
  imod (close_sent I K c 0 0 (if_pos rfl)) $$ [HS0 Ha0] with Hz0
  · isplitr; · iexact Hc
    isplitl [HS0]; · iexact HS0
    iexact Ha0
  imod (close_sent I K c 0 1 (if_pos rfl)) $$ [HS1 Ha1] with Hz1
  · isplitr; · iexact Hc
    isplitl [HS1]; · iexact HS1
    iexact Ha1
  imod (close_sent I K c 2 0 (if_pos rfl)) $$ [HS2 Ha2] with Hz2
  · isplitr; · iexact Hc
    isplitl [HS2]; · iexact HS2
    iexact Ha2
  imod (close_sent I K c 2 1 (if_pos rfl)) $$ [HS3 Ha3] with Hz3
  · isplitr; · iexact Hc
    isplitl [HS3]; · iexact HS3
    iexact Ha3
  imod (close_recv I K c 1 0) $$ [HR2] with Hz4
  · isplitr; · iexact Hc
    iexact HR2
  imod (close_recv I K c 1 1) $$ [HR3] with Hz5
  · isplitr; · iexact Hc
    iexact HR3
  imod (close_recv I K c 3 0) $$ [HR0] with Hz6
  · isplitr; · iexact Hc
    iexact HR0
  imod (close_recv I K c 3 1) $$ [HR1] with Hz7
  · isplitr; · iexact Hc
    iexact HR1
  ihave HP := (part_back I c) $$ [HP0 HP1 Hp0 Hp1]
  · isplitl [HP0 Hp0]
    · isplitl [HP0]; · iexact HP0
      iexact Hp0
    isplitl [HP1]; · iexact HP1
    iexact Hp1
  ihave HR := (red_back I c) $$ [HP2 HP3 Hr0 Hr1]
  · isplitl [HP2 Hr0]
    · isplitl [HP2]; · iexact HP2
      iexact Hr0
    isplitl [HP3]; · iexact HP3
    iexact Hr1
  ihave Ho := (out_full I c) $$ Hout
  icases Ho with ⟨HA, Hout⟩
  unfold attnBuf
  icases Hat with ⟨%f, -, Hat⟩
  imodintro
  unfold anyBufs allZero sideR
  isplitl [HP HR HA Hat Hs0 Hs1 Hzb Hz0 Hz1 Hz2 Hz3 Hz4 Hz5 Hz6 Hz7]
  · isplitl [HP HR HA Hat Hs0 Hs1]
    · isplitl [Hat]; · iexists f; iexact Hat
      isplitl [HP]; · iexists _; iexact HP
      isplitl [HR]; · iexists _; iexact HR
      isplitl [Hs0 Hs1]
      · iexists (rs I c); rw [rs_whole]; isplitl [Hs0]; · iexact Hs0
        iexact Hs1
      iexact HA
    isplitl [Hzb]; · iexact Hzb
    isplitl [Hz0 Hz1]; · (isplitl [Hz0] <;> iassumption)
    isplitl [Hz4 Hz5]; · (isplitl [Hz4] <;> iassumption)
    isplitl [Hz2 Hz3]; · (isplitl [Hz2] <;> iassumption)
    isplitl [Hz6] <;> iassumption
  isplitl [HO]; · iexact HO
  isplitl [Hin]; · iexact Hin
  iexact Hout

end Cert.MeshProof
-- ==== Proof.Ghost.lean ====
/-
The launch's ghost state: every cell's invariant, the duties dealt to the devices that pay them, and the credits.
-/
module

public import proofs.«01_k».proof.Proof.Close
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F)

/-! ## Cells and duties as the launch makes them -/

/-- The kernel's own semaphores: the four arrays. -/
abbrev osem (x : Fin 4 × Fin 2 × Dev nD) : SemLoc sig := .dma (dsem x.1 x.2.1 x.2.2)

theorem dsem_injective : Function.Injective fun x : Fin 4 × Fin 2 × Dev nD => dsem x.1 x.2.1 x.2.2 := by
  rintro ⟨k, h, s⟩ ⟨k', h', s'⟩ e
  have e : dsem k h s = dsem k' h' s' := e
  have h1 := congrArg arrOf e; have h2 := congrArg halfOf e; have h3 := congrArg slotOf e
  rw [arrOf_dsem, arrOf_dsem] at h1; rw [halfOf_dsem, halfOf_dsem] at h2; rw [slotOf_dsem, slotOf_dsem] at h3
  rw [h1, h2, h3]

theorem dcell_inj {c c' : Dev nD} {k k' : Fin 4} {h h' : Fin 2} {s s' : Dev nD} (e : dcell c k h s = dcell c' k' h' s') :
    c = c' ∧ k = k' ∧ h = h' ∧ s = s' := by
  have e1 : c = c' := congrArg (fun g : GSem nD τ sig => g.1.1) e
  have e2 : dsem k h s = dsem k' h' s' := by have := congrArg Prod.snd e; exact SemLoc.dma.inj this
  have e3 := @dsem_injective (k, h, s) (k', h', s') e2
  exact ⟨e1, congrArg (·.1) e3, congrArg (·.2.1) e3, congrArg (·.2.2) e3⟩

theorem kcell_injective : Function.Injective (kcell : Dev nD × CK → GSem nD τ sig) := by
  rintro ⟨c, k⟩ ⟨c', k'⟩ e
  rcases k with ⟨⟩ | ⟨k, h, s⟩ <;> rcases k' with ⟨⟩ | ⟨k', h', s'⟩
  · have e1 : c = c' := congrArg (fun g : GSem nD τ sig => g.1.1) e
    rw [e1]
  · have := congrArg Prod.snd e; cases this
  · have := congrArg Prod.snd e; cases this
  · obtain ⟨rfl, rfl, rfl, rfl⟩ := dcell_inj (show dcell c k h s = dcell c' k' h' s' from e); rfl

def meshCells : Finset (GSem nD τ sig) := Finset.univ.map ⟨kcell, kcell_injective⟩

/-- A device's duties: fifteen signals, and for each array, half and slot a transfer's end. -/
abbrev TK : Type := Fin 15 ⊕ (Fin 4 × Fin 2 × Dev nD)
/-- The cell a duty of device `c` raises. -/
def tokCell (c : Dev nD) (j : TK) : GSem nD τ sig :=
  match j with
  | .inl r => barCell (peer c r)
  | .inr (0, h, d) => dcell c 0 h d
  | .inr (1, h, d) => dcell d 1 h c
  | .inr (2, h, d) => dcell c 2 h d
  | .inr (3, h, d) => dcell d 3 h c

theorem tokCell_injective (c : Dev nD) : Function.Injective (tokCell c) := by
  intro j j' e
  rcases j with r | ⟨k, h, d⟩ <;> rcases j' with r' | ⟨k', h', d'⟩
  · have e1 : peer c r = peer c r' := congrArg (fun g : GSem nD τ sig => g.1.1) e
    rw [peer_injective c e1]
  · fin_cases k' <;> (have := congrArg Prod.snd e; cases this)
  · fin_cases k <;> (have := congrArg Prod.snd e; cases this)
  · fin_cases k <;> fin_cases k' <;> (obtain ⟨h1, h2, h3, h4⟩ := dcell_inj e) <;>
      first | exact absurd h2 (by decide) | (subst h3; subst h1; rfl) | (subst h3; subst h4; rfl)

abbrev tokOf (cj : Dev nD × TK) : GSem nD τ sig × ℕ × Dev nD := (tokCell cj.1 cj.2, 0, cj.1)
theorem tokOf_injective : Function.Injective tokOf := by
  rintro ⟨c, j⟩ ⟨c', j'⟩ e
  have e1 : c = c' := congrArg (fun x : GSem nD τ sig × ℕ × Dev nD => x.2.2) e
  subst e1
  exact congrArg (Prod.mk c) (tokCell_injective c (congrArg Prod.fst e))
def meshToks : Finset (GSem nD τ sig × ℕ × Dev nD) := Finset.univ.map ⟨tokOf, tokOf_injective⟩

def u₀ : UU :=
  (initOf (Pipeline.cells cfgs cellOf_inj) (Pipeline.launchToks cfgs cellOf_inj), initOf meshCells meshToks)

/-- The duties of device `c`. -/
def payToks (c : Dev nD) : sProp 𝕄 := bigSep Finset.univ fun j : TK => dutyTok ER (tokCell c j) 0 c
/-- The positions of its cells. -/
def poss (c : Dev nD) : sProp 𝕄 := bigSep Finset.univ fun k : CK => atPos ER (kcell (c, k)) 0 ∅ 0

/-- What the launch's element deals device `c`. -/
def G (c : Dev nD) : sProp 𝕄 :=
  iprop((bigSep Finset.univ fun k : CK => roundState ER (Rd I) (kcell (c, k)) 0)
    ∗ (bigSep Finset.univ fun k : CK => reached ER (kcell (c, k)) 0) ∗ poss (F := F) c ∗ payToks c)

theorem bigSep_fin2 (Φ : Fin 2 → sProp 𝕄) : bigSep Finset.univ Φ = iprop(Φ 0 ∗ Φ 1) := bigSep_univ_eq_bigSepL [0, 1] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- What is held for every array, half and slot. -/
theorem bigSep_arrays (Φ : Fin 4 × Fin 2 × Dev nD → sProp 𝕄) : bigSep Finset.univ Φ
    = iprop(((bigSep Finset.univ fun s => Φ (0, 0, s)) ∗ (bigSep Finset.univ fun s => Φ (0, 1, s)))
      ∗ ((bigSep Finset.univ fun s => Φ (1, 0, s)) ∗ (bigSep Finset.univ fun s => Φ (1, 1, s)))
      ∗ ((bigSep Finset.univ fun s => Φ (2, 0, s)) ∗ (bigSep Finset.univ fun s => Φ (2, 1, s)))
      ∗ ((bigSep Finset.univ fun s => Φ (3, 0, s)) ∗ (bigSep Finset.univ fun s => Φ (3, 1, s)))) := by
  have e (k : Fin 4) : (bigSep Finset.univ fun x : Fin 2 × Dev nD => Φ (k, x))
      = iprop((bigSep Finset.univ fun s => Φ (k, 0, s)) ∗ (bigSep Finset.univ fun s => Φ (k, 1, s))) := by
    rw [bigSep_univ_prod (fun x : Fin 2 × Dev nD => Φ (k, x)), bigSep_fin2]
  rw [bigSep_univ_prod, bigSep_fin4, e 0, e 1, e 2, e 3]

theorem bigSep_cells (Φ : CK → sProp 𝕄) : bigSep Finset.univ Φ = iprop(Φ (.inl ()) ∗ bigSep Finset.univ fun x => Φ (.inr x)) := by
  rw [bigSep_univ_sum, bigSep_univ_eq_bigSepL [()] (by decide) (by decide)]; rfl

theorem fund_mesh : BI.own (ER (initOf meshCells meshToks)) ⊢ (|==> bigSep Finset.univ (G I) : sProp 𝕄) := by
  have hX (Φ : GSem nD τ sig → sProp 𝕄) : bigSep meshCells Φ = bigSep Finset.univ fun c : Dev nD => bigSep Finset.univ fun k : CK => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => payToks c := by
    unfold meshToks; rw [bigSep_map, bigSep_univ_prod]; rfl
  unfold G poss
  simp only [bigSep_sep']
  iintro HX
  imod (Rounds.fund ER (Rd I) meshCells meshToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  isplitl [Hst']; · iexact Hst'
  isplitl [Hr']; · iexact Hr'
  isplitl [Hat'] <;> iassumption

theorem ownSems0_eq (c : Dev nD) : (Pipeline.ownSems0 (Ix := Unit) (Name := ℕ) (U := UU) (Lvl := ℕ) (Val := Elt F) (τ := τ) osem c : sProp 𝕄)
    = allZero (F := F) c := by
  unfold Pipeline.ownSems0
  rw [bigSep_arrays]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_cells]
  unfold Pipeline.ownSems0
  iintro ⟨HS, HB⟩
  isplitl [HB]; · iexact HB
  iexact HS

theorem cell_alloc (c : Dev nD) : iprop((bigSep Finset.univ fun k : CK => semVal (kcell (c, k)) 0) ∗ bigSep Finset.univ fun k : CK => roundState ER (Rd I) (kcell (c, k)) 0)
      ⊢ (|={Set.univ}=> bigSep Finset.univ fun k => iprop(∃ κ : ℕ, cellInv ER (Rd I) κ (kcell (c, k))) : sProp 𝕄) := by
  rw [← bigSep_sep']
  exact (bigSep_mono fun k _ => (Rounds.body_intro ER (Rd I) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k : CK => reached ER (kcell (c, k)) 0) ∗ poss (F := F) c ∗ payToks c) := by
  unfold G
  iintro ⟨Hos, Hus, Hst, Hr, Hat, Htok⟩
  ihave Hv := (sems0_eq (F := F) c) $$ [Hos Hus]
  · isplitl [Hos] <;> iassumption
  imod (cell_alloc I c) $$ [Hv Hst] with Hinv
  · isplitl [Hv] <;> iassumption
  imodintro
  isplitl [Hinv]; · iexact Hinv
  isplitl [Hr]; · iexact Hr
  isplitl [Hat]; · iexact Hat
  iexact Htok

/-- The cells' invariants, and that each has reached its round. -/
def records (K : Dev nD × CK → ℕ) : sProp 𝕄 :=
  iprop((bigSep Finset.univ fun ck : Dev nD × CK => cellInv ER (Rd I) (K ck) (kcell ck))
    ∗ bigSep Finset.univ fun ck : Dev nD × CK => reached ER (kcell ck) 0)
instance records_persistent (K : Dev nD × CK → ℕ) : BI.Persistent (records I K) := by unfold records; infer_instance

/-- What the launch's global step makes of it. -/
def G' (c : Dev nD) : sProp 𝕄 := iprop(∃ K, records I K ∗ poss (F := F) c ∗ payToks c)

theorem share_out (K : Dev nD × CK → ℕ) : iprop(records I K ∗ bigSep Finset.univ fun c : Dev nD => iprop(poss (F := F) c ∗ payToks c)) ⊢ bigSep Finset.univ (G' I) :=
  BI.bigSep_with_persistent (S := Finset.univ) (R := records I K) fun c _ => by
    unfold G'; iintro H; iexists K; iexact H

theorem regroup :
    (bigSep Finset.univ fun c : Dev nD => iprop((bigSep Finset.univ fun k => iprop(∃ κ : ℕ, cellInv ER (Rd I) κ (kcell (c, k))))
          ∗ (bigSep Finset.univ fun k : CK => reached ER (kcell (c, k)) 0) ∗ poss (F := F) c ∗ payToks c) : sProp 𝕄)
      ⊢ bigSep Finset.univ (G' I) := by
  rw [bigSep_sep', bigSep_sep', ← bigSep_univ_prod (fun ck : Dev nD × CK => iprop(∃ κ : ℕ, cellInv ER (Rd I) κ (kcell ck))),
    ← bigSep_univ_prod (fun ck : Dev nD × CK => (reached ER (kcell ck) 0 : sProp 𝕄))]
  iintro ⟨HI, #HR, Hl⟩
  ihave HK := (BI.bigSep_exists_pi Finset.univ (fun (ck : Dev nD × CK) (κ : ℕ) => (cellInv ER (Rd I) κ (kcell ck) : sProp 𝕄))) $$ HI
  icases HK with ⟨%K, #HI⟩
  iapply (share_out I K)
  isplitr
  · unfold records; isplitl; · iexact HI
    iexact HR
  · iexact Hl

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch's credits -/

/-- What a device owes at the launch. -/
def O₀ (d : Dev nD) : CellTallies nD τ sig Unit := owed d 0 0

theorem sum_peer (d c : Dev nD) (n : ℕ) : (∑ r : Fin 15, if peer d r = c then n else 0) = if d = c then 0 else n := by
  have e : (∑ r : Fin 15, if peer d r = c then n else 0) = ∑ x ∈ Finset.univ.erase d, if x = c then n else 0 := by
    rw [erase_eq_map, Finset.sum_map]; rfl
  rw [e, Finset.sum_ite_eq']
  by_cases h : d = c
  · rw [if_pos h, if_neg fun h' => (Finset.mem_erase.mp h').1 h.symm]
  · rw [if_neg h, if_pos (Finset.mem_erase.mpr ⟨fun h' => h h'.symm, Finset.mem_univ _⟩)]

/-- The whole debt, stage by stage. -/
theorem O₀_apply (d : Dev nD) (g : GSem nD τ sig) :
    O₀ d g () = ∑ p : Fin 5, ∑ r : Fin 15, if g = owedCell d (p, r) then owedAmt p else 0 := by
  unfold O₀ owed
  have e : debts 0 0 = Finset.univ := by
    refine Finset.filter_true_of_mem fun x _ => ?_
    rcases Nat.eq_zero_or_pos x.1.val with h | h
    · exact Or.inr ⟨Fin.ext h, Nat.zero_le _⟩
    · exact Or.inl h
  rw [e, Finset.sum_apply, Finsupp.finset_sum_apply, Fintype.sum_prod_type]
  refine Finset.sum_congr rfl fun p _ => Finset.sum_congr rfl fun r _ => ?_
  rw [tallyAt_apply]
  by_cases h : g = owedCell d (p, r)
  · rw [if_pos ⟨h, rfl⟩, if_pos h]
  · rw [if_neg fun h' => h h'.1, if_neg h]

theorem owed_bar (d c : Dev nD) : O₀ d (barCell c) () = if d = c then 0 else 1 := by
  rw [O₀_apply, Finset.sum_eq_single_of_mem (0 : Fin 5) (Finset.mem_univ _) fun p _ hp => ?_, ← sum_peer d c 1]
  · refine Finset.sum_congr rfl fun r _ => ?_
    by_cases h : peer d r = c
    · rw [if_pos h, if_pos (by rw [← h]; rfl)]; rfl
    · rw [if_neg h, if_neg fun h' => h (congrArg (fun g : GSem nD τ sig => g.1.1) h').symm]
  · refine Finset.sum_eq_zero fun r _ => if_neg fun h' => ?_
    fin_cases p
    · exact hp rfl
    all_goals (have := congrArg Prod.snd h'; cases this)

/-- The stage at which a receive cell is raised. -/
def stageOf (k : Fin 4) (h : Fin 2) : Fin 5 := match k, h with
  | 1, 0 => 1 | 1, 1 => 2 | 3, 0 => 3 | 3, 1 => 4 | _, _ => 0

theorem owedCell_stage (k : Fin 4) (hk : k = 1 ∨ k = 3) (h : Fin 2) (d : Dev nD) (r : Fin 15) : owedCell d (stageOf k h, r) = dcell (peer d r) k h d := by
  rcases hk with rfl | rfl <;> fin_cases h <;> rfl

theorem owed_recv (k : Fin 4) (hk : k = 1 ∨ k = 3) (h : Fin 2) (d c s : Dev nD) (hs : s ≠ c) :
    O₀ d (dcell c k h s) () = if d = s then N else 0 := by
  have hN : owedAmt (stageOf k h) = N := by rcases hk with rfl | rfl <;> fin_cases h <;> rfl
  rw [O₀_apply, Finset.sum_eq_single_of_mem (stageOf k h) (Finset.mem_univ _) fun p _ hp => ?_]
  · have e : (∑ r : Fin 15, if dcell c k h s = owedCell d (stageOf k h, r) then owedAmt (stageOf k h) else 0)
        = ∑ r : Fin 15, if peer d r = c then (if d = s then N else 0) else 0 := by
      refine Finset.sum_congr rfl fun r _ => ?_
      rw [owedCell_stage k hk, hN]
      by_cases h1 : peer d r = c
      · by_cases h2 : d = s
        · rw [if_pos h1, if_pos h2, if_pos (by rw [h1, h2])]
        · rw [if_pos h1, if_neg h2, if_neg fun h' => h2 (dcell_inj h').2.2.2.symm]
      · rw [if_neg h1, if_neg fun h' => h1 (dcell_inj h').1.symm]
    rw [e, sum_peer]
    by_cases h2 : d = s
    · rw [if_neg (by rw [h2]; exact hs)]
    · rw [if_neg h2]; split <;> rfl
  · refine Finset.sum_eq_zero fun r _ => if_neg fun h' => ?_
    rcases hk with rfl | rfl <;> fin_cases h <;> fin_cases p <;>
      first
      | exact hp rfl
      | (have := congrArg Prod.snd h'; cases this)
      | exact absurd (dcell_inj h').2.1 (by decide)
      | exact absurd (dcell_inj h').2.2.1 (by decide)

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (k : Fin 4) (hk : k = 1 ∨ k = 3) (h : Fin 2) (c s : Dev nD) (hs : s ≠ c) :
    tallyOn (dcell c k h s) (launchCredit (Pipeline.owing O₀) 0 (dcell c k h s)) = (tallyAt (dcell c k h s) () N : CellTallies nD τ sig Unit) := by
  unfold tallyAt; refine congrArg _ (Finsupp.ext fun u => ?_); cases u
  rw [Pipeline.launchCredit_owing, Finsupp.single_eq_same, Finset.sum_congr rfl fun d _ => owed_recv k hk h d c s hs, Finset.sum_ite_eq' Finset.univ s fun _ => N,
    if_pos (Finset.mem_univ _)]

/-- The credits of the other devices' transfers into half `h` of receive array `k`. -/
def inCr (c : Dev nD) (k : Fin 4) (h : Fin 2) : sProp 𝕄 := bigSep Finset.univ fun r : Fin 15 => cred (tallyAt (dcell c k h (peer c r)) () N)

/-- The semaphores whose credits are used: the barrier's, and the slots of the others. -/
abbrev CR : Type := Unit ⊕ ((Fin 2 × Fin 2) × Fin 15)
def recvArr (i : Fin 2) : Fin 4 := match i with | 0 => 1 | 1 => 3
theorem recvArr_or (i : Fin 2) : recvArr i = 1 ∨ recvArr i = 3 := by revert i; decide
theorem recvArr_injective : Function.Injective recvArr := by decide
def crSem (c : Dev nD) (x : CR) : SemLoc sig := match x with
  | .inl _ => .reg barS
  | .inr x => .dma (dsem (recvArr x.1.1) x.1.2 (peer c x.2))
theorem crSem_injective (c : Dev nD) : Function.Injective (crSem c) := by
  rintro (⟨⟩ | ⟨⟨i, h⟩, r⟩) (⟨⟩ | ⟨⟨i', h'⟩, r'⟩) e
  · rfl
  · cases e
  · cases e
  · have e3 := @dsem_injective (recvArr i, h, peer c r) (recvArr i', h', peer c r') (SemLoc.dma.inj e)
    have h1 := recvArr_injective (congrArg (·.1) e3)
    have h2 : h = h' := congrArg (·.2.1) e3
    have h3 := peer_injective c (congrArg (·.2.2) e3)
    rw [h1, h2, h3]

theorem creds (c : Dev nD) : (Pipeline.launchCred O₀ c : sProp 𝕄)
    ⊢ iprop(cred (tallyAt (barCell c) () 15) ∗ (inCr c 1 0 ∗ inCr c 1 1) ∗ inCr c 3 0 ∗ inCr c 3 1) := by
  have e : (bigSep Finset.univ fun x : CR => (cred (tallyOn ((c : Thread nD τ), crSem c x) (launchCredit (Pipeline.owing O₀) 0 ((c : Thread nD τ), crSem c x))) : sProp 𝕄))
      ⊢ iprop(cred (tallyAt (barCell c) () 15) ∗ (inCr c 1 0 ∗ inCr c 1 1) ∗ inCr c 3 0 ∗ inCr c 3 1) := by
    have e2 (i h : Fin 2) : (bigSep Finset.univ fun r : Fin 15 => (cred (tallyOn ((c : Thread nD τ), crSem c (.inr ((i, h), r)))
        (launchCredit (Pipeline.owing O₀) 0 ((c : Thread nD τ), crSem c (.inr ((i, h), r))))) : sProp 𝕄)) = inCr c (recvArr i) h := by
      unfold inCr
      exact bigSep_congr fun r _ => congrArg cred (launch_recv (recvArr i) (recvArr_or i) h c (peer c r) (peer_ne c r))
    rw [bigSep_univ_sum, bigSep_univ_eq_bigSepL [()] (by decide) (by decide), bigSep_univ_prod, bigSep_univ_prod, bigSep_fin2,
      bigSep_fin2, bigSep_fin2, e2 0 0, e2 0 1, e2 1 0, e2 1 1]
    refine sep_mono_left (Entails.of_eq ?_)
    exact congrArg cred (launch_bar c)
  refine BIBase.Entails.trans ?_ e
  unfold Pipeline.launchCred
  refine BIBase.Entails.trans (bigSep_subset (Finset.subset_univ ((Finset.univ : Finset CR).map ⟨crSem c, crSem_injective c⟩))) ?_
  rw [bigSep_map]; exact BI.Entails.refl _

end Cert.MeshProof
end
-- ==== Proof.Launch.lean ====
/-
The launch: from any memory with every counter at zero the mesh's program ends with the gathered rows on every device.
-/
module

public import proofs.«01_k».proof.Proof.Body
public import proofs.«01_k».proof.Proof.Ghost
public import proofs.«01_k».proof.Proof.Gen.KernelIdeal.Points
public import Idealize.ShloMosaic.Lib.Pipeline.CollectiveSegs

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## From what the launch hands a device to what its body needs -/

section Start
variable (I : Inp F) (K : Dev nD × CK → ℕ) (c : Dev nD)

/-- A buffer of landing slots, cut: the device's own slots, and the others'. -/
theorem rs_cut : iprop(∃ f, whole₁ (F := F) c cc0_scratch3 f) ⊢ iprop(((∃ f, rsPts (F := F) c c 0 f) ∗ (bigSep Finset.univ fun r : Fin 15 => iprop(∃ f, rsPts (F := F) c (peer c r) 0 f)))
    ∗ (∃ f, rsPts (F := F) c c 1 f) ∗ (bigSep Finset.univ fun r : Fin 15 => iprop(∃ f, rsPts (F := F) c (peer c r) 1 f)) : sProp 𝕄) := by
  iintro ⟨%f, H⟩
  ihave H' := (Entails.of_eq (show (whole₁ (F := F) c cc0_scratch3 f : sProp 𝕄) = iprop((rsPts c c 0 f ∗ bigSep Finset.univ fun r : Fin 15 => rsPts c (peer c r) 0 f)
      ∗ (rsPts c c 1 f ∗ bigSep Finset.univ fun r : Fin 15 => rsPts c (peer c r) 1 f)) by
    rw [rs_whole, ← rs_side, ← rs_side, bigSep_devs c, bigSep_devs c])) $$ H
  have any (h : Fin 2) : (bigSep Finset.univ fun r : Fin 15 => rsPts (F := F) c (peer c r) h f) ⊢ (bigSep Finset.univ fun r : Fin 15 => iprop(∃ f, rsPts (F := F) c (peer c r) h f) : sProp 𝕄) :=
    bigSep_mono fun r _ => show rsPts (F := F) c (peer c r) h f ⊢ iprop(∃ f, rsPts (F := F) c (peer c r) h f) by iintro H; iexists f; iexact H
  icases H' with ⟨⟨H0, H1⟩, H2, H3⟩
  isplitl [H0 H1]
  · isplitl [H0]; · iexists f; iexact H0
    iapply (any 0); iexact H1
  isplitl [H2]; · iexists f; iexact H2
  iapply (any 1); iexact H3

/-- The buffer of gathered rows, cut the same way. -/
theorem ag_cut : iprop(∃ f, whole₁ (F := F) c cc0_scratch4 f) ⊢ iprop(((∃ f, agPts (F := F) c c 0 f) ∗ (bigSep Finset.univ fun r : Fin 15 => iprop(∃ f, agPts (F := F) c (peer c r) 0 f)))
    ∗ (∃ f, agPts (F := F) c c 1 f) ∗ (bigSep Finset.univ fun r : Fin 15 => iprop(∃ f, agPts (F := F) c (peer c r) 1 f)) : sProp 𝕄) := by
  iintro ⟨%f, H⟩
  ihave H' := (Entails.of_eq (show (whole₁ (F := F) c cc0_scratch4 f : sProp 𝕄) = iprop((agPts c c 0 f ∗ bigSep Finset.univ fun r : Fin 15 => agPts c (peer c r) 0 f)
      ∗ (agPts c c 1 f ∗ bigSep Finset.univ fun r : Fin 15 => agPts c (peer c r) 1 f)) by
    rw [ag_whole, ← ag_side, ← ag_side, bigSep_devs c, bigSep_devs c])) $$ H
  have any (h : Fin 2) : (bigSep Finset.univ fun r : Fin 15 => agPts (F := F) c (peer c r) h f) ⊢ (bigSep Finset.univ fun r : Fin 15 => iprop(∃ f, agPts (F := F) c (peer c r) h f) : sProp 𝕄) :=
    bigSep_mono fun r _ => show agPts (F := F) c (peer c r) h f ⊢ iprop(∃ f, agPts (F := F) c (peer c r) h f) by iintro H; iexists f; iexact H
  icases H' with ⟨⟨H0, H1⟩, H2, H3⟩
  isplitl [H0 H1]
  · isplitl [H0]; · iexists f; iexact H0
    iapply (any 0); iexact H1
  isplitl [H2]; · iexists f; iexact H2
  iapply (any 1); iexact H3

/-- The reduced rows, cut into halves. -/
theorem red_cut : iprop(∃ f, whole₁ (F := F) c cc0_scratch2 f) ⊢ iprop(redFree (F := F) c 0 ∗ redFree (F := F) c 1) := by
  unfold redFree
  iintro ⟨%f, H⟩
  ihave H' := (Entails.of_eq (red_whole c f)) $$ H
  icases H' with ⟨H0, H1⟩
  isplitl [H0]; · iexists f; iexact H0
  iexists f; iexact H1

/-- The positions, array by array. -/
theorem poss_eq : poss (F := F) c = iprop(atPos ER (barCell c) 0 ∅ 0 ∗ (sendW (F := F) c 0 0 ∗ sendW (F := F) c 0 1)
    ∗ (sendW (F := F) c 1 0 ∗ sendW (F := F) c 1 1) ∗ (sendW (F := F) c 2 0 ∗ sendW (F := F) c 2 1) ∗ (sendW (F := F) c 3 0 ∗ sendW (F := F) c 3 1)) := by
  unfold poss
  rw [bigSep_cells, bigSep_arrays]; rfl

theorem bigSep_duties (Φ : TK → sProp 𝕄) : bigSep Finset.univ Φ = iprop((bigSep Finset.univ fun r => Φ (.inl r)) ∗ bigSep Finset.univ fun x => Φ (.inr x)) :=
  bigSep_univ_sum Φ

/-- The duties: the fifteen signals', and each exchange's. -/
theorem payToks_split : payToks (F := F) c ⊢ iprop((bigSep Finset.univ fun r : Fin 15 => dutyTok ER (barCell (peer c r)) 0 c)
    ∗ (toks (F := F) c 0 1 0 ∗ dutyTok ER (dcell c 1 0 c) 0 c) ∗ (toks (F := F) c 0 1 1 ∗ dutyTok ER (dcell c 1 1 c) 0 c)
    ∗ (toks (F := F) c 2 3 0 ∗ dutyTok ER (dcell c 3 0 c) 0 c) ∗ (toks (F := F) c 2 3 1 ∗ dutyTok ER (dcell c 3 1 c) 0 c)) := by
  have e (k₁ k₂ : Fin 4) (h : Fin 2) : toks (F := F) c k₁ k₂ h = iprop((bigSep Finset.univ fun r : Fin 15 => dutyTok ER (dcell c k₁ h (peer c r)) 0 c)
      ∗ bigSep Finset.univ fun r : Fin 15 => dutyTok ER (dcell (peer c r) k₂ h c) 0 c) := by unfold toks; rw [bigSep_sep']
  have hp : payToks (F := F) c = iprop((bigSep Finset.univ fun r : Fin 15 => dutyTok ER (barCell (peer c r)) 0 c)
      ∗ ((bigSep Finset.univ fun d : Dev nD => dutyTok ER (dcell c 0 0 d) 0 c) ∗ bigSep Finset.univ fun d : Dev nD => dutyTok ER (dcell c 0 1 d) 0 c)
      ∗ ((bigSep Finset.univ fun d : Dev nD => dutyTok ER (dcell d 1 0 c) 0 c) ∗ bigSep Finset.univ fun d : Dev nD => dutyTok ER (dcell d 1 1 c) 0 c)
      ∗ ((bigSep Finset.univ fun d : Dev nD => dutyTok ER (dcell c 2 0 d) 0 c) ∗ bigSep Finset.univ fun d : Dev nD => dutyTok ER (dcell c 2 1 d) 0 c)
      ∗ ((bigSep Finset.univ fun d : Dev nD => dutyTok ER (dcell d 3 0 c) 0 c) ∗ bigSep Finset.univ fun d : Dev nD => dutyTok ER (dcell d 3 1 c) 0 c)) := by
    unfold payToks; rw [bigSep_duties, bigSep_arrays]; rfl
  rw [hp, e, e, e, e]
  simp only [bigSep_devs c]
  iintro ⟨HB, ⟨⟨-, H00⟩, -, H01⟩, ⟨⟨Ho0, H10⟩, Ho1, H11⟩, ⟨⟨-, H20⟩, -, H21⟩, ⟨Ho2, H30⟩, Ho3, H31⟩
  isplitl [HB]; · iexact HB
  isplitl [H00 H10 Ho0]
  · isplitl [H00 H10]; · (isplitl [H00] <;> iassumption)
    iexact Ho0
  isplitl [H01 H11 Ho1]
  · isplitl [H01 H11]; · (isplitl [H01] <;> iassumption)
    iexact Ho1
  isplitl [H20 H30 Ho2]
  · isplitl [H20 H30]; · (isplitl [H20] <;> iassumption)
    iexact Ho2
  isplitl [H21 H31]; · (isplitl [H21] <;> iassumption)
  iexact Ho3

/-- The signals: each other device's landing slots here go with its signal. -/
theorem sig_begin : iprop(owesE (F := F) c (O₀ c) ∗ (bigSep Finset.univ fun r : Fin 15 => dutyTok ER (barCell (peer c r)) 0 c)
    ∗ ((bigSep Finset.univ fun r : Fin 15 => iprop(∃ f, rsPts (F := F) c (peer c r) 0 f)) ∗ bigSep Finset.univ fun r : Fin 15 => iprop(∃ f, agPts (F := F) c (peer c r) 0 f))
    ∗ (bigSep Finset.univ fun r : Fin 15 => iprop(∃ f, rsPts (F := F) c (peer c r) 1 f)) ∗ bigSep Finset.univ fun r : Fin 15 => iprop(∃ f, agPts (F := F) c (peer c r) 1 f))
    ⊢ sigSt (F := F) c 0 := by
  unfold sigSt barPay landing
  rw [todo_zero]
  simp only [bigSep_sep']
  iintro ⟨HO, Ht, ⟨H0, H1⟩, H2, H3⟩
  isplitl [HO]; · iexact HO
  isplitl [Ht]; · iexact Ht
  isplitl [H0 H1]; · (isplitl [H0] <;> iassumption)
  isplitl [H2] <;> iassumption

theorem recv_begin (k : Fin 4) (h : Fin 2) : iprop(sendW (F := F) c k h ∗ inCr (F := F) c k h) ⊢ recvW (F := F) c k h := BI.Entails.refl _

/-- All that the body is to have, from what the launch gives. -/
theorem body_begin : iprop(poss (F := F) c ∗ payToks (F := F) c
      ∗ (cred (tallyAt (barCell c) () 15) ∗ (inCr (F := F) c 1 0 ∗ inCr (F := F) c 1 1) ∗ inCr (F := F) c 3 0 ∗ inCr (F := F) c 3 1)
      ∗ anyBufs (F := F) c ∗ owesE (F := F) c (O₀ c) ∗ inBufs I c ∗ outFree (F := F) c)
    ⊢ iprop(sigSt (F := F) c 0 ∗ cmpSt I c 0 ∗ begin0 (F := F) c) := by
  rw [poss_eq]
  unfold anyBufs
  iintro ⟨⟨HpB, ⟨Hs00, Hs01⟩, ⟨Hr10, Hr11⟩, ⟨Hs20, Hs21⟩, Hr30, Hr31⟩, Ht, ⟨HcB, ⟨Hc10, Hc11⟩, Hc30, Hc31⟩, ⟨⟨%f0, Hb0⟩, Hb1, Hb2, Hb3, Hb4⟩, HO, Hin, Hout⟩
  ihave Ht' := (payToks_split (F := F) c) $$ Ht
  icases Ht' with ⟨HtB, ⟨Ht00, Ho00⟩, ⟨Ht01, Ho01⟩, ⟨Ht20, Ho20⟩, Ht21, Ho21⟩
  ihave H3 := (rs_cut (F := F) c) $$ Hb3
  icases H3 with ⟨⟨Hm0, Hl0⟩, Hm1, Hl1⟩
  ihave H4 := (ag_cut (F := F) c) $$ Hb4
  icases H4 with ⟨⟨Hn0, Hg0⟩, Hn1, Hg1⟩
  ihave H2 := (red_cut (F := F) c) $$ Hb2
  icases H2 with ⟨Hd0, Hd1⟩
  isplitl [HO HtB Hl0 Hg0 Hl1 Hg1]
  · iapply (sig_begin (F := F) c)
    isplitl [HO]; · iexact HO
    isplitl [HtB]; · iexact HtB
    isplitl [Hl0 Hg0]; · (isplitl [Hl0] <;> iassumption)
    isplitl [Hl1] <;> iassumption
  isplitl [Hin Hb0 Hb1]
  · unfold cmpSt attnBuf
    isplitl [Hin]; · iexact Hin
    isplitl [Hb0]
    · iexists f0; isplitr; · (ipureintro; exact fun _ h => absurd h (Nat.not_lt_zero _))
      iexact Hb0
    iexact Hb1
  unfold begin0 begin1 barW exR exA sends
  isplitl [HcB HpB]; · (isplitl [HcB] <;> iassumption)
  isplitl [Ht00 Ho00 Hm0]; · (isplitl [Ht00]; · iexact Ht00); (isplitl [Ho00] <;> iassumption)
  isplitl [Ht01 Ho01 Hm1]; · (isplitl [Ht01]; · iexact Ht01); (isplitl [Ho01] <;> iassumption)
  isplitl [Ht20 Ho20 Hn0]; · (isplitl [Ht20]; · iexact Ht20); (isplitl [Ho20] <;> iassumption)
  isplitl [Ht21 Ho21 Hn1]; · (isplitl [Ht21]; · iexact Ht21); (isplitl [Ho21] <;> iassumption)
  isplitl [Hd0]; · iexact Hd0
  isplitl [Hd1]; · iexact Hd1
  isplitl [Hr10 Hc10]
  · iapply (recv_begin (F := F) c 1 0)
    isplitl [Hr10]; · iexact Hr10
    iexact Hc10
  isplitl [Hr11 Hc11]
  · iapply (recv_begin (F := F) c 1 1)
    isplitl [Hr11]; · iexact Hr11
    iexact Hc11
  isplitl [Hr30 Hc30]
  · iapply (recv_begin (F := F) c 3 0)
    isplitl [Hr30]; · iexact Hr30
    iexact Hc30
  isplitl [Hr31 Hc31]
  · iapply (recv_begin (F := F) c 3 1)
    isplitl [Hr31]; · iexact Hr31
    iexact Hc31
  isplitl [Hs00 Hs01 Hs20 Hs21]
  · isplitl [Hs00]; · iexact Hs00
    isplitl [Hs01]; · iexact Hs01
    isplitl [Hs20] <;> iassumption
  iexact Hout

end Start

/-! ## The pipeline's data -/

variable (m : (ℓ : Loc nD τ sig) → Buf (Elt F) ℓ) (ρ : Dev nD → PrngReg)

def s₀ : MemSt nD τ sig (Elt F) := ⟨m, fun _ => 0, ρ⟩

/-- The inputs, as the memory holds them. -/
def inp : Inp F where
  x c := m ((c : Thread nD τ).loc main_arg0)
  wq c := m ((c : Thread nD τ).loc main_arg1)
  wk c := m ((c : Thread nD τ).loc main_arg2)
  wv c := m ((c : Thread nD τ).loc main_arg3)
  wo c := m ((c : Thread nD τ).loc main_arg4)

/-- What the launch gives a device beside its buffers. -/
def start (c : Dev nD) : sProp 𝕄 := iprop(G' (inp m) c
  ∗ (cred (tallyAt (barCell c) () 15) ∗ (inCr (F := F) c 1 0 ∗ inCr (F := F) c 1 1) ∗ inCr (F := F) c 3 0 ∗ inCr (F := F) c 3 1) ∗ levAts L lv)
def Φ₀ (c : Dev nD) : sProp 𝕄 := iprop(start m c ∗ anyBufs (F := F) c)
def Φ₁ (c : Dev nD) : sProp 𝕄 := iprop(anyBufs (F := F) c ∗ semVal (barCell c) 0 ∗ allZero (F := F) c)

set_option backward.proofsInPublic true in
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).wo c
    | ⟨3, _⟩ => (inp m).wk c
    | ⟨4, _⟩ => (inp m).wv c
    | ⟨5, _⟩ => all (inp m)
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.shape.Idx → Elt F b.ty.elt) :
    (owns (c : Thread nD τ) (Memref.whole b) fullShare X : sProp 𝕄) = iprop(∃ f, ⌜f = X⌝ ∗ ((c : Thread nD τ).loc b ↦{fullShare} f)) := by
  unfold owns; simp only [Memref.view_whole, View.read_whole, View.set_whole]
/-- A staging buffer at contents `X`. -/
def stg (c : Dev nD) (b : Ref sig .tc) (X : Buf (Elt F) ((c : Thread nD τ).loc b)) : sProp 𝕄 := iprop(∃ f, ⌜f = X⌝ ∗ whole₁ (F := F) c b f)

/-- Each window's one block is its whole array. -/
theorem blk_x (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem blk_wq (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f
theorem blk_wo (f : (main_arg4 : Ref sig .tc).ty.Contents (Elt F)) : (win0_2.blk (0 : Fin 1)).view.read (Elt F) f = f :=
  Memref.read_access_unit_zero (Elt F) main_arg4 (funext fun a => by fin_cases a <;> decide) (fun a => by fin_cases a <;> decide) f
theorem blk_wk (f : (main_arg2 : Ref sig .tc).ty.Contents (Elt F)) : (win0_3.blk (0 : Fin 1)).view.read (Elt F) f = f :=
  Memref.read_access_unit_zero (Elt F) main_arg2 (funext fun a => by fin_cases a <;> decide) (fun a => by fin_cases a <;> decide) f
theorem blk_wv (f : (main_arg3 : Ref sig .tc).ty.Contents (Elt F)) : (win0_4.blk (0 : Fin 1)).view.read (Elt F) f = f :=
  Memref.read_access_unit_zero (Elt F) main_arg3 (funext fun a => by fin_cases a <;> decide) (fun a => by fin_cases a <;> decide) f
theorem blk_out (f : (main_v1 : Ref sig .tc).ty.Contents (Elt F)) : (win0_5.blk (0 : Fin 1)).view.read (Elt F) f = f :=
  Memref.read_access_unit_zero (Elt F) main_v1 (funext fun a => by fin_cases a <;> decide) (fun a => by fin_cases a <;> decide) f

/-- What the body is given. -/
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
/-- What it gives back. -/
def bodyPost (c : Dev nD) : sProp 𝕄 :=
  iprop(Φ₁ (F := F) c ∗ (dats m ρ 0 c).owesAt () t0_0.succ
    ∗ stg c cc0_stg0_0 ((inp m).x c) ∗ stg c cc0_stg1_0 ((inp m).wq c) ∗ stg c cc0_stg2_0 ((inp m).wo c) ∗ stg c cc0_stg3_0 ((inp m).wk c)
    ∗ stg c cc0_stg4_0 ((inp m).wv c) ∗ stg c cc0_stg5_0 (all (inp m)))

theorem before_x (c : Dev nD) (d) : (dats m ρ 0 c).before (0 : Fin 6) t0_0 d = (inp m).x c := by
  unfold Dat.before; rw [if_pos (fetch0_0 t0_0)]; exact blk_x (F := F) _
theorem before_wq (c : Dev nD) (d) : (dats m ρ 0 c).before (1 : Fin 6) t0_0 d = (inp m).wq c := by
  unfold Dat.before; rw [if_pos (fetch0_1 t0_0)]; exact blk_wq (F := F) _
theorem before_wo (c : Dev nD) (d) : (dats m ρ 0 c).before (2 : Fin 6) t0_0 d = (inp m).wo c := by
  unfold Dat.before; rw [if_pos (fetch0_2 t0_0)]; exact blk_wo (F := F) _
theorem before_wk (c : Dev nD) (d) : (dats m ρ 0 c).before (3 : Fin 6) t0_0 d = (inp m).wk c := by
  unfold Dat.before; rw [if_pos (fetch0_3 t0_0)]; exact blk_wk (F := F) _
theorem before_wv (c : Dev nD) (d) : (dats m ρ 0 c).before (4 : Fin 6) t0_0 d = (inp m).wv c := by
  unfold Dat.before; rw [if_pos (fetch0_4 t0_0)]; exact blk_wv (F := F) _

theorem stg_same {c : Dev nD} {b : Ref sig .tc} {X Y : Buf (Elt F) ((c : Thread nD τ).loc b)} (h : X = Y) : stg c b X ⊢ (whole₁ (F := F) c b Y : sProp 𝕄) := by
  subst h; unfold stg; iintro ⟨%f, %hf, H⟩; subst hf; iexact H
theorem stg_intro {c : Dev nD} {b : Ref sig .tc} {X : Buf (Elt F) ((c : Thread nD τ).loc b)} : whole₁ (F := F) c b X ⊢ (stg c b X : sProp 𝕄) := by
  unfold stg; iintro H; iexists X; isplitr; · (ipureintro; rfl)
  iexact H

theorem ins_begin (c : Dev nD) : iprop((∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d))) ⊢ (inBufs (inp m) c : sProp 𝕄) := by
  unfold inBufs
  iintro ⟨⟨%d0, H0⟩, ⟨%d1, H1⟩, ⟨%d2, H2⟩, ⟨%d3, H3⟩, %d4, H4⟩
  isplitl [H0]; · iapply (stg_same (before_x m ρ c d0)); iexact H0
  isplitl [H1]; · iapply (stg_same (before_wq m ρ c d1)); iexact H1
  isplitl [H2]; · iapply (stg_same (before_wo m ρ c d2)); iexact H2
  isplitl [H3]; · iapply (stg_same (before_wk m ρ c d3)); iexact H3
  iapply (stg_same (before_wv m ρ c d4)); iexact H4

theorem owes_begin (c : Dev nD) : (dats m ρ 0 c).owesAt () t0_0.castSucc ⊢ (owesE (F := F) c (O₀ c) : sProp 𝕄) := by
  unfold Dat.owesAt Pipeline.owesWithin owesE
  rw [show (dats m ρ 0 c).owed t0_0.castSucc = O₀ c from rfl]
  iintro ⟨%W, -, H⟩; iexists W; iexact H
theorem owes_end (c : Dev nD) : owesE (F := F) c 0 ⊢ ((dats m ρ 0 c).owesAt () t0_0.succ : sProp 𝕄) := by
  unfold Dat.owesAt Pipeline.owesWithin owesE
  rw [show (dats m ρ 0 c).owed t0_0.succ = 0 from rfl]
  iintro ⟨%W, H⟩; iexists W
  isplitr; · (ipureintro; exact fun _ _ => Or.inl trivial)
  iexact H

/-- What the body ends with, closed again. -/
theorem body_close (K : Dev nD × CK → ℕ) (c : Dev nD) : iprop(ctx (inp m) K ∗ over (inp m) c) ⊢ (|={Set.univ}=> bodyPost m ρ c : sProp 𝕄) := by
  refine BIBase.Entails.trans (body_end (inp m) K c) (BI.fupd_mono ?_)
  unfold bodyPost Φ₁ inBufs
  iintro ⟨HΦ, HO, ⟨H0, H1, H2, H3, H4⟩, H5⟩
  isplitl [HΦ]; · iexact HΦ
  isplitl [HO]; · iapply (owes_end m ρ c); iexact HO
  isplitl [H0]; · iapply stg_intro; iexact H0
  isplitl [H1]; · iapply stg_intro; iexact H1
  isplitl [H2]; · iapply stg_intro; iexact H2
  isplitl [H3]; · iapply stg_intro; iexact H3
  isplitl [H4]; · iapply stg_intro; iexact H4
  iapply stg_intro; iexact H5

/-- The body's precondition, opened. -/
theorem body_open (c : Dev nD) : bodyPre m ρ c ⊢ iprop(∃ K, ctx (inp m) K ∗ sigSt (F := F) c 0 ∗ cmpSt (inp m) c 0 ∗ begin0 (F := F) c) := by
  unfold bodyPre Φ₀ start G' records
  iintro ⟨⟨⟨⟨%K, HR, Hp, Ht⟩, Hcr, Hlev⟩, Hbufs⟩, HO, H0, H1, H2, H3, H4, ⟨%d5, H5⟩⟩
  iexists K
  isplitl [HR Hlev]
  · unfold ctx
    isplitl [HR]; · iexact HR
    iexact Hlev
  iapply (body_begin (inp m) c)
  isplitl [Hp]; · iexact Hp
  isplitl [Ht]; · iexact Ht
  isplitl [Hcr]; · iexact Hcr
  isplitl [Hbufs]; · iexact Hbufs
  isplitl [HO]; · iapply (owes_begin m ρ c); iexact HO
  isplitl [H0 H1 H2 H3 H4]
  · iapply (ins_begin m ρ c)
    isplitl [H0]; · iexact H0
    isplitl [H1]; · iexact H1
    isplitl [H2]; · iexact H2
    isplitl [H3] <;> iassumption
  unfold outFree; iexists _; iapply (stg_same rfl); iexact H5

set_option maxRecDepth 100000 in
/-- The body meets its obligation on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8)
      (fun _ => bodyPost m ρ c)
  refine BIBase.Entails.trans (body_open m ρ c) ?_
  iintro ⟨%K, H⟩
  iapply (body_run (inp m) K c (Q := fun _ => bodyPost m ρ c) (body_close m ρ K c))
  iexact H

/-! ## The launch's side conditions -/

theorem ownSemFacts : Pipeline.OwnSemFacts cfg0.spec osem where
  isScoped := by decide +kernel
  inj := fun x y h => dsem_injective (SemLoc.dma.inj h)
  disj := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ anyBufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ anyBufs
  iintro ⟨Hr, HzB, Hz⟩
  isplitl [HzB]; · iexact HzB
  isplitl [Hz]; · iexact Hz
  iexact Hr

set_option maxRecDepth 100000 in
/-- A wait on a staging copy is allowed while the device owes only what it owes at the start, or nothing. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait c (.dma q) 0 0 ?_
    show (if q.val < 6 then 0 else _) < 1
    rw [if_pos hq]; exact Nat.one_pos
  · exact mayWait_zero c (.dma q)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every fair execution of the sixteen devices' programs ends, with each window's array
    at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_mesh (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The activations keep their contents, -/
theorem final_x (c : Dev nD) : finalA m ρ c (0 : Fin 6) = m ((c : Thread nD τ).loc main_arg0) := (dats (F := F) m ρ 0 c).arrAt_in (0 : Fin 6) rfl _
/-- and so do the query weights, -/
theorem final_wq (c : Dev nD) : finalA m ρ c (1 : Fin 6) = m ((c : Thread nD τ).loc main_arg1) := (dats (F := F) m ρ 0 c).arrAt_in (1 : Fin 6) rfl _
/-- the output weights, -/
theorem final_wo (c : Dev nD) : finalA m ρ c (2 : Fin 6) = m ((c : Thread nD τ).loc main_arg4) := (dats (F := F) m ρ 0 c).arrAt_in (2 : Fin 6) rfl _
/-- the key weights, -/
theorem final_wk (c : Dev nD) : finalA m ρ c (3 : Fin 6) = m ((c : Thread nD τ).loc main_arg2) := (dats (F := F) m ρ 0 c).arrAt_in (3 : Fin 6) rfl _
/-- and the value weights; -/
theorem final_wv (c : Dev nD) : finalA m ρ c (4 : Fin 6) = m ((c : Thread nD τ).loc main_arg3) := (dats (F := F) m ρ 0 c).arrAt_in (4 : Fin 6) rfl _
/-- the result holds the gathered rows. -/
theorem final_out (c : Dev nD) : finalA m ρ c (5 : Fin 6) = all (inp m) := by
  have h : ((cfg0.win (5 : Fin 6)).blk (0 : Fin 1)).view.read (Elt F) (finalA m ρ c (5 : Fin 6)) = all (inp m) := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from flush0_5 _, if_pos rfl]
    exact View.read_write_univ _ _
  exact (blk_out (F := F) _).symm.trans h

end Cert.MeshProof
end
-- ==== Proof.Frames.lean ====
/-
The frames of the mesh's program, at exact and at bit-exact floats: the arguments stay, every counter ends at zero.
-/
module

public import proofs.«01_k».proof.Defs
public import proofs.«01_k».proof.Proof.Launch
public import proofs.«01_k».proof.Proof.Gen.Kernel

@[expose] public section

noncomputable section

namespace Cert.MeshProof

open Idealize.ShloMosaic Idealize.ShloMosaic.TcCoe Idealize.SL.Sem

/-- The frame at exact floats: the run of the mesh, read at the five arguments. -/
theorem frame_ideal : Cert.quiescent_KernelIdeal := fun m ρ _ =>
  (θ_run Cert.KernelIdeal.defs _ _).mono
    (fun _ h => ⟨fun c => ⟨(h.1 c (0 : Fin 6)).trans (final_x m ρ c), (h.1 c (1 : Fin 6)).trans (final_wq m ρ c),
      (h.1 c (3 : Fin 6)).trans (final_wk m ρ c), (h.1 c (4 : Fin 6)).trans (final_wv m ρ c), (h.1 c (2 : Fin 6)).trans (final_wo m ρ c)⟩, h.2⟩)
    (run_main (F := Ideal) m ρ)

/-! ## The two programs are one

Their texts are the same; label by label their body tables agree. -/

section Same
variable {F : FTy → Type} [FloatOps F]

set_option maxRecDepth 100000 in
/-- The two tables hold the same bodies. -/
theorem bodies_eq : Cert.Kernel.defs₀ (F := F) = Cert.KernelIdeal.defs₀ (F := F) := by
  refine funext fun p => ?_
  cases p with
  | tc =>
    refine funext fun l => funext fun a => ?_
    match l, a with
    | ⟨0, _⟩, (t, s) => rfl
    | ⟨_ + 1, h⟩, _ => exact absurd h (Nat.not_lt.2 (Nat.le_add_left _ _))
  | scScalar _ => rfl
  | scVector _ _ => rfl

set_option maxRecDepth 100000 in
/-- And so do the programs' whole tables. -/
theorem tables_eq : Cert.Kernel.defs (F := F) = Cert.KernelIdeal.defs (F := F) :=
  congrArg (Idealize.ShloMosaic.Pipeline.defs Cert.KernelIdeal.pcfgs) bodies_eq

end Same

set_option maxRecDepth 100000 in
/-- The frame at words: the same run, at words. -/
theorem frame_kernel : Cert.quiescent_Kernel := fun m ρ _ => by
  rw [tables_eq]
  exact (θ_run Cert.KernelIdeal.defs _ _).mono
    (fun _ h => ⟨fun c => ⟨(h.1 c (0 : Fin 6)).trans (final_x m ρ c), (h.1 c (1 : Fin 6)).trans (final_wq m ρ c),
      (h.1 c (3 : Fin 6)).trans (final_wk m ρ c), (h.1 c (4 : Fin 6)).trans (final_wv m ρ c), (h.1 c (2 : Fin 6)).trans (final_wo m ρ c)⟩, h.2⟩)
    (run_main (F := Bits) m ρ)

end Cert.MeshProof
end
-- ==== Proof.RefFrame.lean ====
/-
The frame of the reference: its one device's run ends, its arguments stay, and it has no semaphore.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.MeshProof

open Idealize.ShloMosaic Idealize.ShloMosaic.TcCoe Idealize.SL.Sem

/-- The reference has no semaphore, and its run leaves the arguments. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.MeshProof

end
-- ==== Proof.Softmax.lean ====
/-
Softmax attention of one head over the extended reals, written with plain sums: the form in which the kernel's heads
and the reference's are compared.
-/
module

public import Idealize.ShloMosaic.PureOps.Ideal.Laws

@[expose] public section

noncomputable section

namespace Cert.MeshProof

open Idealize.ShloMosaic

/-- The word that starts a maximum is minus infinity. -/
theorem negInf_eq : Ideal.ofBits .f32 0xFF800000#32 = ⊥ := by simp [Ideal.ofBits, Ideal.ieee]

variable {D : Type} [Fintype D] (q k v : Fin 256 → D → EReal)

/-- The scale of the scores. -/
abbrev scale : EReal := Ideal.ofBits .f32 0x3E000000#32

/-- The scaled score of query `i` against key `j`. -/
def score (i j : Fin 256) : EReal := (∑ d, q i d * k j d) * scale

/-- The largest score of query `i`. -/
def top (i : Fin 256) : EReal := Finset.univ.fold max ⊥ fun j => score q k i j

/-- The weight of key `j` for query `i`, not yet divided by the sum of the weights. -/
def weight (i j : Fin 256) : EReal := Ideal.exp (score q k i j - top q k i)

/-- The attention of query `i` at coordinate `d` of the values. -/
def attend (i : Fin 256) (d : D) : EReal := Ideal.div (∑ j, weight q k i j * v j d) (∑ j, weight q k i j)

end Cert.MeshProof

end
-- ==== Proof.KernelValue.lean ====
/-
What a device computes, read element by element over the extended reals: projections as sums over the model's width,
heads as softmax attention, partial products as sums over the device's columns.
-/
module

public import proofs.«01_k».proof.Proof.Contents
public import proofs.«01_k».proof.Proof.Softmax
public import Idealize.ShloMosaic.Lib.Pointwise
public import Idealize.ShloMosaic.Lib.IdealHost

@[expose] public section

noncomputable section

namespace Cert.MeshProof

open Cert.KernelIdeal Cert.KernelIdeal.Gen
open Idealize.ShloMosaic

/-- A head is softmax attention of its three blocks. -/
theorem headBlk_apply (q k v : FVec Ideal S256x64 .f32) (i : Fin 256) (d : Fin 64) :
    headBlk q k v (ix2 i d) = attend (fun i d => q (ix2 i d)) (fun i d => k (ix2 i d)) (fun i d => v (ix2 i d)) i d := by
  unfold attend weight top score
  rw [← negInf_eq]
  pointwise [headBlk]

/-- A row of a projection: row `r` is query `r % 256` of batch entry `r / 256`. -/
theorem pay2_apply (x : Vec Ideal S2x256x768 .f32) (w : Vec Ideal S768x512 .f32) (r : Fin 512) (l : Fin 512) :
    k0_pay2 x w (ix2 r l) = ∑ k : Fin 768, x (ix3 ⟨r.val / 256, by omega⟩ ⟨r.val % 256, by omega⟩ k) * w (ix2 k l) := by
  pointwise [k0_pay2, k0_pay1]

/-- A device's columns of a projection, cut to head `j` and batch entry `b`. -/
theorem headCols_apply (x : Vec Ideal S2x256x768 .f32) (w : Vec Ideal S768x512 .f32) (b : Fin 2) (j : Fin 8) (i : Fin 256) (d : Fin 64) :
    headCols (k0_pay2 x w) b j (ix2 i d)
      = ∑ k : Fin 768, x (ix3 b i k) * w (ix2 k ⟨64 * j.val + d.val, by omega⟩) := by
  have h : headCols (k0_pay2 x w) b j (ix2 i d)
      = k0_pay2 x w (ix2 ⟨256 * b.val + i.val, by omega⟩ ⟨64 * j.val + d.val, by omega⟩) := by
    unfold headCols extractStridedSlice
    refine congrArg _ (funext fun a => Fin.ext ?_)
    match a with
    | ⟨0, _⟩ => rfl
    | ⟨1, _⟩ => rfl
  rw [h, pay2_apply]
  have hb : (⟨(256 * b.val + i.val) / 256, by omega⟩ : Fin 2) = b := Fin.ext (by show (256 * b.val + i.val) / 256 = b.val; omega)
  have hi : (⟨(256 * b.val + i.val) % 256, by omega⟩ : Fin 256) = i := Fin.ext (by show (256 * b.val + i.val) % 256 = i.val; omega)
  simp only [hb, hi]

/-- A partial product sums over the device's columns of the attention rows. -/
theorem pay35_apply (a : Vec Ideal S512x512 .f32) (w : Vec Ideal S512x768 .f32) (s : Fin 16) (i : Fin 32) (j : Fin 768) :
    k0_pay35 a w (ix3 s i j) = ∑ k : Fin 512, a (ix2 ⟨s.val * 32 + i.val, by omega⟩ k) * w (ix2 k j) := by
  pointwise [k0_pay35]

/-! ## On device `c` -/

variable (I : Inp Ideal)

/-- A projection of batch entry `b` with the device's columns `w` for its head `j`. -/
def headProj (w : Dev nD → Vec Ideal S768x512 .f32) (c : Dev nD) (b : Fin 2) (j : Fin 8) (i : Fin 256) (d : Fin 64) : EReal :=
  ∑ k : Fin 768, I.x c (ix3 b i k) * w c (ix2 k ⟨64 * j.val + d.val, by omega⟩)

/-- A head of device `c` is softmax attention of its three projections. -/
theorem headAt_apply (c : Dev nD) (b : Fin 2) (j : Fin 8) (i : Fin 256) (d : Fin 64) :
    headAt I c b j (ix2 i d)
      = attend (headProj I I.wq c b j) (headProj I I.wk c b j) (headProj I I.wv c b j) i d := by
  unfold headAt
  rw [headBlk_apply]
  congr 1 <;> funext i d
  · exact headCols_apply _ _ _ _ _ _
  · exact headCols_apply _ _ _ _ _ _
  · exact headCols_apply _ _ _ _ _ _

/-- The kernel's tree of additions is the sum over the devices. -/
theorem tree_eq (g : Dev nD → EReal) : tree (F := Ideal) g = ∑ p : Fin 16, g p := by
  show (((g 0 + g 1) + (g 2 + g 3)) + ((g 4 + g 5) + (g 6 + g 7)))
    + (((g 8 + g 9) + (g 10 + g 11)) + ((g 12 + g 13) + (g 14 + g 15))) = _
  simp only [Fin.sum_univ_succ, Fin.sum_univ_zero, add_zero, add_assoc]
  rfl

/-- An element of the gathered result: over the devices, and over each one's columns, attention times output weight. -/
theorem all_apply (s : Fin 16) (i : Fin 32) (j : Fin 768) :
    all I (ix3 s i j) = ∑ p : Fin 16, ∑ k : Fin 512,
      headAt I p ⟨(s.val * 32 + i.val) / 256, by omega⟩ ⟨k.val / 64, by omega⟩
        (ix2 ⟨(s.val * 32 + i.val) % 256, by omega⟩ ⟨k.val % 64, by omega⟩) * I.wo p (ix2 k j) := by
  show tree (fun p => part I p (ix3 s i j)) = _
  rw [tree_eq]
  exact Finset.sum_congr rfl fun p _ => pay35_apply _ _ s i j

end Cert.MeshProof

end
-- ==== Proof.RefValue.lean ====
/-
What the reference computes, read element by element over the extended reals: its one step of the running maximum and
the running sums starts from minus infinity and from zero, so it is softmax attention of every head, followed by the
product with the output weights.
-/
module

public import proofs.«01_k».proof.Proof.Softmax
public import proofs.«01_k».proof.Proof.Gen.ReferenceIdeal
public import proofs.«01_k».proof.Proof.Gen.ReferenceIdeal.Run
public import Idealize.ShloMosaic.Lib.Pointwise
public import Idealize.ShloMosaic.Lib.IdealHost

@[expose] public section

noncomputable section

namespace Cert.MeshProof.Ref

open Cert.ReferenceIdeal Cert.ReferenceIdeal.Gen
open Idealize.ShloMosaic Idealize.ShloMosaic.TcCoe

/-! ## The reference in steps -/

section Steps
variable {F : FTy → Type} [FloatOps F]

/-- A projection, its columns in 128 heads of 64. -/
def proj (x : FVec F S2x256x768 .f32) (w : FVec F S768x8192 .f32) : FVec F S2x256x128x64 .f32 :=
  shapeCast _ (Host.dotGeneral dot_S2x256x768_S768x8192_S2x256x8192_2_0_01_1_n_n none x w) shapeCasts_S2x256x8192_S2x256x128x64

/-- The scaled scores. -/
def scores (q k : FVec F S2x256x128x64 .f32) : FVec F S2x128x256x256 .f32 :=
  mulf (Host.dotGeneral dot_S2x256x128x64_S2x256x128x64_S2x128x256x256_3_3_1_1_02_02 none q k)
    (broadcastInDim S2x128x256x256 ![] bcast_S_S2x128x256x256 (constant S_ .f32 0x3E000000#32))

/-- The maximum before the step: minus infinity. -/
def before : FVec F S2x128x256x1 .f32 := broadcastInDim S2x128x256x1 ![] bcast_S_S2x128x256x1 (constant S_ .f32 0xFF800000#32)

/-- The largest scores of the rows. -/
def rowMax (s : FVec F S2x128x256x256 .f32) : FVec F S2x128x256 .f32 :=
  Host.reduce FloatOps.maximumf s (constant S_ .f32 0xFF800000#32) reducesTo_S2x128x256x256_S2x128x256_d3 h_S_

/-- The maximum after the step. -/
def tops (s : FVec F S2x128x256x256 .f32) : FVec F S2x128x256x1 .f32 :=
  maximumf before (broadcastInDim S2x128x256x1 ![0, 1, 2] bcast_S2x128x256_S2x128x256x1_0_1_2 (rowMax s))

/-- The weights, not yet divided. -/
def weights (s : FVec F S2x128x256x256 .f32) : FVec F S2x128x256x256 .f32 :=
  Host.exp (subf s (broadcastInDim S2x128x256x256 ![0, 1, 2, 3] bcast_S2x128x256x1_S2x128x256x256_0_1_2_3 (tops s)))

/-- The factor that rescales what the steps before have summed. -/
def rescale (s : FVec F S2x128x256x256 .f32) : FVec F S2x128x256x1 .f32 := Host.exp (subf before (tops s))

/-- The sums of the weights. -/
def sums (s : FVec F S2x128x256x256 .f32) : FVec F S2x128x256x1 .f32 :=
  addf (mulf (broadcastInDim S2x128x256x1 ![] bcast_S_S2x128x256x1 (constant S_ .f32 0x00000000#32)) (rescale s))
    (broadcastInDim S2x128x256x1 ![0, 1, 2] bcast_S2x128x256_S2x128x256x1_0_1_2
      (Host.reduceAdd (weights s) (constant S_ .f32 0x00000000#32) reducesTo_S2x128x256x256_S2x128x256_d3 h_S_))

/-- The weighted sums of the values. -/
def outs (s : FVec F S2x128x256x256 .f32) (v : FVec F S2x256x128x64 .f32) : FVec F S2x256x128x64 .f32 :=
  addf (mulf (broadcastInDim S2x256x128x64 ![] bcast_S_S2x256x128x64 (constant S_ .f32 0x00000000#32))
      (broadcastInDim S2x256x128x64 ![0, 1, 2, 3] bcast_S2x256x128x1_S2x256x128x64_0_1_2_3
        (transpose S2x256x128x1 [0, 2, 1, 3] (rescale s) transposes_S2x128x256x1_S2x256x128x1_0_2_1_3)))
    (transpose S2x256x128x64 [0, 3, 1, 2]
      (Host.dotGeneral dot_S2x256x128x64_S2x128x256x256_S2x128x64x256_1_3_3_2_02_01 none v (weights s))
      transposes_S2x128x64x256_S2x256x128x64_0_3_1_2)

/-- The attention. -/
def heads (s : FVec F S2x128x256x256 .f32) (v : FVec F S2x256x128x64 .f32) : FVec F S2x256x128x64 .f32 :=
  Host.divf (outs s v) (broadcastInDim S2x256x128x64 ![0, 1, 2, 3] bcast_S2x256x128x1_S2x256x128x64_0_1_2_3
    (transpose S2x256x128x1 [0, 2, 1, 3] (sums s) transposes_S2x128x256x1_S2x256x128x1_0_2_1_3))

/-- The product with the output weights, its 512 rows in sixteen groups. -/
def output (a : FVec F S2x256x128x64 .f32) (wo : FVec F S8192x768 .f32) : FVec F S16x32x768 .f32 :=
  shapeCast _ (Host.dotGeneral dot_S2x256x8192_S8192x768_S2x256x768_2_0_01_1_n_n none
    (shapeCast _ a shapeCasts_S2x256x128x64_S2x256x8192) wo) shapeCasts_S2x256x768_S16x32x768

set_option maxRecDepth 8192 in
/-- The reference's result is these steps of its arguments. -/
theorem result_eq (m : (ℓ : Loc nD τ sig) → Buf (Elt F) ℓ) (c : Dev nD) :
    Value.res_main_v35 m c = output (heads
      (scores (proj (m ((c : Thread nD τ).loc main_arg0)) (m ((c : Thread nD τ).loc main_arg1)))
        (proj (m ((c : Thread nD τ).loc main_arg0)) (m ((c : Thread nD τ).loc main_arg2))))
      (proj (m ((c : Thread nD τ).loc main_arg0)) (m ((c : Thread nD τ).loc main_arg3))))
      (m ((c : Thread nD τ).loc main_arg4)) := rfl

end Steps

/-! ## Its elements -/

/-- A maximum over the last of four axes, at any extents. -/
theorem lastMax {n0 n1 n2 n3 : ℕ} {u : Shape} (h : (⟨4, ![n0, n1, n2, n3]⟩ : Shape).ReducesTo [3] ⟨3, ![n0, n1, n2]⟩)
    (hu : 0 < u.numel) (x : FVec Ideal ⟨4, ![n0, n1, n2, n3]⟩ .f32) (init : FVec Ideal u .f32) (a : Fin n0) (b : Fin n1) (c : Fin n2) :
    Host.reduce FloatOps.maximumf x init h hu (ix3 a b c)
      = Finset.univ.fold max (init (Shape.Idx.first hu)) fun l : Fin n3 => x (ix4 a b c l) := by
  rw [Host.reduce_eq_fold, h.fold_fiber_r4_a3]
  rfl

/-- Coordinate `d` of head `h` of a projection. -/
theorem proj_apply (x : FVec Ideal S2x256x768 .f32) (w : FVec Ideal S768x8192 .f32) (b : Fin 2) (i : Fin 256) (h : Fin 128) (d : Fin 64) :
    proj x w (ix4 b i h d) = ∑ k : Fin 768, x (ix3 b i k) * w (ix2 k ⟨h.val * 64 + d.val, by omega⟩) := by
  pointwise [proj]

/-- A score is the scaled product of a query and a key of one head. -/
theorem scores_apply (q k : FVec Ideal S2x256x128x64 .f32) (b : Fin 2) (h : Fin 128) (i j : Fin 256) :
    scores q k (ix4 b h i j) = score (fun i d => q (ix4 b i h d)) (fun i d => k (ix4 b i h d)) i j := by
  unfold score
  pointwise [scores]

variable (s : FVec Ideal S2x128x256x256 .f32)

/-- The largest score of a query. -/
theorem rowMax_apply (b : Fin 2) (h : Fin 128) (i : Fin 256) :
    rowMax s (ix3 b h i) = Finset.univ.fold max ⊥ fun j : Fin 256 => s (ix4 b h i j) := by
  unfold rowMax
  rw [lastMax, ValueIdx.constant_apply, negInf_eq]

/-- The maximum of minus infinity and anything is that thing. -/
theorem before_max (r : FVec Ideal S2x128x256 .f32) (b : Fin 2) (h : Fin 128) (i : Fin 256) :
    maximumf before (broadcastInDim S2x128x256x1 ![0, 1, 2] bcast_S2x128x256_S2x128x256x1_0_1_2 r) (ix4 b h i 0) = r (ix3 b h i) := by
  pointwise [before]
  rw [negInf_eq, max_eq_right bot_le]

/-- The maximum after the step is the largest score. -/
theorem tops_apply (b : Fin 2) (h : Fin 128) (i : Fin 256) : tops s (ix4 b h i 0) = rowMax s (ix3 b h i) := by
  unfold tops
  rw [before_max]

/-- A weight is the exponential of a score less the maximum. -/
theorem weights_apply (b : Fin 2) (h : Fin 128) (i j : Fin 256) :
    weights s (ix4 b h i j) = Ideal.exp (s (ix4 b h i j) - tops s (ix4 b h i 0)) := by
  pointwise [weights]

/-- Zero times anything is zero: only the step's own weights are summed. -/
theorem sums_apply (b : Fin 2) (h : Fin 128) (i : Fin 256) :
    sums s (ix4 b h i 0) = ∑ j : Fin 256, weights s (ix4 b h i j) := by
  pointwise [sums]
  rw [zero_mul, zero_add]

/-- So are the values, with these weights. -/
theorem outs_apply (v : FVec Ideal S2x256x128x64 .f32) (b : Fin 2) (i : Fin 256) (h : Fin 128) (d : Fin 64) :
    outs s v (ix4 b i h d) = ∑ j : Fin 256, weights s (ix4 b h i j) * v (ix4 b j h d) := by
  pointwise [outs]
  rw [zero_mul, zero_add]
  exact Finset.sum_congr rfl fun _ _ => mul_comm _ _

/-- Attention is the weighted sum divided by the sum of the weights. -/
theorem heads_apply (v : FVec Ideal S2x256x128x64 .f32) (b : Fin 2) (i : Fin 256) (h : Fin 128) (d : Fin 64) :
    heads s v (ix4 b i h d) = Ideal.div (outs s v (ix4 b i h d)) (sums s (ix4 b h i 0)) := by
  pointwise [heads]

/-- The heads of scaled scores are softmax attention. -/
theorem heads_scores (q k v : FVec Ideal S2x256x128x64 .f32) (b : Fin 2) (i : Fin 256) (h : Fin 128) (d : Fin 64) :
    heads (scores q k) v (ix4 b i h d)
      = attend (fun i d => q (ix4 b i h d)) (fun i d => k (ix4 b i h d)) (fun i d => v (ix4 b i h d)) i d := by
  have hw : ∀ j : Fin 256, weights (scores q k) (ix4 b h i j)
      = weight (fun i d => q (ix4 b i h d)) (fun i d => k (ix4 b i h d)) i j := fun j => by
    rw [weights_apply, tops_apply, rowMax_apply]
    simp only [scores_apply]
    rfl
  rw [heads_apply, outs_apply, sums_apply]
  simp only [hw]
  rfl

/-- Row `i` of group `s` of the result is query `(32 s + i) % 256` of batch entry `(32 s + i) / 256`. -/
theorem output_apply (a : FVec Ideal S2x256x128x64 .f32) (wo : FVec Ideal S8192x768 .f32) (s : Fin 16) (i : Fin 32) (j : Fin 768) :
    output a wo (ix3 s i j) = ∑ n : Fin 8192,
      a (ix4 ⟨(s.val * 32 + i.val) / 256, by omega⟩ ⟨(s.val * 32 + i.val) % 256, by omega⟩ ⟨n.val / 64, by omega⟩ ⟨n.val % 64, by omega⟩)
        * wo (ix2 n j) := by
  have hb : (⟨(s.val * 32 + i.val) / 256, by omega⟩ : Fin 2) = ⟨s.val / 8, by omega⟩ := Fin.ext (by show (s.val * 32 + i.val) / 256 = s.val / 8; omega)
  have hi : (⟨(s.val * 32 + i.val) % 256, by omega⟩ : Fin 256) = ⟨s.val % 8 * 32 + i.val, by omega⟩ := Fin.ext (by show (s.val * 32 + i.val) % 256 = s.val % 8 * 32 + i.val; omega)
  rw [hb, hi]
  pointwise [output]

end Cert.MeshProof.Ref

end
-- ==== Proof.Value.lean ====
/-
The kernel's value is the reference's: a device's eight heads are the reference's heads `8 c + j`, a sum over the
8192 columns is one over the devices and their 512 columns, and the runs leave these values.
-/
module

public import proofs.«01_k».proof.Defs
public import proofs.«01_k».proof.Proof.Launch
public import proofs.«01_k».proof.Proof.KernelValue
public import proofs.«01_k».proof.Proof.RefValue
public import Idealize.ShloMosaic.Lib.LayoutAt

@[expose] public section

noncomputable section

namespace Cert.MeshProof

open Idealize.ShloMosaic Idealize.ShloMosaic.TcCoe Idealize.SL.Sem

/-! ## Sums over all columns -/

/-- Column `k` of device `p` among all columns. -/
def col (p : Fin 16) (k : Fin 512) : Fin 8192 := ⟨512 * p.val + k.val, by omega⟩

/-- A column is a device and one of its columns. -/
def cols : Fin 16 × Fin 512 ≃ Fin 8192 where
  toFun a := col a.1 a.2
  invFun n := (⟨n.val / 512, by omega⟩, ⟨n.val % 512, by omega⟩)
  left_inv a := by
    refine Prod.ext (Fin.ext ?_) (Fin.ext ?_)
    · show (512 * a.1.val + a.2.val) / 512 = a.1.val; omega
    · show (512 * a.1.val + a.2.val) % 512 = a.2.val; omega
  right_inv n := Fin.ext (by show 512 * (n.val / 512) + n.val % 512 = n.val; omega)

/-- A sum over all columns, device by device. -/
theorem sum_cols (f : Fin 8192 → EReal) : ∑ n, f n = ∑ p : Fin 16, ∑ k : Fin 512, f (col p k) := by
  rw [← Equiv.sum_comp cols f, Fintype.sum_prod_type]
  rfl

/-! ## The blocks of the weights -/

section Blocks
variable {α : Type}

/-- A device's columns of a weight, -/
theorem block_cols (c : Fin 16) (w : (⟨2, ![768, 8192]⟩ : Shape).Idx → α) (k : Fin 768) (l : Fin 512) :
    Layout.block ⟨2, ![768, 512]⟩ ⟨2, ![768, 8192]⟩ 1 16 c w (by decide) (ix2 k l) = w (ix2 k (col c l)) := by
  rw [Layout.block_apply]
  unfold col
  shard_ext

/-- and its rows. -/
theorem block_rows (c : Fin 16) (w : (⟨2, ![8192, 768]⟩ : Shape).Idx → α) (k : Fin 512) (l : Fin 768) :
    Layout.block ⟨2, ![512, 768]⟩ ⟨2, ![8192, 768]⟩ 0 16 c w (by decide) (ix2 k l) = w (ix2 (col c k) l) := by
  rw [Layout.block_apply]
  unfold col
  shard_ext

end Blocks

/-! ## The values -/

/-- The whole arrays, and how the devices' inputs are their blocks. -/
structure Shares (I : Inp Ideal) where
  x : FVec Ideal ⟨3, ![2, 256, 768]⟩ .f32
  wq : FVec Ideal ⟨2, ![768, 8192]⟩ .f32
  wk : FVec Ideal ⟨2, ![768, 8192]⟩ .f32
  wv : FVec Ideal ⟨2, ![768, 8192]⟩ .f32
  wo : FVec Ideal ⟨2, ![8192, 768]⟩ .f32
  hx : ∀ c, I.x c = x
  hq : ∀ c k l, I.wq c (ix2 k l) = wq (ix2 k (col c l))
  hk : ∀ c k l, I.wk c (ix2 k l) = wk (ix2 k (col c l))
  hv : ∀ c k l, I.wv c (ix2 k l) = wv (ix2 k (col c l))
  ho : ∀ c k l, I.wo c (ix2 k l) = wo (ix2 (col c k) l)

variable {I : Inp Ideal} (S : Shares I)

/-- Head `j` of device `c` among all heads. -/
def head (c : Fin 16) (j : Fin 8) : Fin 128 := ⟨8 * c.val + j.val, by omega⟩

/-- A device's projection for a head is the reference's for that head among all. -/
theorem headProj_eq (w : Fin 16 → Vec Ideal Cert.KernelIdeal.S768x512 .f32) (W : FVec Ideal ⟨2, ![768, 8192]⟩ .f32)
    (h : ∀ c k l, w c (ix2 k l) = W (ix2 k (col c l))) (c : Fin 16) (b : Fin 2) (j : Fin 8) :
    headProj I w c b j = fun i d => Ref.proj S.x W (ix4 b i (head c j) d) := by
  funext i d
  rw [Ref.proj_apply]
  unfold headProj
  refine Finset.sum_congr rfl fun k _ => ?_
  rw [S.hx, h]
  have e : col c ⟨64 * j.val + d.val, by omega⟩ = (⟨(head c j).val * 64 + d.val, by have := (head c j).isLt; omega⟩ : Fin 8192) :=
    Fin.ext (by show 512 * c.val + (64 * j.val + d.val) = (8 * c.val + j.val) * 64 + d.val; omega)
  rw [e]

/-- The gathered result is the reference's. -/
theorem all_eq : all I = Ref.output (Ref.heads (Ref.scores (Ref.proj S.x S.wq) (Ref.proj S.x S.wk)) (Ref.proj S.x S.wv)) S.wo := by
  funext y
  obtain ⟨s, i, j, rfl⟩ : ∃ (s : Fin 16) (i : Fin 32) (j : Fin 768), y = ix3 s i j :=
    ⟨y 0, y 1, y 2, by funext a; match a with | ⟨0, _⟩ => rfl | ⟨1, _⟩ => rfl | ⟨2, _⟩ => rfl⟩
  rw [all_apply, Ref.output_apply, sum_cols]
  refine Finset.sum_congr rfl fun p _ => Finset.sum_congr rfl fun k _ => ?_
  rw [S.ho, headAt_apply, headProj_eq S I.wq S.wq S.hq, headProj_eq S I.wk S.wk S.hk, headProj_eq S I.wv S.wv S.hv,
    ← Ref.heads_scores]
  have eh : (⟨(col p k).val / 64, by have := (col p k).isLt; omega⟩ : Fin 128) = head p ⟨k.val / 64, by omega⟩ :=
    Fin.ext (by show (512 * p.val + k.val) / 64 = 8 * p.val + k.val / 64; omega)
  have ed : (⟨(col p k).val % 64, by omega⟩ : Fin 64) = ⟨k.val % 64, by omega⟩ :=
    Fin.ext (by show (512 * p.val + k.val) % 64 = k.val % 64; omega)
  rw [eh, ed]

/-! ## The runs -/

/-- With the arguments' blocks on the devices, every device's result is the reference's. -/
theorem algebraic : Cert.algebraic_KernelIdeal_ReferenceIdeal := by
  intro m ρ m' ρ' _ hagree
  let S : Shares (inp (F := Ideal) m) :=
    { x := m' (((0 : Dev Cert.ReferenceIdeal.nD).tc : Thread _ Cert.ReferenceIdeal.τ).loc Cert.ReferenceIdeal.main_arg0)
      wq := m' (((0 : Dev Cert.ReferenceIdeal.nD).tc : Thread _ Cert.ReferenceIdeal.τ).loc Cert.ReferenceIdeal.main_arg1)
      wk := m' (((0 : Dev Cert.ReferenceIdeal.nD).tc : Thread _ Cert.ReferenceIdeal.τ).loc Cert.ReferenceIdeal.main_arg2)
      wv := m' (((0 : Dev Cert.ReferenceIdeal.nD).tc : Thread _ Cert.ReferenceIdeal.τ).loc Cert.ReferenceIdeal.main_arg3)
      wo := m' (((0 : Dev Cert.ReferenceIdeal.nD).tc : Thread _ Cert.ReferenceIdeal.τ).loc Cert.ReferenceIdeal.main_arg4)
      hx := fun c => (hagree c).1
      hq := fun c k l => (congrFun (hagree c).2.1 (ix2 k l)).trans (block_cols c _ k l)
      hk := fun c k l => (congrFun (hagree c).2.2.1 (ix2 k l)).trans (block_cols c _ k l)
      hv := fun c k l => (congrFun (hagree c).2.2.2.1 (ix2 k l)).trans (block_cols c _ k l)
      ho := fun c k l => (congrFun (hagree c).2.2.2.2 (ix2 k l)).trans (block_rows c _ k l) }
  refine ⟨Cert.ReferenceIdeal.Value.res_main_v35 m' 0, ?_, ?_⟩
  · refine (θ_run Cert.KernelIdeal.defs _ _).mono (fun _ h c => ⟨?_, (h.1 c (0 : Fin 6)).trans (final_x m ρ c),
      (h.1 c (1 : Fin 6)).trans (final_wq m ρ c), (h.1 c (3 : Fin 6)).trans (final_wk m ρ c),
      (h.1 c (4 : Fin 6)).trans (final_wv m ρ c), (h.1 c (2 : Fin 6)).trans (final_wo m ρ c)⟩) (run_main (F := Ideal) m ρ)
    rw [Ref.result_eq]
    exact ((h.1 c (5 : Fin 6)).trans (final_out m ρ c)).trans (all_eq S)
  · exact (θ_run Cert.ReferenceIdeal.defs _ _).mono (fun _ h => h 0) (Cert.ReferenceIdeal.Value.run (F := Ideal) m' ρ')

end Cert.MeshProof

end
-- ==== Proof.lean ====
/-
The claims about the fused attention block on the mesh: its frames, that reading its floats as exact ones rewrites
nothing, and that over exact floats every device ends with the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.RefFrame
public import proofs.«01_k».proof.Proof.Value

@[expose] public section

noncomputable section

namespace Cert.Proof

open Cert.MeshProof

/-- The claims together, after the witnesses of the programs' stated facts. -/
theorem claim : Cert.Claim :=
  ⟨Cert.Kernel.Gen.facts, Cert.KernelIdeal.Gen.facts, Cert.ReferenceIdeal.Gen.facts,
    frame_kernel, frame_ideal, frame_ref, trivial, algebraic⟩

end Cert.Proof

end
